-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_KeyKernel (m : (ℓ : Loc Cert.KeyKernel.nD Cert.KeyKernel.τ Cert.KeyKernel.sig) → Buf (Elt Bits) ℓ) : Prop :=
  True

def Pre_KeyKernelIdeal (m : (ℓ : Loc Cert.KeyKernelIdeal.nD Cert.KeyKernelIdeal.τ Cert.KeyKernelIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_ValKernel (m : (ℓ : Loc Cert.ValKernel.nD Cert.ValKernel.τ Cert.ValKernel.sig) → Buf (Elt Bits) ℓ) : Prop :=
  True

def Pre_ValKernelIdeal (m : (ℓ : Loc Cert.ValKernelIdeal.nD Cert.ValKernelIdeal.τ Cert.ValKernelIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModKernelIdeal_finite_mod [hPre_finite_mod : Cert.Pre_finite_mod.Facts] (m : (ℓ : Loc Cert.ModKernelIdeal.nD Cert.ModKernelIdeal.τ Cert.ModKernelIdeal.sig) → Buf (Elt Ideal) ℓ) : Prop :=
  ∀ c : Dev Cert.ModKernelIdeal.nD,
    (Cert.Pre_finite_mod.fn (F := Ideal) (m ((c.tc : Thread Cert.ModKernelIdeal.nD Cert.ModKernelIdeal.τ).loc Cert.ModKernelIdeal.main_arg0)) (m ((c.tc : Thread Cert.ModKernelIdeal.nD Cert.ModKernelIdeal.τ).loc Cert.ModKernelIdeal.main_arg1)) (m ((c.tc : Thread Cert.ModKernelIdeal.nD Cert.ModKernelIdeal.τ).loc Cert.ModKernelIdeal.main_arg2))) = (fun _ => 1#1)

def Pre_ModReferenceIdeal (m : (ℓ : Loc Cert.ModReferenceIdeal.nD Cert.ModReferenceIdeal.τ Cert.ModReferenceIdeal.sig) → Buf (Elt Ideal) ℓ) : Prop :=
  True

def Pre_ModReferenceIdeal_finite_mod [hPre_finite_mod : Cert.Pre_finite_mod.Facts] (m : (ℓ : Loc Cert.ModReferenceIdeal.nD Cert.ModReferenceIdeal.τ Cert.ModReferenceIdeal.sig) → Buf (Elt Ideal) ℓ) : Prop :=
  ∀ c : Dev Cert.ModReferenceIdeal.nD,
    (Cert.Pre_finite_mod.fn (F := Ideal) (m ((c.tc : Thread Cert.ModReferenceIdeal.nD Cert.ModReferenceIdeal.τ).loc Cert.ModReferenceIdeal.main_arg0)) (m ((c.tc : Thread Cert.ModReferenceIdeal.nD Cert.ModReferenceIdeal.τ).loc Cert.ModReferenceIdeal.main_arg1)) (m ((c.tc : Thread Cert.ModReferenceIdeal.nD Cert.ModReferenceIdeal.τ).loc Cert.ModReferenceIdeal.main_arg2))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_ab [hPre_finite_ab : Cert.Pre_finite_ab.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_ab.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_ab [hPre_finite_ab : Cert.Pre_finite_ab.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_ab.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1)
      ∧ r.2.mem ((c.tc : Thread Cert.QueryKernel.nD Cert.QueryKernel.τ).loc Cert.QueryKernel.main_arg2) = m ((c.tc : Thread Cert.QueryKernel.nD Cert.QueryKernel.τ).loc Cert.QueryKernel.main_arg2)
      ∧ r.2.mem ((c.tc : Thread Cert.QueryKernel.nD Cert.QueryKernel.τ).loc Cert.QueryKernel.main_arg3) = m ((c.tc : Thread Cert.QueryKernel.nD Cert.QueryKernel.τ).loc Cert.QueryKernel.main_arg3)
      ∧ r.2.mem ((c.tc : Thread Cert.QueryKernel.nD Cert.QueryKernel.τ).loc Cert.QueryKernel.main_arg4) = m ((c.tc : Thread Cert.QueryKernel.nD Cert.QueryKernel.τ).loc Cert.QueryKernel.main_arg4)
      ∧ r.2.mem ((c.tc : Thread Cert.QueryKernel.nD Cert.QueryKernel.τ).loc Cert.QueryKernel.main_arg5) = m ((c.tc : Thread Cert.QueryKernel.nD Cert.QueryKernel.τ).loc Cert.QueryKernel.main_arg5)
      ∧ r.2.mem ((c.tc : Thread Cert.QueryKernel.nD Cert.QueryKernel.τ).loc Cert.QueryKernel.main_arg6) = m ((c.tc : Thread Cert.QueryKernel.nD Cert.QueryKernel.τ).loc Cert.QueryKernel.main_arg6))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
      ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2)
      ∧ r.2.mem ((c.tc : Thread Cert.QueryKernelIdeal.nD Cert.QueryKernelIdeal.τ).loc Cert.QueryKernelIdeal.main_arg3) = m ((c.tc : Thread Cert.QueryKernelIdeal.nD Cert.QueryKernelIdeal.τ).loc Cert.QueryKernelIdeal.main_arg3)
      ∧ r.2.mem ((c.tc : Thread Cert.QueryKernelIdeal.nD Cert.QueryKernelIdeal.τ).loc Cert.QueryKernelIdeal.main_arg4) = m ((c.tc : Thread Cert.QueryKernelIdeal.nD Cert.QueryKernelIdeal.τ).loc Cert.QueryKernelIdeal.main_arg4)
      ∧ r.2.mem ((c.tc : Thread Cert.QueryKernelIdeal.nD Cert.QueryKernelIdeal.τ).loc Cert.QueryKernelIdeal.main_arg5) = m ((c.tc : Thread Cert.QueryKernelIdeal.nD Cert.QueryKernelIdeal.τ).loc Cert.QueryKernelIdeal.main_arg5)
      ∧ r.2.mem ((c.tc : Thread Cert.QueryKernelIdeal.nD Cert.QueryKernelIdeal.τ).loc Cert.QueryKernelIdeal.main_arg6) = m ((c.tc : Thread Cert.QueryKernelIdeal.nD Cert.QueryKernelIdeal.τ).loc Cert.QueryKernelIdeal.main_arg6))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4)
      ∧ r.2.mem ((c.tc : Thread Cert.QueryReferenceIdeal.nD Cert.QueryReferenceIdeal.τ).loc Cert.QueryReferenceIdeal.main_arg5) = m ((c.tc : Thread Cert.QueryReferenceIdeal.nD Cert.QueryReferenceIdeal.τ).loc Cert.QueryReferenceIdeal.main_arg5)
      ∧ r.2.mem ((c.tc : Thread Cert.QueryReferenceIdeal.nD Cert.QueryReferenceIdeal.τ).loc Cert.QueryReferenceIdeal.main_arg6) = m ((c.tc : Thread Cert.QueryReferenceIdeal.nD Cert.QueryReferenceIdeal.τ).loc Cert.QueryReferenceIdeal.main_arg6))
      ∧ r.2.sem = fun _ => 0)

def quiescent_KeyKernel [hKeyKernel : Cert.KeyKernel.Facts] : Prop :=
  ∀ (m : (ℓ : Loc Cert.KeyKernel.nD Cert.KeyKernel.τ Cert.KeyKernel.sig) → Buf (Elt Bits) ℓ) (g : Dev Cert.KeyKernel.nD → PrngReg), Pre_KeyKernel m →
    θ_run (Cert.KeyKernel.defs (F := Bits)) (onTc (τ := Cert.KeyKernel.τ) (Cert.KeyKernel.main (F := Bits))) ⟨m, fun _ => 0, g⟩ (fun r => (∀ c : Dev Cert.KeyKernel.nD,
      r.2.mem ((c.tc : Thread Cert.KeyKernel.nD Cert.KeyKernel.τ).loc Cert.KeyKernel.main_arg0) = m ((c.tc : Thread Cert.KeyKernel.nD Cert.KeyKernel.τ).loc Cert.KeyKernel.main_arg0)
      ∧ r.2.mem ((c.tc : Thread Cert.KeyKernel.nD Cert.KeyKernel.τ).loc Cert.KeyKernel.main_arg1) = m ((c.tc : Thread Cert.KeyKernel.nD Cert.KeyKernel.τ).loc Cert.KeyKernel.main_arg1)
      ∧ r.2.mem ((c.tc : Thread Cert.KeyKernel.nD Cert.KeyKernel.τ).loc Cert.KeyKernel.main_arg2) = m ((c.tc : Thread Cert.KeyKernel.nD Cert.KeyKernel.τ).loc Cert.KeyKernel.main_arg2)
      ∧ r.2.mem ((c.tc : Thread Cert.KeyKernel.nD Cert.KeyKernel.τ).loc Cert.KeyKernel.main_arg3) = m ((c.tc : Thread Cert.KeyKernel.nD Cert.KeyKernel.τ).loc Cert.KeyKernel.main_arg3)
      ∧ r.2.mem ((c.tc : Thread Cert.KeyKernel.nD Cert.KeyKernel.τ).loc Cert.KeyKernel.main_arg4) = m ((c.tc : Thread Cert.KeyKernel.nD Cert.KeyKernel.τ).loc Cert.KeyKernel.main_arg4)
      ∧ r.2.mem ((c.tc : Thread Cert.KeyKernel.nD Cert.KeyKernel.τ).loc Cert.KeyKernel.main_arg5) = m ((c.tc : Thread Cert.KeyKernel.nD Cert.KeyKernel.τ).loc Cert.KeyKernel.main_arg5)
      ∧ r.2.mem ((c.tc : Thread Cert.KeyKernel.nD Cert.KeyKernel.τ).loc Cert.KeyKernel.main_arg6) = m ((c.tc : Thread Cert.KeyKernel.nD Cert.KeyKernel.τ).loc Cert.KeyKernel.main_arg6))
      ∧ r.2.sem = fun _ => 0)

def quiescent_KeyKernelIdeal [hKeyKernelIdeal : Cert.KeyKernelIdeal.Facts] : Prop :=
  ∀ (m : (ℓ : Loc Cert.KeyKernelIdeal.nD Cert.KeyKernelIdeal.τ Cert.KeyKernelIdeal.sig) → Buf (Elt Ideal) ℓ) (g : Dev Cert.KeyKernelIdeal.nD → PrngReg), Pre_KeyKernelIdeal m →
    θ_run (Cert.KeyKernelIdeal.defs (F := Ideal)) (onTc (τ := Cert.KeyKernelIdeal.τ) (Cert.KeyKernelIdeal.main (F := Ideal))) ⟨m, fun _ => 0, g⟩ (fun r => (∀ c : Dev Cert.KeyKernelIdeal.nD,
      r.2.mem ((c.tc : Thread Cert.KeyKernelIdeal.nD Cert.KeyKernelIdeal.τ).loc Cert.KeyKernelIdeal.main_arg0) = m ((c.tc : Thread Cert.KeyKernelIdeal.nD Cert.KeyKernelIdeal.τ).loc Cert.KeyKernelIdeal.main_arg0)
      ∧ r.2.mem ((c.tc : Thread Cert.KeyKernelIdeal.nD Cert.KeyKernelIdeal.τ).loc Cert.KeyKernelIdeal.main_arg1) = m ((c.tc : Thread Cert.KeyKernelIdeal.nD Cert.KeyKernelIdeal.τ).loc Cert.KeyKernelIdeal.main_arg1)
      ∧ r.2.mem ((c.tc : Thread Cert.KeyKernelIdeal.nD Cert.KeyKernelIdeal.τ).loc Cert.KeyKernelIdeal.main_arg2) = m ((c.tc : Thread Cert.KeyKernelIdeal.nD Cert.KeyKernelIdeal.τ).loc Cert.KeyKernelIdeal.main_arg2)
      ∧ r.2.mem ((c.tc : Thread Cert.KeyKernelIdeal.nD Cert.KeyKernelIdeal.τ).loc Cert.KeyKernelIdeal.main_arg3) = m ((c.tc : Thread Cert.KeyKernelIdeal.nD Cert.KeyKernelIdeal.τ).loc Cert.KeyKernelIdeal.main_arg3)
      ∧ r.2.mem ((c.tc : Thread Cert.KeyKernelIdeal.nD Cert.KeyKernelIdeal.τ).loc Cert.KeyKernelIdeal.main_arg4) = m ((c.tc : Thread Cert.KeyKernelIdeal.nD Cert.KeyKernelIdeal.τ).loc Cert.KeyKernelIdeal.main_arg4)
      ∧ r.2.mem ((c.tc : Thread Cert.KeyKernelIdeal.nD Cert.KeyKernelIdeal.τ).loc Cert.KeyKernelIdeal.main_arg5) = m ((c.tc : Thread Cert.KeyKernelIdeal.nD Cert.KeyKernelIdeal.τ).loc Cert.KeyKernelIdeal.main_arg5)
      ∧ r.2.mem ((c.tc : Thread Cert.KeyKernelIdeal.nD Cert.KeyKernelIdeal.τ).loc Cert.KeyKernelIdeal.main_arg6) = m ((c.tc : Thread Cert.KeyKernelIdeal.nD Cert.KeyKernelIdeal.τ).loc Cert.KeyKernelIdeal.main_arg6))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1)
      ∧ r.2.mem ((c.tc : Thread Cert.KeyReferenceIdeal.nD Cert.KeyReferenceIdeal.τ).loc Cert.KeyReferenceIdeal.main_arg2) = m ((c.tc : Thread Cert.KeyReferenceIdeal.nD Cert.KeyReferenceIdeal.τ).loc Cert.KeyReferenceIdeal.main_arg2)
      ∧ r.2.mem ((c.tc : Thread Cert.KeyReferenceIdeal.nD Cert.KeyReferenceIdeal.τ).loc Cert.KeyReferenceIdeal.main_arg3) = m ((c.tc : Thread Cert.KeyReferenceIdeal.nD Cert.KeyReferenceIdeal.τ).loc Cert.KeyReferenceIdeal.main_arg3)
      ∧ r.2.mem ((c.tc : Thread Cert.KeyReferenceIdeal.nD Cert.KeyReferenceIdeal.τ).loc Cert.KeyReferenceIdeal.main_arg4) = m ((c.tc : Thread Cert.KeyReferenceIdeal.nD Cert.KeyReferenceIdeal.τ).loc Cert.KeyReferenceIdeal.main_arg4)
      ∧ r.2.mem ((c.tc : Thread Cert.KeyReferenceIdeal.nD Cert.KeyReferenceIdeal.τ).loc Cert.KeyReferenceIdeal.main_arg5) = m ((c.tc : Thread Cert.KeyReferenceIdeal.nD Cert.KeyReferenceIdeal.τ).loc Cert.KeyReferenceIdeal.main_arg5)
      ∧ r.2.mem ((c.tc : Thread Cert.KeyReferenceIdeal.nD Cert.KeyReferenceIdeal.τ).loc Cert.KeyReferenceIdeal.main_arg6) = m ((c.tc : Thread Cert.KeyReferenceIdeal.nD Cert.KeyReferenceIdeal.τ).loc Cert.KeyReferenceIdeal.main_arg6))
      ∧ r.2.sem = fun _ => 0)

def quiescent_ValKernel [hValKernel : Cert.ValKernel.Facts] : Prop :=
  ∀ (m : (ℓ : Loc Cert.ValKernel.nD Cert.ValKernel.τ Cert.ValKernel.sig) → Buf (Elt Bits) ℓ) (g : Dev Cert.ValKernel.nD → PrngReg), Pre_ValKernel m →
    θ_run (Cert.ValKernel.defs (F := Bits)) (onTc (τ := Cert.ValKernel.τ) (Cert.ValKernel.main (F := Bits))) ⟨m, fun _ => 0, g⟩ (fun r => (∀ c : Dev Cert.ValKernel.nD,
      r.2.mem ((c.tc : Thread Cert.ValKernel.nD Cert.ValKernel.τ).loc Cert.ValKernel.main_arg0) = m ((c.tc : Thread Cert.ValKernel.nD Cert.ValKernel.τ).loc Cert.ValKernel.main_arg0)
      ∧ r.2.mem ((c.tc : Thread Cert.ValKernel.nD Cert.ValKernel.τ).loc Cert.ValKernel.main_arg1) = m ((c.tc : Thread Cert.ValKernel.nD Cert.ValKernel.τ).loc Cert.ValKernel.main_arg1)
      ∧ r.2.mem ((c.tc : Thread Cert.ValKernel.nD Cert.ValKernel.τ).loc Cert.ValKernel.main_arg2) = m ((c.tc : Thread Cert.ValKernel.nD Cert.ValKernel.τ).loc Cert.ValKernel.main_arg2)
      ∧ r.2.mem ((c.tc : Thread Cert.ValKernel.nD Cert.ValKernel.τ).loc Cert.ValKernel.main_arg3) = m ((c.tc : Thread Cert.ValKernel.nD Cert.ValKernel.τ).loc Cert.ValKernel.main_arg3)
      ∧ r.2.mem ((c.tc : Thread Cert.ValKernel.nD Cert.ValKernel.τ).loc Cert.ValKernel.main_arg4) = m ((c.tc : Thread Cert.ValKernel.nD Cert.ValKernel.τ).loc Cert.ValKernel.main_arg4))
      ∧ r.2.sem = fun _ => 0)

def quiescent_ValKernelIdeal [hValKernelIdeal : Cert.ValKernelIdeal.Facts] : Prop :=
  ∀ (m : (ℓ : Loc Cert.ValKernelIdeal.nD Cert.ValKernelIdeal.τ Cert.ValKernelIdeal.sig) → Buf (Elt Ideal) ℓ) (g : Dev Cert.ValKernelIdeal.nD → PrngReg), Pre_ValKernelIdeal m →
    θ_run (Cert.ValKernelIdeal.defs (F := Ideal)) (onTc (τ := Cert.ValKernelIdeal.τ) (Cert.ValKernelIdeal.main (F := Ideal))) ⟨m, fun _ => 0, g⟩ (fun r => (∀ c : Dev Cert.ValKernelIdeal.nD,
      r.2.mem ((c.tc : Thread Cert.ValKernelIdeal.nD Cert.ValKernelIdeal.τ).loc Cert.ValKernelIdeal.main_arg0) = m ((c.tc : Thread Cert.ValKernelIdeal.nD Cert.ValKernelIdeal.τ).loc Cert.ValKernelIdeal.main_arg0)
      ∧ r.2.mem ((c.tc : Thread Cert.ValKernelIdeal.nD Cert.ValKernelIdeal.τ).loc Cert.ValKernelIdeal.main_arg1) = m ((c.tc : Thread Cert.ValKernelIdeal.nD Cert.ValKernelIdeal.τ).loc Cert.ValKernelIdeal.main_arg1)
      ∧ r.2.mem ((c.tc : Thread Cert.ValKernelIdeal.nD Cert.ValKernelIdeal.τ).loc Cert.ValKernelIdeal.main_arg2) = m ((c.tc : Thread Cert.ValKernelIdeal.nD Cert.ValKernelIdeal.τ).loc Cert.ValKernelIdeal.main_arg2)
      ∧ r.2.mem ((c.tc : Thread Cert.ValKernelIdeal.nD Cert.ValKernelIdeal.τ).loc Cert.ValKernelIdeal.main_arg3) = m ((c.tc : Thread Cert.ValKernelIdeal.nD Cert.ValKernelIdeal.τ).loc Cert.ValKernelIdeal.main_arg3)
      ∧ r.2.mem ((c.tc : Thread Cert.ValKernelIdeal.nD Cert.ValKernelIdeal.τ).loc Cert.ValKernelIdeal.main_arg4) = m ((c.tc : Thread Cert.ValKernelIdeal.nD Cert.ValKernelIdeal.τ).loc Cert.ValKernelIdeal.main_arg4))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1)
      ∧ r.2.mem ((c.tc : Thread Cert.ValReferenceIdeal.nD Cert.ValReferenceIdeal.τ).loc Cert.ValReferenceIdeal.main_arg2) = m ((c.tc : Thread Cert.ValReferenceIdeal.nD Cert.ValReferenceIdeal.τ).loc Cert.ValReferenceIdeal.main_arg2)
      ∧ r.2.mem ((c.tc : Thread Cert.ValReferenceIdeal.nD Cert.ValReferenceIdeal.τ).loc Cert.ValReferenceIdeal.main_arg3) = m ((c.tc : Thread Cert.ValReferenceIdeal.nD Cert.ValReferenceIdeal.τ).loc Cert.ValReferenceIdeal.main_arg3)
      ∧ r.2.mem ((c.tc : Thread Cert.ValReferenceIdeal.nD Cert.ValReferenceIdeal.τ).loc Cert.ValReferenceIdeal.main_arg4) = m ((c.tc : Thread Cert.ValReferenceIdeal.nD Cert.ValReferenceIdeal.τ).loc Cert.ValReferenceIdeal.main_arg4))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModKernelIdeal_pre_finite_mod [hModKernelIdeal : Cert.ModKernelIdeal.Facts] [hPre_finite_mod : Cert.Pre_finite_mod.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal_finite_mod m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_ModReferenceIdeal_pre_finite_mod [hModReferenceIdeal : Cert.ModReferenceIdeal.Facts] [hPre_finite_mod : Cert.Pre_finite_mod.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal_finite_mod m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_finite_ab [hGateKernelIdeal : Cert.GateKernelIdeal.Facts] [hPre_finite_ab : Cert.Pre_finite_ab.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_ab m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_finite_ab [hGateReferenceIdeal : Cert.GateReferenceIdeal.Facts] [hPre_finite_ab : Cert.Pre_finite_ab.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_ab m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)) →
    ∃ (v0 : (c : Dev Cert.FinalKernelIdeal.nD) → Buf (Elt Ideal) ((c.tc : Thread Cert.FinalKernelIdeal.nD Cert.FinalKernelIdeal.τ).loc Cert.FinalKernelIdeal.main_v2)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v2) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v5)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v25) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_QueryKernel_QueryKernelIdeal : Prop :=
  IdealRules.named_const.Statement Cert.QueryKernelIdeal.κ "s" .f32 0x3E0293EE#32 ((((Real.sqrt 128) * (Real.log 2))⁻¹ : ℝ) : EReal)

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)
      ∧ m' ((c.tc : Thread Cert.QueryReferenceIdeal.nD Cert.QueryReferenceIdeal.τ).loc Cert.QueryReferenceIdeal.main_arg2) = m ((c.tc : Thread Cert.QueryKernelIdeal.nD Cert.QueryKernelIdeal.τ).loc Cert.QueryKernelIdeal.main_arg2)
      ∧ m' ((c.tc : Thread Cert.QueryReferenceIdeal.nD Cert.QueryReferenceIdeal.τ).loc Cert.QueryReferenceIdeal.main_arg3) = m ((c.tc : Thread Cert.QueryKernelIdeal.nD Cert.QueryKernelIdeal.τ).loc Cert.QueryKernelIdeal.main_arg3)
      ∧ m' ((c.tc : Thread Cert.QueryReferenceIdeal.nD Cert.QueryReferenceIdeal.τ).loc Cert.QueryReferenceIdeal.main_arg4) = m ((c.tc : Thread Cert.QueryKernelIdeal.nD Cert.QueryKernelIdeal.τ).loc Cert.QueryKernelIdeal.main_arg4)
      ∧ m' ((c.tc : Thread Cert.QueryReferenceIdeal.nD Cert.QueryReferenceIdeal.τ).loc Cert.QueryReferenceIdeal.main_arg5) = m ((c.tc : Thread Cert.QueryKernelIdeal.nD Cert.QueryKernelIdeal.τ).loc Cert.QueryKernelIdeal.main_arg5)
      ∧ m' ((c.tc : Thread Cert.QueryReferenceIdeal.nD Cert.QueryReferenceIdeal.τ).loc Cert.QueryReferenceIdeal.main_arg6) = m ((c.tc : Thread Cert.QueryKernelIdeal.nD Cert.QueryKernelIdeal.τ).loc Cert.QueryKernelIdeal.main_arg6)) →
    ∃ (v0 : (c : Dev Cert.QueryKernelIdeal.nD) → Buf (Elt Ideal) ((c.tc : Thread Cert.QueryKernelIdeal.nD Cert.QueryKernelIdeal.τ).loc Cert.QueryKernelIdeal.main_v10)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v10) = v0 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
          ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2)
          ∧ r.2.mem ((c.tc : Thread Cert.QueryKernelIdeal.nD Cert.QueryKernelIdeal.τ).loc Cert.QueryKernelIdeal.main_arg3) = m ((c.tc : Thread Cert.QueryKernelIdeal.nD Cert.QueryKernelIdeal.τ).loc Cert.QueryKernelIdeal.main_arg3)
          ∧ r.2.mem ((c.tc : Thread Cert.QueryKernelIdeal.nD Cert.QueryKernelIdeal.τ).loc Cert.QueryKernelIdeal.main_arg4) = m ((c.tc : Thread Cert.QueryKernelIdeal.nD Cert.QueryKernelIdeal.τ).loc Cert.QueryKernelIdeal.main_arg4)
          ∧ r.2.mem ((c.tc : Thread Cert.QueryKernelIdeal.nD Cert.QueryKernelIdeal.τ).loc Cert.QueryKernelIdeal.main_arg5) = m ((c.tc : Thread Cert.QueryKernelIdeal.nD Cert.QueryKernelIdeal.τ).loc Cert.QueryKernelIdeal.main_arg5)
          ∧ r.2.mem ((c.tc : Thread Cert.QueryKernelIdeal.nD Cert.QueryKernelIdeal.τ).loc Cert.QueryKernelIdeal.main_arg6) = m ((c.tc : Thread Cert.QueryKernelIdeal.nD Cert.QueryKernelIdeal.τ).loc Cert.QueryKernelIdeal.main_arg6))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v44) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4)
          ∧ r.2.mem ((c.tc : Thread Cert.QueryReferenceIdeal.nD Cert.QueryReferenceIdeal.τ).loc Cert.QueryReferenceIdeal.main_arg5) = m' ((c.tc : Thread Cert.QueryReferenceIdeal.nD Cert.QueryReferenceIdeal.τ).loc Cert.QueryReferenceIdeal.main_arg5)
          ∧ r.2.mem ((c.tc : Thread Cert.QueryReferenceIdeal.nD Cert.QueryReferenceIdeal.τ).loc Cert.QueryReferenceIdeal.main_arg6) = m' ((c.tc : Thread Cert.QueryReferenceIdeal.nD Cert.QueryReferenceIdeal.τ).loc Cert.QueryReferenceIdeal.main_arg6))

def preserves_KeyKernel_KeyKernelIdeal : Prop :=
  True

def algebraic_KeyKernelIdeal_KeyReferenceIdeal [hKeyKernelIdeal : Cert.KeyKernelIdeal.Facts] [hKeyReferenceIdeal : Cert.KeyReferenceIdeal.Facts] : Prop :=
  ∀ (m : (ℓ : Loc Cert.KeyKernelIdeal.nD Cert.KeyKernelIdeal.τ Cert.KeyKernelIdeal.sig) → Buf (Elt Ideal) ℓ) (g : Dev Cert.KeyKernelIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyKernelIdeal m →
    (∀ c : Dev Cert.KeyKernelIdeal.nD,
      m' ((c.tc : Thread Cert.KeyReferenceIdeal.nD Cert.KeyReferenceIdeal.τ).loc Cert.KeyReferenceIdeal.main_arg0) = m ((c.tc : Thread Cert.KeyKernelIdeal.nD Cert.KeyKernelIdeal.τ).loc Cert.KeyKernelIdeal.main_arg0)
      ∧ m' ((c.tc : Thread Cert.KeyReferenceIdeal.nD Cert.KeyReferenceIdeal.τ).loc Cert.KeyReferenceIdeal.main_arg1) = m ((c.tc : Thread Cert.KeyKernelIdeal.nD Cert.KeyKernelIdeal.τ).loc Cert.KeyKernelIdeal.main_arg1)
      ∧ m' ((c.tc : Thread Cert.KeyReferenceIdeal.nD Cert.KeyReferenceIdeal.τ).loc Cert.KeyReferenceIdeal.main_arg2) = m ((c.tc : Thread Cert.KeyKernelIdeal.nD Cert.KeyKernelIdeal.τ).loc Cert.KeyKernelIdeal.main_arg2)
      ∧ m' ((c.tc : Thread Cert.KeyReferenceIdeal.nD Cert.KeyReferenceIdeal.τ).loc Cert.KeyReferenceIdeal.main_arg3) = m ((c.tc : Thread Cert.KeyKernelIdeal.nD Cert.KeyKernelIdeal.τ).loc Cert.KeyKernelIdeal.main_arg3)
      ∧ m' ((c.tc : Thread Cert.KeyReferenceIdeal.nD Cert.KeyReferenceIdeal.τ).loc Cert.KeyReferenceIdeal.main_arg4) = m ((c.tc : Thread Cert.KeyKernelIdeal.nD Cert.KeyKernelIdeal.τ).loc Cert.KeyKernelIdeal.main_arg4)
      ∧ m' ((c.tc : Thread Cert.KeyReferenceIdeal.nD Cert.KeyReferenceIdeal.τ).loc Cert.KeyReferenceIdeal.main_arg5) = m ((c.tc : Thread Cert.KeyKernelIdeal.nD Cert.KeyKernelIdeal.τ).loc Cert.KeyKernelIdeal.main_arg5)
      ∧ m' ((c.tc : Thread Cert.KeyReferenceIdeal.nD Cert.KeyReferenceIdeal.τ).loc Cert.KeyReferenceIdeal.main_arg6) = m ((c.tc : Thread Cert.KeyKernelIdeal.nD Cert.KeyKernelIdeal.τ).loc Cert.KeyKernelIdeal.main_arg6)) →
    ∃ (v0 : (c : Dev Cert.KeyKernelIdeal.nD) → Buf (Elt Ideal) ((c.tc : Thread Cert.KeyKernelIdeal.nD Cert.KeyKernelIdeal.τ).loc Cert.KeyKernelIdeal.main_v10)),
      θ_run (Cert.KeyKernelIdeal.defs (F := Ideal)) (onTc (τ := Cert.KeyKernelIdeal.τ) (Cert.KeyKernelIdeal.main (F := Ideal))) ⟨m, fun _ => 0, g⟩ (fun r => ∀ c : Dev Cert.KeyKernelIdeal.nD,
          r.2.mem ((c.tc : Thread Cert.KeyKernelIdeal.nD Cert.KeyKernelIdeal.τ).loc Cert.KeyKernelIdeal.main_v10) = v0 c
          ∧ r.2.mem ((c.tc : Thread Cert.KeyKernelIdeal.nD Cert.KeyKernelIdeal.τ).loc Cert.KeyKernelIdeal.main_arg0) = m ((c.tc : Thread Cert.KeyKernelIdeal.nD Cert.KeyKernelIdeal.τ).loc Cert.KeyKernelIdeal.main_arg0)
          ∧ r.2.mem ((c.tc : Thread Cert.KeyKernelIdeal.nD Cert.KeyKernelIdeal.τ).loc Cert.KeyKernelIdeal.main_arg1) = m ((c.tc : Thread Cert.KeyKernelIdeal.nD Cert.KeyKernelIdeal.τ).loc Cert.KeyKernelIdeal.main_arg1)
          ∧ r.2.mem ((c.tc : Thread Cert.KeyKernelIdeal.nD Cert.KeyKernelIdeal.τ).loc Cert.KeyKernelIdeal.main_arg2) = m ((c.tc : Thread Cert.KeyKernelIdeal.nD Cert.KeyKernelIdeal.τ).loc Cert.KeyKernelIdeal.main_arg2)
          ∧ r.2.mem ((c.tc : Thread Cert.KeyKernelIdeal.nD Cert.KeyKernelIdeal.τ).loc Cert.KeyKernelIdeal.main_arg3) = m ((c.tc : Thread Cert.KeyKernelIdeal.nD Cert.KeyKernelIdeal.τ).loc Cert.KeyKernelIdeal.main_arg3)
          ∧ r.2.mem ((c.tc : Thread Cert.KeyKernelIdeal.nD Cert.KeyKernelIdeal.τ).loc Cert.KeyKernelIdeal.main_arg4) = m ((c.tc : Thread Cert.KeyKernelIdeal.nD Cert.KeyKernelIdeal.τ).loc Cert.KeyKernelIdeal.main_arg4)
          ∧ r.2.mem ((c.tc : Thread Cert.KeyKernelIdeal.nD Cert.KeyKernelIdeal.τ).loc Cert.KeyKernelIdeal.main_arg5) = m ((c.tc : Thread Cert.KeyKernelIdeal.nD Cert.KeyKernelIdeal.τ).loc Cert.KeyKernelIdeal.main_arg5)
          ∧ r.2.mem ((c.tc : Thread Cert.KeyKernelIdeal.nD Cert.KeyKernelIdeal.τ).loc Cert.KeyKernelIdeal.main_arg6) = m ((c.tc : Thread Cert.KeyKernelIdeal.nD Cert.KeyKernelIdeal.τ).loc Cert.KeyKernelIdeal.main_arg6))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v40) = v0 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1)
          ∧ r.2.mem ((c.tc : Thread Cert.KeyReferenceIdeal.nD Cert.KeyReferenceIdeal.τ).loc Cert.KeyReferenceIdeal.main_arg2) = m' ((c.tc : Thread Cert.KeyReferenceIdeal.nD Cert.KeyReferenceIdeal.τ).loc Cert.KeyReferenceIdeal.main_arg2)
          ∧ r.2.mem ((c.tc : Thread Cert.KeyReferenceIdeal.nD Cert.KeyReferenceIdeal.τ).loc Cert.KeyReferenceIdeal.main_arg3) = m' ((c.tc : Thread Cert.KeyReferenceIdeal.nD Cert.KeyReferenceIdeal.τ).loc Cert.KeyReferenceIdeal.main_arg3)
          ∧ r.2.mem ((c.tc : Thread Cert.KeyReferenceIdeal.nD Cert.KeyReferenceIdeal.τ).loc Cert.KeyReferenceIdeal.main_arg4) = m' ((c.tc : Thread Cert.KeyReferenceIdeal.nD Cert.KeyReferenceIdeal.τ).loc Cert.KeyReferenceIdeal.main_arg4)
          ∧ r.2.mem ((c.tc : Thread Cert.KeyReferenceIdeal.nD Cert.KeyReferenceIdeal.τ).loc Cert.KeyReferenceIdeal.main_arg5) = m' ((c.tc : Thread Cert.KeyReferenceIdeal.nD Cert.KeyReferenceIdeal.τ).loc Cert.KeyReferenceIdeal.main_arg5)
          ∧ r.2.mem ((c.tc : Thread Cert.KeyReferenceIdeal.nD Cert.KeyReferenceIdeal.τ).loc Cert.KeyReferenceIdeal.main_arg6) = m' ((c.tc : Thread Cert.KeyReferenceIdeal.nD Cert.KeyReferenceIdeal.τ).loc Cert.KeyReferenceIdeal.main_arg6))

def preserves_ValKernel_ValKernelIdeal : Prop :=
  True

def algebraic_ValKernelIdeal_ValReferenceIdeal [hValKernelIdeal : Cert.ValKernelIdeal.Facts] [hValReferenceIdeal : Cert.ValReferenceIdeal.Facts] : Prop :=
  ∀ (m : (ℓ : Loc Cert.ValKernelIdeal.nD Cert.ValKernelIdeal.τ Cert.ValKernelIdeal.sig) → Buf (Elt Ideal) ℓ) (g : Dev Cert.ValKernelIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValKernelIdeal m →
    (∀ c : Dev Cert.ValKernelIdeal.nD,
      m' ((c.tc : Thread Cert.ValReferenceIdeal.nD Cert.ValReferenceIdeal.τ).loc Cert.ValReferenceIdeal.main_arg0) = m ((c.tc : Thread Cert.ValKernelIdeal.nD Cert.ValKernelIdeal.τ).loc Cert.ValKernelIdeal.main_arg0)
      ∧ m' ((c.tc : Thread Cert.ValReferenceIdeal.nD Cert.ValReferenceIdeal.τ).loc Cert.ValReferenceIdeal.main_arg1) = m ((c.tc : Thread Cert.ValKernelIdeal.nD Cert.ValKernelIdeal.τ).loc Cert.ValKernelIdeal.main_arg1)
      ∧ m' ((c.tc : Thread Cert.ValReferenceIdeal.nD Cert.ValReferenceIdeal.τ).loc Cert.ValReferenceIdeal.main_arg2) = m ((c.tc : Thread Cert.ValKernelIdeal.nD Cert.ValKernelIdeal.τ).loc Cert.ValKernelIdeal.main_arg2)
      ∧ m' ((c.tc : Thread Cert.ValReferenceIdeal.nD Cert.ValReferenceIdeal.τ).loc Cert.ValReferenceIdeal.main_arg3) = m ((c.tc : Thread Cert.ValKernelIdeal.nD Cert.ValKernelIdeal.τ).loc Cert.ValKernelIdeal.main_arg3)
      ∧ m' ((c.tc : Thread Cert.ValReferenceIdeal.nD Cert.ValReferenceIdeal.τ).loc Cert.ValReferenceIdeal.main_arg4) = m ((c.tc : Thread Cert.ValKernelIdeal.nD Cert.ValKernelIdeal.τ).loc Cert.ValKernelIdeal.main_arg4)) →
    ∃ (v0 : (c : Dev Cert.ValKernelIdeal.nD) → Buf (Elt Ideal) ((c.tc : Thread Cert.ValKernelIdeal.nD Cert.ValKernelIdeal.τ).loc Cert.ValKernelIdeal.main_v5)),
      θ_run (Cert.ValKernelIdeal.defs (F := Ideal)) (onTc (τ := Cert.ValKernelIdeal.τ) (Cert.ValKernelIdeal.main (F := Ideal))) ⟨m, fun _ => 0, g⟩ (fun r => ∀ c : Dev Cert.ValKernelIdeal.nD,
          r.2.mem ((c.tc : Thread Cert.ValKernelIdeal.nD Cert.ValKernelIdeal.τ).loc Cert.ValKernelIdeal.main_v5) = v0 c
          ∧ r.2.mem ((c.tc : Thread Cert.ValKernelIdeal.nD Cert.ValKernelIdeal.τ).loc Cert.ValKernelIdeal.main_arg0) = m ((c.tc : Thread Cert.ValKernelIdeal.nD Cert.ValKernelIdeal.τ).loc Cert.ValKernelIdeal.main_arg0)
          ∧ r.2.mem ((c.tc : Thread Cert.ValKernelIdeal.nD Cert.ValKernelIdeal.τ).loc Cert.ValKernelIdeal.main_arg1) = m ((c.tc : Thread Cert.ValKernelIdeal.nD Cert.ValKernelIdeal.τ).loc Cert.ValKernelIdeal.main_arg1)
          ∧ r.2.mem ((c.tc : Thread Cert.ValKernelIdeal.nD Cert.ValKernelIdeal.τ).loc Cert.ValKernelIdeal.main_arg2) = m ((c.tc : Thread Cert.ValKernelIdeal.nD Cert.ValKernelIdeal.τ).loc Cert.ValKernelIdeal.main_arg2)
          ∧ r.2.mem ((c.tc : Thread Cert.ValKernelIdeal.nD Cert.ValKernelIdeal.τ).loc Cert.ValKernelIdeal.main_arg3) = m ((c.tc : Thread Cert.ValKernelIdeal.nD Cert.ValKernelIdeal.τ).loc Cert.ValKernelIdeal.main_arg3)
          ∧ r.2.mem ((c.tc : Thread Cert.ValKernelIdeal.nD Cert.ValKernelIdeal.τ).loc Cert.ValKernelIdeal.main_arg4) = m ((c.tc : Thread Cert.ValKernelIdeal.nD Cert.ValKernelIdeal.τ).loc Cert.ValKernelIdeal.main_arg4))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v24) = v0 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1)
          ∧ r.2.mem ((c.tc : Thread Cert.ValReferenceIdeal.nD Cert.ValReferenceIdeal.τ).loc Cert.ValReferenceIdeal.main_arg2) = m' ((c.tc : Thread Cert.ValReferenceIdeal.nD Cert.ValReferenceIdeal.τ).loc Cert.ValReferenceIdeal.main_arg2)
          ∧ r.2.mem ((c.tc : Thread Cert.ValReferenceIdeal.nD Cert.ValReferenceIdeal.τ).loc Cert.ValReferenceIdeal.main_arg3) = m' ((c.tc : Thread Cert.ValReferenceIdeal.nD Cert.ValReferenceIdeal.τ).loc Cert.ValReferenceIdeal.main_arg3)
          ∧ r.2.mem ((c.tc : Thread Cert.ValReferenceIdeal.nD Cert.ValReferenceIdeal.τ).loc Cert.ValReferenceIdeal.main_arg4) = m' ((c.tc : Thread Cert.ValReferenceIdeal.nD Cert.ValReferenceIdeal.τ).loc Cert.ValReferenceIdeal.main_arg4))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)) →
    ∃ (v0 : (c : Dev Cert.RopeKernelIdeal.nD) → Buf (Elt Ideal) ((c.tc : Thread Cert.RopeKernelIdeal.nD Cert.RopeKernelIdeal.τ).loc Cert.RopeKernelIdeal.main_v13_0)) (v1 : (c : Dev Cert.RopeKernelIdeal.nD) → Buf (Elt Ideal) ((c.tc : Thread Cert.RopeKernelIdeal.nD Cert.RopeKernelIdeal.τ).loc Cert.RopeKernelIdeal.main_v13_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v13_0) = v0 c
          ∧ r.2.mem ((c.tc : Thread Cert.RopeKernelIdeal.nD Cert.RopeKernelIdeal.τ).loc Cert.RopeKernelIdeal.main_v13_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v19) = v0 c
          ∧ r.2.mem ((c.tc : Thread Cert.RopeReferenceIdeal.nD Cert.RopeReferenceIdeal.τ).loc Cert.RopeReferenceIdeal.main_v22) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_ModKernel_ModKernelIdeal : Prop :=
  True

def algebraic_ModKernelIdeal_ModReferenceIdeal_pre_finite_mod [hModKernelIdeal : Cert.ModKernelIdeal.Facts] [hModReferenceIdeal : Cert.ModReferenceIdeal.Facts] [hPre_finite_mod : Cert.Pre_finite_mod.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal_finite_mod m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v3)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v3) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_GateKernel_GateKernelIdeal : Prop :=
  True

def algebraic_GateKernelIdeal_GateReferenceIdeal_pre_finite_ab [hGateKernelIdeal : Cert.GateKernelIdeal.Facts] [hGateReferenceIdeal : Cert.GateReferenceIdeal.Facts] [hPre_finite_ab : Cert.Pre_finite_ab.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_ab m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v7)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v7) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v23) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hFinalKernel : Cert.FinalKernel.Facts) (hFinalKernelIdeal : Cert.FinalKernelIdeal.Facts) (hFinalReferenceIdeal : Cert.FinalReferenceIdeal.Facts) (hInKernel : Cert.InKernel.Facts) (hInKernelIdeal : Cert.InKernelIdeal.Facts) (hInReferenceIdeal : Cert.InReferenceIdeal.Facts) (hQueryKernel : Cert.QueryKernel.Facts) (hQueryKernelIdeal : Cert.QueryKernelIdeal.Facts) (hQueryReferenceIdeal : Cert.QueryReferenceIdeal.Facts) (hKeyKernel : Cert.KeyKernel.Facts) (hKeyKernelIdeal : Cert.KeyKernelIdeal.Facts) (hKeyReferenceIdeal : Cert.KeyReferenceIdeal.Facts) (hValKernel : Cert.ValKernel.Facts) (hValKernelIdeal : Cert.ValKernelIdeal.Facts) (hValReferenceIdeal : Cert.ValReferenceIdeal.Facts) (hRopeKernel : Cert.RopeKernel.Facts) (hRopeKernelIdeal : Cert.RopeKernelIdeal.Facts) (hRopeReferenceIdeal : Cert.RopeReferenceIdeal.Facts) (hModKernel : Cert.ModKernel.Facts) (hModKernelIdeal : Cert.ModKernelIdeal.Facts) (hModReferenceIdeal : Cert.ModReferenceIdeal.Facts) (hGateKernel : Cert.GateKernel.Facts) (hGateKernelIdeal : Cert.GateKernelIdeal.Facts) (hGateReferenceIdeal : Cert.GateReferenceIdeal.Facts) (hPre_finite : Cert.Pre_finite.Facts) (hPre_finite_mod : Cert.Pre_finite_mod.Facts) (hPre_finite_ab : Cert.Pre_finite_ab.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_KeyKernel (hKeyKernel := hKeyKernel)
    ∧ quiescent_KeyKernelIdeal (hKeyKernelIdeal := hKeyKernelIdeal)
    ∧ quiescent_KeyReferenceIdeal (hKeyReferenceIdeal := hKeyReferenceIdeal)
    ∧ quiescent_ValKernel (hValKernel := hValKernel)
    ∧ quiescent_ValKernelIdeal (hValKernelIdeal := hValKernelIdeal)
    ∧ quiescent_ValReferenceIdeal (hValReferenceIdeal := hValReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_ModKernel (hModKernel := hModKernel)
    ∧ quiescent_ModKernelIdeal (hModKernelIdeal := hModKernelIdeal)
    ∧ quiescent_ModKernelIdeal_pre_finite_mod (hModKernelIdeal := hModKernelIdeal) (hPre_finite_mod := hPre_finite_mod)
    ∧ quiescent_ModReferenceIdeal (hModReferenceIdeal := hModReferenceIdeal)
    ∧ quiescent_ModReferenceIdeal_pre_finite_mod (hModReferenceIdeal := hModReferenceIdeal) (hPre_finite_mod := hPre_finite_mod)
    ∧ quiescent_GateKernel (hGateKernel := hGateKernel)
    ∧ quiescent_GateKernelIdeal (hGateKernelIdeal := hGateKernelIdeal)
    ∧ quiescent_GateKernelIdeal_pre_finite_ab (hGateKernelIdeal := hGateKernelIdeal) (hPre_finite_ab := hPre_finite_ab)
    ∧ quiescent_GateReferenceIdeal (hGateReferenceIdeal := hGateReferenceIdeal)
    ∧ quiescent_GateReferenceIdeal_pre_finite_ab (hGateReferenceIdeal := hGateReferenceIdeal) (hPre_finite_ab := hPre_finite_ab)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_InKernel_InKernelIdeal
    ∧ algebraic_InKernelIdeal_InReferenceIdeal (hInKernelIdeal := hInKernelIdeal) (hInReferenceIdeal := hInReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_KeyKernel_KeyKernelIdeal
    ∧ algebraic_KeyKernelIdeal_KeyReferenceIdeal (hKeyKernelIdeal := hKeyKernelIdeal) (hKeyReferenceIdeal := hKeyReferenceIdeal)
    ∧ preserves_ValKernel_ValKernelIdeal
    ∧ algebraic_ValKernelIdeal_ValReferenceIdeal (hValKernelIdeal := hValKernelIdeal) (hValReferenceIdeal := hValReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_ModKernel_ModKernelIdeal
    ∧ algebraic_ModKernelIdeal_ModReferenceIdeal_pre_finite_mod (hModKernelIdeal := hModKernelIdeal) (hModReferenceIdeal := hModReferenceIdeal) (hPre_finite_mod := hPre_finite_mod)
    ∧ preserves_GateKernel_GateKernelIdeal
    ∧ algebraic_GateKernelIdeal_GateReferenceIdeal_pre_finite_ab (hGateKernelIdeal := hGateKernelIdeal) (hGateReferenceIdeal := hGateReferenceIdeal) (hPre_finite_ab := hPre_finite_ab)
-- ==== Pre_finite.lean ====
abbrev S16384x2048 : Shape := ⟨2, ![16384, 2048]⟩
abbrev S4x128 : Shape := ⟨2, ![4, 128]⟩
abbrev S256 : Shape := ⟨1, ![256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  main_v18

def fn {F : FTy → Type} [FloatOps F] (main_arg0 : FVec F S16384x2048 .f32) (main_arg1 : FVec F S16384x2048 .f32) (main_arg2 : FVec F S16384x2048 .f32) (main_arg3 : FVec F S4x128 .f32) (main_arg4 : FVec F S256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_v13 main_v16
-- ==== Pre_finite_ab.lean ====
abbrev S2x8192x2048 : Shape := ⟨3, ![2, 8192, 2048]⟩
abbrev S2048 : Shape := ⟨1, ![2048]⟩
abbrev S2x2048 : Shape := ⟨2, ![2, 2048]⟩
abbrev S2048x8224 : Shape := ⟨2, ![2048, 8224]⟩
abbrev S_ : Shape := ⟨0, ![]⟩
abbrev S2048x32 : Shape := ⟨2, ![2048, 32]⟩

class Facts : Prop where
  bcast_S_S2048 : S_.BroadcastsInDim S2048 (![] : Fin 0 → Fin S2048.rank)
  reducesTo_S2048_S_d0 : S2048.ReducesTo [0] S_
  h_S_ : 0 < S_.numel
  bcast_S_S2x2048 : S_.BroadcastsInDim S2x2048 (![] : Fin 0 → Fin S2x2048.rank)
  reducesTo_S2x2048_S_d0_1 : S2x2048.ReducesTo [0, 1] S_
  slices_S2048x8224_S2048x32_0_8192 : S2048x8224.Slices ![0, 8192] S2048x32
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_v13 : IVec S_ 1) (main_v15 : FVec F S2048x32 .f32) (main_v16 : FVec F S2048x32 .f32) : IVec S_ 1 :=
  let main_v17 : IVec S2048x32 1 := cmpf .olt main_v15 main_v16
  let main_c_5 : IVec S_ 1 := constantI S_ 1 1#1
  let main_v18 : IVec S_ 1 := (fun x v => Host.reduce IntOp.andi x v reducesTo_S2048x32_S_d0_1 h_S_) main_v17 main_c_5
  let main_v19 : IVec S_ 1 := andi main_v13 main_v18
  main_v19

def fn {F : FTy → Type} [FloatOps F] (main_arg0 : FVec F S2x8192x2048 .f32) (main_arg1 : FVec F S2048 .f32) (main_arg2 : FVec F S2x2048 .f32) (main_arg3 : FVec F S2x2048 .f32) (main_arg4 : FVec F S2048x8224 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2x2048 .f32 := Host.absf main_arg2
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048 .f32 := Host.absf main_arg3
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S2048x32 .f32 := (extractStridedSlice S2048x32 ![0, 8192] · slices_S2048x8224_S2048x32_0_8192) main_arg4
  let main_v15 : FVec F S2048x32 .f32 := Host.absf main_v14
  let main_cst_4 : FVec F S_ .f32 := constant S_ .f32 0x7F800000#32
  let main_v16 : FVec F S2048x32 .f32 := broadcastInDim S2048x32 ![] bcast_S_S2048x32 main_cst_4
  fn_part1 (F := F) main_v13 main_v15 main_v16
-- ==== Pre_finite_mod.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S4x2048x12288 : S_.BroadcastsInDim S4x2048x12288 (![] : Fin 0 → Fin S4x2048x12288.rank)
  reducesTo_S4x2048x12288_S_d0_1_2 : S4x2048x12288.ReducesTo [0, 1, 2] S_

variable [Facts]

def fn {F : FTy → Type} [FloatOps F] (main_arg0 : FVec F S2x2048 .f32) (main_arg1 : FVec F S4x2048x12288 .f32) (main_arg2 : FVec F S4x12288 .f32) : IVec S_ 1 :=
  let main_v0 : FVec F S2x2048 .f32 := Host.absf main_arg0
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  let main_v4 : FVec F S4x2048x12288 .f32 := Host.absf main_arg1
  let main_cst_0 : FVec F S_ .f32 := constant S_ .f32 0x7F800000#32
  let main_v5 : FVec F S4x2048x12288 .f32 := broadcastInDim S4x2048x12288 ![] bcast_S_S4x2048x12288 main_cst_0
  let main_v6 : IVec S4x2048x12288 1 := cmpf .olt main_v4 main_v5
  let main_c_1 : IVec S_ 1 := constantI S_ 1 1#1
  let main_v7 : IVec S_ 1 := (fun x v => Host.reduce IntOp.andi x v reducesTo_S4x2048x12288_S_d0_1_2 h_S_) main_v6 main_c_1
  let main_v8 : IVec S_ 1 := andi main_v3 main_v7
  main_v8
-- ==== Kernel.lean ====
abbrev S16384x2048 : Shape := ⟨2, ![16384, 2048]⟩
abbrev S4x128 : Shape := ⟨2, ![4, 128]⟩
abbrev S256 : Shape := ⟨1, ![256]⟩
abbrev S136 : Shape := ⟨1, ![136]⟩
abbrev S_ : Shape := ⟨0, ![]⟩
abbrev S32x512x2048 : Shape := ⟨3, ![32, 512, 2048]⟩
abbrev S32x2048x512 : Shape := ⟨3, ![32, 2048, 512]⟩
abbrev S256x1 : Shape := ⟨2, ![256, 1]⟩
abbrev S512x2048 : Shape := ⟨2, ![512, 2048]⟩
abbrev S1 : Shape := ⟨1, ![1]⟩
abbrev S1x2048x512 : Shape := ⟨3, ![1, 2048, 512]⟩
abbrev S16x1x512 : Shape := ⟨3, ![16, 1, 512]⟩
abbrev S16x256x512 : Shape := ⟨3, ![16, 256, 512]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x256x512 : Shape := ⟨3, ![1, 256, 512]⟩
abbrev S256x512 : Shape := ⟨2, ![256, 512]⟩
abbrev S1x128 : Shape := ⟨2, ![1, 128]⟩
abbrev S1x1 : Shape := ⟨2, ![1, 1]⟩
abbrev S512x256 : Shape := ⟨2, ![512, 256]⟩

abbrev nBuf : Space → Nat
  | .hbm => 21
  | .vmem => 13
  | .smem => 2
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S4x128, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .bf16⟩
  | .hbm, ⟨15, _⟩ => ⟨S16384x2048, .bf16⟩
  | .hbm, ⟨16, _⟩ => ⟨S16384x2048, .bf16⟩
  | .hbm, ⟨17, _⟩ => ⟨S32x512x2048, .bf16⟩
  | .hbm, ⟨18, _⟩ => ⟨S32x2048x512, .bf16⟩
  | .hbm, ⟨19, _⟩ => ⟨S256x1, .f32⟩
  | .hbm, ⟨20, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x128, .f32⟩
  | .local _ .vmem, ⟨7, _⟩ => ⟨S256x1, .f32⟩
  | .local _ .vmem, ⟨8, _⟩ => ⟨S512x2048, .bf16⟩
  | .local _ .vmem, ⟨9, _⟩ => ⟨S512x2048, .bf16⟩
  | .local _ .vmem, ⟨10, _⟩ => ⟨S16x1x512, .f32⟩
  | .local _ .vmem, ⟨11, _⟩ => ⟨S16x1x512, .f32⟩
  | .local _ .vmem, ⟨12, _⟩ => ⟨S16x256x512, .f32⟩
  | .local _ .smem, ⟨0, _⟩ => ⟨S136, .i32⟩
  | .local _ .smem, ⟨1, _⟩ => ⟨S136, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x2048 : Shape := ⟨2, ![16384, 2048]⟩
abbrev S4x128 : Shape := ⟨2, ![4, 128]⟩
abbrev S256 : Shape := ⟨1, ![256]⟩
abbrev S2x8192x8x2x128 : Shape := ⟨5, ![2, 8192, 8, 2, 128]⟩
abbrev S_ : Shape := ⟨0, ![]⟩
abbrev S2x8192x8x256 : Shape := ⟨4, ![2, 8192, 8, 256]⟩
abbrev S1x128 : Shape := ⟨2, ![1, 128]⟩
abbrev S128 : Shape := ⟨1, ![128]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x256x8192 : Shape := ⟨4, ![2, 8, 256, 8192]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩

abbrev nBuf : Space → Nat
  | .hbm => 87
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S4x128, .f32⟩
  | .hbm, ⟨4, _⟩ => ⟨S256, .f32⟩
  | .hbm, ⟨5, _⟩ => ⟨S2x8192x8x2x128, .f32⟩
  | .hbm, ⟨6, _⟩ => ⟨S_, .f32⟩
  | .hbm, ⟨7, _⟩ => ⟨S_, .f32⟩
  | .hbm, ⟨8, _⟩ => ⟨S2x8192x8x2x128, .f32⟩
  | .hbm, ⟨9, _⟩ => ⟨S2x8192x8x2x128, .f32⟩
  | .hbm, ⟨10, _⟩ => ⟨S2x8192x8x2x128, .f32⟩
  | .hbm, ⟨11, _⟩ => ⟨S2x8192x8x256, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8x2x8192x8192, .f32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S2x8x2x8192x8192, .i1⟩
  | .hbm, ⟨41, _⟩ => ⟨S2x8x2x8192x8192, .f32⟩
  | .hbm, ⟨42, _⟩ => ⟨S2x8x2x8192x8192, .f32⟩
  | .hbm, ⟨43, _⟩ => ⟨S_, .f32⟩
  | .hbm, ⟨44, _⟩ => ⟨S2x8x2x8192, .f32⟩
  | .hbm, ⟨45, _⟩ => ⟨S_, .f32⟩
  | .hbm, ⟨46, _⟩ => ⟨S2x8x2x8192, .f32⟩
  | .hbm, ⟨47, _⟩ => ⟨S2x8x2x8192, .f32⟩
  | .hbm, ⟨48, _⟩ => ⟨S2x8x2x8192x1, .f32⟩
  | .hbm, ⟨49, _⟩ => ⟨S2x8x2x8192x8192, .f32⟩
  | .hbm, ⟨50, _⟩ => ⟨S2x8x2x8192x8192, .f32⟩
  | .hbm, ⟨51, _⟩ => ⟨S2x8x2x8192x8192, .f32⟩
  | .hbm, ⟨52, _⟩ => ⟨S_, .f32⟩
  | .hbm, ⟨53, _⟩ => ⟨S2x8x2x8192, .f32⟩
  | .hbm, ⟨54, _⟩ => ⟨S2x8x2x8192x1, .f32⟩
  | .hbm, ⟨55, _⟩ => ⟨S2x8x2x8192x8192, .f32⟩
  | .hbm, ⟨56, _⟩ => ⟨S2x8x2x8192x8192, .f32⟩
  | .hbm, ⟨57, _⟩ => ⟨S2x8x1x8192x8192, .f32⟩
  | .hbm, ⟨58, _⟩ => ⟨S2x8x8192x8192, .f32⟩
  | .hbm, ⟨59, _⟩ => ⟨S2x8x1x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x256x8192, .f32⟩
  | .hbm, ⟨65, _⟩ => ⟨S2x8192x8x256, .f32⟩
  | .hbm, ⟨66, _⟩ => ⟨S2x8192x8x256, .f32⟩
  | .hbm, ⟨67, _⟩ => ⟨S_, .f32⟩
  | .hbm, ⟨68, _⟩ => ⟨S2x8192x8, .f32⟩
  | .hbm, ⟨69, _⟩ => ⟨S2x8192x8x1, .f32⟩
  | .hbm, ⟨70, _⟩ => ⟨S_, .f32⟩
  | .hbm, ⟨71, _⟩ => ⟨S2x8192x8x1, .f32⟩
  | .hbm, ⟨72, _⟩ => ⟨S2x8192x8x1, .f32⟩
  | .hbm, ⟨73, _⟩ => ⟨S_, .f32⟩
  | .hbm, ⟨74, _⟩ => ⟨S2x8192x8x1, .f32⟩
  | .hbm, ⟨75, _⟩ => ⟨S2x8192x8x1, .f32⟩
  | .hbm, ⟨76, _⟩ => ⟨S2x8192x8x1, .f32⟩
  | .hbm, ⟨77, _⟩ => ⟨S2x8192x8x256, .f32⟩
  | .hbm, ⟨78, _⟩ => ⟨S2x8192x8x256, .f32⟩
  | .hbm, ⟨79, _⟩ => ⟨S1x1x1x256, .f32⟩
  | .hbm, ⟨80, _⟩ => ⟨S2x8192x8x256, .f32⟩
  | .hbm, ⟨81, _⟩ => ⟨S2x8192x8x256, .f32⟩
  | .hbm, ⟨82, _⟩ => ⟨S_, .f32⟩
  | .hbm, ⟨83, _⟩ => ⟨S2x8192x8x256, .f32⟩
  | .hbm, ⟨84, _⟩ => ⟨S2x8192x8x256, .f32⟩
  | .hbm, ⟨85, _⟩ => ⟨S16384x2048, .f32⟩
  | .hbm, ⟨86, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== OutKernel.lean ====
abbrev S2x8192x2048 : Shape := ⟨3, ![2, 8192, 2048]⟩
abbrev S2048x2048 : Shape := ⟨2, ![2048, 2048]⟩
abbrev S2x2048 : Shape := ⟨2, ![2, 2048]⟩
abbrev S16384x2048 : Shape := ⟨2, ![16384, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x2048, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .hbm, ⟨8, _⟩ => ⟨S2x1x2048, .f32⟩
  | .hbm, ⟨9, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S2x8192x2048 : Shape := ⟨3, ![2, 8192, 2048]⟩
abbrev S2048x2048 : Shape := ⟨2, ![2048, 2048]⟩
abbrev S2x2048 : Shape := ⟨2, ![2, 2048]⟩
abbrev S2x1x2048 : Shape := ⟨3, ![2, 1, 2048]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x2048, .f32⟩
  | .hbm, ⟨4, _⟩ => ⟨S2x1x2048, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FinalKernel.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InKernel.lean ====
abbrev S2x8192x2048 : Shape := ⟨3, ![2, 8192, 2048]⟩
abbrev S2048 : Shape := ⟨1, ![2048]⟩
abbrev S2x2048 : Shape := ⟨2, ![2, 2048]⟩
abbrev S2048x8224 : Shape := ⟨2, ![2048, 8224]⟩
abbrev S16384x2048 : Shape := ⟨2, ![16384, 2048]⟩
abbrev S1x2048 : Shape := ⟨2, ![1, 2048]⟩
abbrev S2x1x2048 : Shape := ⟨3, ![2, 1, 2048]⟩
abbrev S64x16384x128 : Shape := ⟨3, ![64, 16384, 128]⟩
abbrev S1024x2048 : Shape := ⟨2, ![1024, 2048]⟩
abbrev S1x1x2048 : Shape := ⟨3, ![1, 1, 2048]⟩
abbrev S2048x1024 : Shape := ⟨2, ![2048, 1024]⟩
abbrev S8x1024x128 : Shape := ⟨3, ![8, 1024, 128]⟩
abbrev S128x2048 : Shape := ⟨2, ![128, 2048]⟩
abbrev S128 : Shape := ⟨1, ![128]⟩
abbrev S128x1 : Shape := ⟨2, ![128, 1]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x8224, .f32⟩
  | .hbm, ⟨5, _⟩ => ⟨S16384x2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S2048x8224, .bf16⟩
  | .hbm, ⟨10, _⟩ => ⟨S64x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S8x1024x128, .bf16⟩
  | .local _ .vmem, ⟨10, _⟩ => ⟨S8x1024x128, .bf16⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InReferenceIdeal.lean ====
abbrev S2x8192x2048 : Shape := ⟨3, ![2, 8192, 2048]⟩
abbrev S2048 : Shape := ⟨1, ![2048]⟩
abbrev S2x2048 : Shape := ⟨2, ![2, 2048]⟩
abbrev S2048x8224 : Shape := ⟨2, ![2048, 8224]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x8224 : Shape := ⟨3, ![2, 8192, 8224]⟩
abbrev S2x8192x8192 : Shape := ⟨3, ![2, 8192, 8192]⟩
abbrev S16384x64x128 : Shape := ⟨3, ![16384, 64, 128]⟩
abbrev S64x16384x128 : Shape := ⟨3, ![64, 16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x8224, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x8224, .f32⟩
  | .hbm, ⟨31, _⟩ => ⟨S2x8192x8192, .f32⟩
  | .hbm, ⟨32, _⟩ => ⟨S16384x64x128, .f32⟩
  | .hbm, ⟨33, _⟩ => ⟨S64x16384x128, .f32⟩
  | .hbm, ⟨34, _⟩ => ⟨S64x16384x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== QueryKernel.lean ====
abbrev S2x8192x2048 : Shape := ⟨3, ![2, 8192, 2048]⟩
abbrev S2048 : Shape := ⟨1, ![2048]⟩
abbrev S2x2048 : Shape := ⟨2, ![2, 2048]⟩
abbrev S2048x2048 : Shape := ⟨2, ![2048, 2048]⟩
abbrev S2x8192x64 : Shape := ⟨3, ![2, 8192, 64]⟩
abbrev S2x8192x128 : Shape := ⟨3, ![2, 8192, 128]⟩
abbrev S16384x128 : Shape := ⟨2, ![16384, 128]⟩
abbrev S16384x2048 : Shape := ⟨2, ![16384, 2048]⟩
abbrev S1x2048 : Shape := ⟨2, ![1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x128 : Shape := ⟨2, ![1024, 128]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x2048, .f32⟩
  | .hbm, ⟨5, _⟩ => ⟨S2x8192x64, .f32⟩
  | .hbm, ⟨6, _⟩ => ⟨S2x8192x64, .f32⟩
  | .hbm, ⟨7, _⟩ => ⟨S2x8192x128, .f32⟩
  | .hbm, ⟨8, _⟩ => ⟨S16384x128, .f32⟩
  | .hbm, ⟨9, _⟩ => ⟨S2x8192x64, .f32⟩
  | .hbm, ⟨10, _⟩ => ⟨S2x8192x128, .f32⟩
  | .hbm, ⟨11, _⟩ => ⟨S16384x128, .f32⟩
  | .hbm, ⟨12, _⟩ => ⟨S16384x2048, .f32⟩
  | .hbm, ⟨13, _⟩ => ⟨S1x2048, .f32⟩
  | .hbm, ⟨14, _⟩ => ⟨S2x1x2048, .f32⟩
  | .hbm, ⟨15, _⟩ => ⟨S2x1x2048, .f32⟩
  | .hbm, ⟨16, _⟩ => ⟨S2048x2048, .bf16⟩
  | .hbm, ⟨17, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QueryKernelIdeal.lean ====
variable {F : FTy → Type} [FloatOps F] [Named F]
def κ : String → Option EReal := fun
  | "s" => some ((((Real.sqrt 128) * (Real.log 2))⁻¹ : ℝ) : EReal)
  | _ => none
-- ==== QueryReferenceIdeal.lean ====
abbrev S2x8192x2048 : Shape := ⟨3, ![2, 8192, 2048]⟩
abbrev S2048 : Shape := ⟨1, ![2048]⟩
abbrev S2x2048 : Shape := ⟨2, ![2, 2048]⟩
abbrev S2048x2048 : Shape := ⟨2, ![2048, 2048]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x8x2x128 : Shape := ⟨5, ![2, 8192, 8, 2, 128]⟩
abbrev S2x8192x1x1x64 : Shape := ⟨5, ![2, 8192, 1, 1, 64]⟩
abbrev S2x8192x8x2x64 : Shape := ⟨5, ![2, 8192, 8, 2, 64]⟩
abbrev S16384x2048 : Shape := ⟨2, ![16384, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x2048, .f32⟩
  | .hbm, ⟨5, _⟩ => ⟨S2x8192x64, .f32⟩
  | .hbm, ⟨6, _⟩ => ⟨S2x8192x64, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x8x2x128, .f32⟩
  | .hbm, ⟨34, _⟩ => ⟨S2x8192x1x1x64, .f32⟩
  | .hbm, ⟨35, _⟩ => ⟨S2x8192x1x1x64, .f32⟩
  | .hbm, ⟨36, _⟩ => ⟨S2x8192x8x2x64, .f32⟩
  | .hbm, ⟨37, _⟩ => ⟨S2x8192x8x2x64, .f32⟩
  | .hbm, ⟨38, _⟩ => ⟨S2x8192x8x2x64, .f32⟩
  | .hbm, ⟨39, _⟩ => ⟨S2x8192x8x2x64, .f32⟩
  | .hbm, ⟨40, _⟩ => ⟨S2x8192x8x2x64, .f32⟩
  | .hbm, ⟨41, _⟩ => ⟨S2x8192x8x2x64, .f32⟩
  | .hbm, ⟨42, _⟩ => ⟨S2x8192x8x2x64, .f32⟩
  | .hbm, ⟨43, _⟩ => ⟨S2x8192x8x2x64, .f32⟩
  | .hbm, ⟨44, _⟩ => ⟨S2x8192x8x2x64, .f32⟩
  | .hbm, ⟨45, _⟩ => ⟨S2x8192x8x2x64, .f32⟩
  | .hbm, ⟨46, _⟩ => ⟨S2x8192x8x2x64, .f32⟩
  | .hbm, ⟨47, _⟩ => ⟨S2x8192x8x2x64, .f32⟩
  | .hbm, ⟨48, _⟩ => ⟨S2x8192x8x2x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x8192x8x2x128, .f32⟩
  | .hbm, ⟨55, _⟩ => ⟨S2x8192x8x2x128, .f32⟩
  | .hbm, ⟨56, _⟩ => ⟨S16384x2048, .f32⟩
  | .hbm, ⟨57, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== KeyKernel.lean ====
abbrev S2x8192x2048 : Shape := ⟨3, ![2, 8192, 2048]⟩
abbrev S2048 : Shape := ⟨1, ![2048]⟩
abbrev S2x2048 : Shape := ⟨2, ![2, 2048]⟩
abbrev S2048x4096 : Shape := ⟨2, ![2048, 4096]⟩
abbrev S2x8192x64 : Shape := ⟨3, ![2, 8192, 64]⟩
abbrev S2x8192x128 : Shape := ⟨3, ![2, 8192, 128]⟩
abbrev S16384x128 : Shape := ⟨2, ![16384, 128]⟩
abbrev S16384x2048 : Shape := ⟨2, ![16384, 2048]⟩
abbrev S1x2048 : Shape := ⟨2, ![1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x128 : Shape := ⟨2, ![1024, 128]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4096, .f32⟩
  | .hbm, ⟨5, _⟩ => ⟨S2x8192x64, .f32⟩
  | .hbm, ⟨6, _⟩ => ⟨S2x8192x64, .f32⟩
  | .hbm, ⟨7, _⟩ => ⟨S2x8192x128, .f32⟩
  | .hbm, ⟨8, _⟩ => ⟨S16384x128, .f32⟩
  | .hbm, ⟨9, _⟩ => ⟨S2x8192x64, .f32⟩
  | .hbm, ⟨10, _⟩ => ⟨S2x8192x128, .f32⟩
  | .hbm, ⟨11, _⟩ => ⟨S16384x128, .f32⟩
  | .hbm, ⟨12, _⟩ => ⟨S16384x2048, .f32⟩
  | .hbm, ⟨13, _⟩ => ⟨S1x2048, .f32⟩
  | .hbm, ⟨14, _⟩ => ⟨S2x1x2048, .f32⟩
  | .hbm, ⟨15, _⟩ => ⟨S2x1x2048, .f32⟩
  | .hbm, ⟨16, _⟩ => ⟨S2048x4096, .bf16⟩
  | .hbm, ⟨17, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KeyReferenceIdeal.lean ====
abbrev S2x8192x2048 : Shape := ⟨3, ![2, 8192, 2048]⟩
abbrev S2048 : Shape := ⟨1, ![2048]⟩
abbrev S2x2048 : Shape := ⟨2, ![2, 2048]⟩
abbrev S2048x4096 : Shape := ⟨2, ![2048, 4096]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x4096 : Shape := ⟨3, ![2, 8192, 4096]⟩
abbrev S2x8192x8x2x128 : Shape := ⟨5, ![2, 8192, 8, 2, 128]⟩
abbrev S2x8192x1x1x64 : Shape := ⟨5, ![2, 8192, 1, 1, 64]⟩
abbrev S2x8192x8x2x64 : Shape := ⟨5, ![2, 8192, 8, 2, 64]⟩
abbrev S16384x2048 : Shape := ⟨2, ![16384, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4096, .f32⟩
  | .hbm, ⟨5, _⟩ => ⟨S2x8192x64, .f32⟩
  | .hbm, ⟨6, _⟩ => ⟨S2x8192x64, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x4096, .f32⟩
  | .hbm, ⟨33, _⟩ => ⟨S2x8192x2048, .f32⟩
  | .hbm, ⟨34, _⟩ => ⟨S2x8192x8x2x128, .f32⟩
  | .hbm, ⟨35, _⟩ => ⟨S2x8192x1x1x64, .f32⟩
  | .hbm, ⟨36, _⟩ => ⟨S2x8192x1x1x64, .f32⟩
  | .hbm, ⟨37, _⟩ => ⟨S2x8192x8x2x64, .f32⟩
  | .hbm, ⟨38, _⟩ => ⟨S2x8192x8x2x64, .f32⟩
  | .hbm, ⟨39, _⟩ => ⟨S2x8192x8x2x64, .f32⟩
  | .hbm, ⟨40, _⟩ => ⟨S2x8192x8x2x64, .f32⟩
  | .hbm, ⟨41, _⟩ => ⟨S2x8192x8x2x64, .f32⟩
  | .hbm, ⟨42, _⟩ => ⟨S2x8192x8x2x64, .f32⟩
  | .hbm, ⟨43, _⟩ => ⟨S2x8192x8x2x64, .f32⟩
  | .hbm, ⟨44, _⟩ => ⟨S2x8192x8x2x64, .f32⟩
  | .hbm, ⟨45, _⟩ => ⟨S2x8192x8x2x64, .f32⟩
  | .hbm, ⟨46, _⟩ => ⟨S2x8192x8x2x64, .f32⟩
  | .hbm, ⟨47, _⟩ => ⟨S2x8192x8x2x64, .f32⟩
  | .hbm, ⟨48, _⟩ => ⟨S2x8192x8x2x64, .f32⟩
  | .hbm, ⟨49, _⟩ => ⟨S2x8192x8x2x128, .f32⟩
  | .hbm, ⟨50, _⟩ => ⟨S16384x2048, .f32⟩
  | .hbm, ⟨51, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== ValKernel.lean ====
abbrev S2x8192x2048 : Shape := ⟨3, ![2, 8192, 2048]⟩
abbrev S2048 : Shape := ⟨1, ![2048]⟩
abbrev S2x2048 : Shape := ⟨2, ![2, 2048]⟩
abbrev S2048x4096 : Shape := ⟨2, ![2048, 4096]⟩
abbrev S16384x2048 : Shape := ⟨2, ![16384, 2048]⟩
abbrev S1x2048 : Shape := ⟨2, ![1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4096, .f32⟩
  | .hbm, ⟨5, _⟩ => ⟨S16384x2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S2048x4096, .bf16⟩
  | .hbm, ⟨10, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ValReferenceIdeal.lean ====
abbrev S2x8192x2048 : Shape := ⟨3, ![2, 8192, 2048]⟩
abbrev S2048 : Shape := ⟨1, ![2048]⟩
abbrev S2x2048 : Shape := ⟨2, ![2, 2048]⟩
abbrev S2048x4096 : Shape := ⟨2, ![2048, 4096]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x4096 : Shape := ⟨3, ![2, 8192, 4096]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x4096, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x4096, .f32⟩
  | .hbm, ⟨31, _⟩ => ⟨S2x8192x2048, .f32⟩
  | .hbm, ⟨32, _⟩ => ⟨S16384x2048, .f32⟩
  | .hbm, ⟨33, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== RopeKernel.lean ====
abbrev S2x8192 : Shape := ⟨2, ![2, 8192]⟩
abbrev S64 : Shape := ⟨1, ![64]⟩
abbrev S_ : Shape := ⟨0, ![]⟩
abbrev S16384x1 : Shape := ⟨2, ![16384, 1]⟩
abbrev S128 : Shape := ⟨1, ![128]⟩
abbrev S1x128 : Shape := ⟨2, ![1, 128]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 20
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384x1, .i32⟩
  | .hbm, ⟨16, _⟩ => ⟨S128, .f32⟩
  | .hbm, ⟨17, _⟩ => ⟨S1x128, .f32⟩
  | .hbm, ⟨18, _⟩ => ⟨S16384x128, .f32⟩
  | .hbm, ⟨19, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeReferenceIdeal.lean ====
abbrev S2x8192 : Shape := ⟨2, ![2, 8192]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x128 : Shape := ⟨3, ![2, 8192, 128]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2x8192, .f32⟩
  | .hbm, ⟨16, _⟩ => ⟨S2x8192x1, .f32⟩
  | .hbm, ⟨17, _⟩ => ⟨S1x1x64, .f32⟩
  | .hbm, ⟨18, _⟩ => ⟨S2x8192x64, .f32⟩
  | .hbm, ⟨19, _⟩ => ⟨S2x8192x64, .f32⟩
  | .hbm, ⟨20, _⟩ => ⟨S2x8192x64, .f32⟩
  | .hbm, ⟨21, _⟩ => ⟨S2x8192x64, .f32⟩
  | .hbm, ⟨22, _⟩ => ⟨S2x8192x64, .f32⟩
  | .hbm, ⟨23, _⟩ => ⟨S2x8192x128, .f32⟩
  | .hbm, ⟨24, _⟩ => ⟨S16384x128, .f32⟩
  | .hbm, ⟨25, _⟩ => ⟨S2x8192x64, .f32⟩
  | .hbm, ⟨26, _⟩ => ⟨S2x8192x128, .f32⟩
  | .hbm, ⟨27, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== ModKernel.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S4x2x12288 : Shape := ⟨3, ![4, 2, 12288]⟩

abbrev nBuf : Space → Nat
  | .hbm => 9
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4x1x12288, .f32⟩
  | .hbm, ⟨7, _⟩ => ⟨S4x8x12288, .f32⟩
  | .hbm, ⟨8, _⟩ => ⟨S4x2x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩
abbrev S4x12288x2 : Shape := ⟨3, ![4, 12288, 2]⟩
abbrev S4x2x12288 : Shape := ⟨3, ![4, 2, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S4x12288x2, .f32⟩
  | .hbm, ⟨13, _⟩ => ⟨S4x2x12288, .f32⟩
  | .hbm, ⟨14, _⟩ => ⟨S4x1x12288, .f32⟩
  | .hbm, ⟨15, _⟩ => ⟨S4x2x12288, .f32⟩
  | .hbm, ⟨16, _⟩ => ⟨S4x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== GateKernel.lean ====
abbrev S2x8192x2048 : Shape := ⟨3, ![2, 8192, 2048]⟩
abbrev S2048 : Shape := ⟨1, ![2048]⟩
abbrev S2x2048 : Shape := ⟨2, ![2, 2048]⟩
abbrev S2048x8224 : Shape := ⟨2, ![2048, 8224]⟩
abbrev S2048x32 : Shape := ⟨2, ![2048, 32]⟩
abbrev S_ : Shape := ⟨0, ![]⟩
abbrev S2048x128 : Shape := ⟨2, ![2048, 128]⟩
abbrev S16384x2048 : Shape := ⟨2, ![16384, 2048]⟩
abbrev S1x2048 : Shape := ⟨2, ![1, 2048]⟩
abbrev S2x1x2048 : Shape := ⟨3, ![2, 1, 2048]⟩
abbrev S16384x128 : Shape := ⟨2, ![16384, 128]⟩
abbrev S256x2048 : Shape := ⟨2, ![256, 2048]⟩
abbrev S1x1x2048 : Shape := ⟨3, ![1, 1, 2048]⟩
abbrev S256x128 : Shape := ⟨2, ![256, 128]⟩
abbrev S256 : Shape := ⟨1, ![256]⟩
abbrev S256x1 : Shape := ⟨2, ![256, 1]⟩
abbrev S16384x32 : Shape := ⟨2, ![16384, 32]⟩

abbrev nBuf : Space → Nat
  | .hbm => 15
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x8224, .f32⟩
  | .hbm, ⟨5, _⟩ => ⟨S2048x32, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S16384x2048, .f32⟩
  | .hbm, ⟨10, _⟩ => ⟨S1x2048, .f32⟩
  | .hbm, ⟨11, _⟩ => ⟨S2x1x2048, .f32⟩
  | .hbm, ⟨12, _⟩ => ⟨S2x1x2048, .f32⟩
  | .hbm, ⟨13, _⟩ => ⟨S16384x128, .f32⟩
  | .hbm, ⟨14, _⟩ => ⟨S16384x32, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S2x8192x2048 : Shape := ⟨3, ![2, 8192, 2048]⟩
abbrev S2048 : Shape := ⟨1, ![2048]⟩
abbrev S2x2048 : Shape := ⟨2, ![2, 2048]⟩
abbrev S2048x8224 : Shape := ⟨2, ![2048, 8224]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x8224 : Shape := ⟨3, ![2, 8192, 8224]⟩
abbrev S2x8192x32 : Shape := ⟨3, ![2, 8192, 32]⟩
abbrev S16384x32 : Shape := ⟨2, ![16384, 32]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x8224, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x8224, .f32⟩
  | .hbm, ⟨31, _⟩ => ⟨S2x8192x32, .f32⟩
  | .hbm, ⟨32, _⟩ => ⟨S16384x32, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.AttnRuns.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

/-! The kernel body's four control paths, each run once on symbolic contents: whether the key block is the first one
    (the scratch is then initialised) and whether it is the last one, on the diagonal (the scores are then masked and
    the output block is stored). -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables and the three scratch buffers the kernel is handed, whole. -/
abbrev tbQ : Memref sig .tc .smem S136 .i32 := Memref.whole main_c
abbrev tbK : Memref sig .tc .smem S136 .i32 := Memref.whole main_c_0
abbrev scM : Memref sig .tc .vmem S16x1x512 .f32 := Memref.whole cc0_scratch0
abbrev scL : Memref sig .tc .vmem S16x1x512 .f32 := Memref.whole cc0_scratch1
abbrev scA : Memref sig .tc .vmem S16x256x512 .f32 := Memref.whole cc0_scratch2

/-- The contents of the three scratch buffers of core `c`. -/
abbrev BufM (F : FTy → Type) (c : Dev nD) : Type := Buf (Elt F) ((c : Thread nD τ).loc cc0_scratch0)
abbrev BufL (F : FTy → Type) (c : Dev nD) : Type := Buf (Elt F) ((c : Thread nD τ).loc cc0_scratch1)
abbrev BufA (F : FTy → Type) (c : Dev nD) : Type := Buf (Elt F) ((c : Thread nD τ).loc cc0_scratch2)

/-- The query-block word and the key-block word the body reads at coordinates `i`. -/
abbrev wQ (i : grid0.Coords) (T0 : S136.Idx → Elt F .i32) : BitVec 32 :=
  View.readAt (Elt F) tbQ.view (Rect.unit (s := S136) (k0_off1 i) S1.size (k0_off1_inb i)).toLoadRect T0 (Shape.Idx.first (numel1_S1.symm ▸ Nat.one_pos))
abbrev wK (i : grid0.Coords) (T1 : S136.Idx → Elt F .i32) : BitVec 32 :=
  View.readAt (Elt F) tbK.view (Rect.unit (s := S136) (k0_off1 i) S1.size (k0_off1_inb i)).toLoadRect T1 (Shape.Idx.first (numel1_S1.symm ▸ Nat.one_pos))

/-- The body's decisions: the first key block; a key block before the query block; the diagonal. -/
abbrev isFirst (k : BitVec 32) : Prop := (Scalar.cmpi .ne (Scalar.extui (Scalar.cmpi .eq k 0#32)) 0#32) = 1#1
abbrev isBefore (q k : BitVec 32) : Prop := (Scalar.cmpi .ne (Scalar.extui (Scalar.cmpi .slt k q)) 0#32) = 1#1

variable (c : Dev nD) (i : grid0.Coords)
  (a5 : Memref sig .tc .vmem S512x2048 .bf16) (h5 : a5.IsWhole) (a6 : Memref sig .tc .vmem S512x2048 .bf16) (h6 : a6.IsWhole)
  (a7 : Memref sig .tc .vmem S1x2048x512 .bf16) (h7 : a7.IsWhole) (a8 : Memref sig .tc .vmem S4x128 .f32) (h8 : a8.IsWhole)
  (a9 : Memref sig .tc .vmem S256x1 .f32) (h9 : a9.IsWhole) (a10 : Memref sig .tc .vmem S512x2048 .bf16) (h10 : a10.IsWhole)
  (T0 T1 : S136.Idx → Elt F .i32)
  (x0 x1 : S512x2048.Idx → Elt F .bf16) (x2 : S1x2048x512.Idx → Elt F .bf16) (x3 : S4x128.Idx → Elt F .f32) (x4 : S256x1.Idx → Elt F .f32)

/-- The body at the staging buffers `a5 … a10`. -/
abbrev body : Prog (TpuEff nD τ sig (Elt F) Λ₀ .tc) PUnit :=
  cc0_diff_attention i tbQ (Memref.isWhole_whole _) tbK (Memref.isWhole_whole _) a5 h5 a6 h6 a7 h7 a8 h8 a9 h9 a10 h10 scM (Memref.isWhole_whole _) scL (Memref.isWhole_whole _) scA (Memref.isWhole_whole _)

/-- What the body only reads, held at its contents: the five input blocks and half of each table. -/
def held : sProp 𝕄 :=
  iprop((a5.view.loc (c : Thread nD τ) ↦[a5.view.set]{fullShare} a5.view.rep x0)
    ∗ (a6.view.loc (c : Thread nD τ) ↦[a6.view.set]{fullShare} a6.view.rep x1)
    ∗ (a7.view.loc (c : Thread nD τ) ↦[a7.view.set]{fullShare} a7.view.rep x2)
    ∗ (a8.view.loc (c : Thread nD τ) ↦[a8.view.set]{fullShare} a8.view.rep x3)
    ∗ (a9.view.loc (c : Thread nD τ) ↦[a9.view.set]{fullShare} a9.view.rep x4)
    ∗ (tbQ.view.loc (c : Thread nD τ) ↦{fullShare.right} T0)
    ∗ (tbK.view.loc (c : Thread nD τ) ↦{fullShare.right} T1))

/-- The three scratch buffers at given contents. -/
def scr (s0 : BufM F c) (s1 : BufL F c) (s2 : BufA F c) : sProp 𝕄 :=
  iprop((scM.view.loc (c : Thread nD τ) ↦{fullShare} s0) ∗ (scL.view.loc (c : Thread nD τ) ↦{fullShare} s1) ∗ (scA.view.loc (c : Thread nD τ) ↦{fullShare} s2))

set_option backward.proofsInPublic true in
set_option maxHeartbeats 8000000 in
/-- The only key block of the first query block: the scratch is initialised, the masked block is folded in and the output is stored. -/
def runFirstLast (hc0 : isFirst (wK i T1)) (hc1 : ¬isBefore (wQ i T0) (wK i T1)) (hc2 : k0_cond3 (wQ i T0) (wK i T1) = 1#1) :
    Σ' (o : List (View.Piece (Elt F) S512x2048 .bf16)) (r0 : BufM F c) (r1 : BufL F c), { r2 : BufA F c //
      ∀ (s0 : BufM F c) (s1 : BufL F c) (s2 : BufA F c) (K : PUnit → sProp 𝕄),
        iprop(held c a5 a6 a7 a8 a9 T0 T1 x0 x1 x2 x3 x4 ∗ (∃ d, owns (c : Thread nD τ) a10 fullShare d) ∗ scr c s0 s1 s2
          ∗ (iprop(held c a5 a6 a7 a8 a9 T0 T1 x0 x1 x2 x3 x4 ∗ (∃ f, a10.view.loc (c : Thread nD τ) ↦[a10.view.set]{fullShare} a10.view.writes (Elt F) f o) ∗ scr c r0 r1 r2) -∗ K ⟨⟩))
          ⊢ wp frame (wpE (defs₀ (F := F)) Variants.none c none) Set.univ (body i a5 h5 a6 h6 a7 h7 a8 h8 a9 h9 a10 h10) K } :=
  ⟨_, _, _, _, fun s0 s1 s2 K => by
    unfold owns held scr body
    rw [cc0_diff_attention_eq_skeleton]; unfold cc0_diff_attention_skel
    iintro ⟨⟨H0, H1, H2, H3, H4, HT0, HT1⟩, ⟨%d5, %f5, -, HO5⟩, ⟨HS0, HS1, HS2⟩, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | exact hc0 | exact hc1 | exact hc2)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; iexact HO5
    isplitl [HS0]; · iexact HS0
    isplitl [HS1]; · iexact HS1
    iexact HS2⟩

set_option backward.proofsInPublic true in
set_option maxHeartbeats 8000000 in
/-- The first key block of a later query block: the scratch is initialised and the unmasked block is folded in. -/
def runFirst (hc0 : isFirst (wK i T1)) (hc1 : isBefore (wQ i T0) (wK i T1)) (hc2 : ¬(k0_cond3 (wQ i T0) (wK i T1) = 1#1)) :
    Σ' (r0 : BufM F c) (r1 : BufL F c), { r2 : BufA F c //
      ∀ (s0 : BufM F c) (s1 : BufL F c) (s2 : BufA F c) (y : S512x2048.Idx → Elt F .bf16) (K : PUnit → sProp 𝕄),
        iprop(held c a5 a6 a7 a8 a9 T0 T1 x0 x1 x2 x3 x4 ∗ owns (c : Thread nD τ) a10 fullShare y ∗ scr c s0 s1 s2
          ∗ (iprop(held c a5 a6 a7 a8 a9 T0 T1 x0 x1 x2 x3 x4 ∗ owns (c : Thread nD τ) a10 fullShare y ∗ scr c r0 r1 r2) -∗ K ⟨⟩))
          ⊢ wp frame (wpE (defs₀ (F := F)) Variants.none c none) Set.univ (body i a5 h5 a6 h6 a7 h7 a8 h8 a9 h9 a10 h10) K } :=
  ⟨_, _, _, fun s0 s1 s2 y K => by
    unfold owns held scr body
    rw [cc0_diff_attention_eq_skeleton]; unfold cc0_diff_attention_skel
    iintro ⟨⟨H0, H1, H2, H3, H4, HT0, HT1⟩, ⟨%f5, %hf5, HO5⟩, ⟨HS0, HS1, HS2⟩, Hk⟩
    obtain rfl := h10.eq_unread hf5
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | exact hc0 | exact hc1 | exact hc2)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; isplitr; · ipureintro; exact h10.read_unread _
      iexact HO5
    isplitl [HS0]; · iexact HS0
    isplitl [HS1]; · iexact HS1
    iexact HS2⟩

set_option backward.proofsInPublic true in
set_option maxHeartbeats 8000000 in
/-- The diagonal key block: the masked block is folded in and the output is stored. -/
def runLast (s0 : BufM F c) (s1 : BufL F c) (s2 : BufA F c) (hc0 : ¬isFirst (wK i T1)) (hc1 : ¬isBefore (wQ i T0) (wK i T1)) (hc2 : k0_cond3 (wQ i T0) (wK i T1) = 1#1) :
    Σ' (o : List (View.Piece (Elt F) S512x2048 .bf16)) (r0 : BufM F c) (r1 : BufL F c), { r2 : BufA F c //
      ∀ (K : PUnit → sProp 𝕄),
        iprop(held c a5 a6 a7 a8 a9 T0 T1 x0 x1 x2 x3 x4 ∗ (∃ d, owns (c : Thread nD τ) a10 fullShare d) ∗ scr c s0 s1 s2
          ∗ (iprop(held c a5 a6 a7 a8 a9 T0 T1 x0 x1 x2 x3 x4 ∗ (∃ f, a10.view.loc (c : Thread nD τ) ↦[a10.view.set]{fullShare} a10.view.writes (Elt F) f o) ∗ scr c r0 r1 r2) -∗ K ⟨⟩))
          ⊢ wp frame (wpE (defs₀ (F := F)) Variants.none c none) Set.univ (body i a5 h5 a6 h6 a7 h7 a8 h8 a9 h9 a10 h10) K } :=
  ⟨_, _, _, _, fun K => by
    unfold owns held scr body
    rw [cc0_diff_attention_eq_skeleton]; unfold cc0_diff_attention_skel
    iintro ⟨⟨H0, H1, H2, H3, H4, HT0, HT1⟩, ⟨%d5, %f5, -, HO5⟩, ⟨HS0, HS1, HS2⟩, Hk⟩
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | exact hc0 | exact hc1 | exact hc2)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; iexact HO5
    isplitl [HS0]; · iexact HS0
    isplitl [HS1]; · iexact HS1
    iexact HS2⟩

set_option backward.proofsInPublic true in
set_option maxHeartbeats 8000000 in
/-- A key block strictly between: the unmasked block is folded in. -/
def runMid (s0 : BufM F c) (s1 : BufL F c) (s2 : BufA F c) (hc0 : ¬isFirst (wK i T1)) (hc1 : isBefore (wQ i T0) (wK i T1)) (hc2 : ¬(k0_cond3 (wQ i T0) (wK i T1) = 1#1)) :
    Σ' (r0 : BufM F c) (r1 : BufL F c), { r2 : BufA F c //
      ∀ (y : S512x2048.Idx → Elt F .bf16) (K : PUnit → sProp 𝕄),
        iprop(held c a5 a6 a7 a8 a9 T0 T1 x0 x1 x2 x3 x4 ∗ owns (c : Thread nD τ) a10 fullShare y ∗ scr c s0 s1 s2
          ∗ (iprop(held c a5 a6 a7 a8 a9 T0 T1 x0 x1 x2 x3 x4 ∗ owns (c : Thread nD τ) a10 fullShare y ∗ scr c r0 r1 r2) -∗ K ⟨⟩))
          ⊢ wp frame (wpE (defs₀ (F := F)) Variants.none c none) Set.univ (body i a5 h5 a6 h6 a7 h7 a8 h8 a9 h9 a10 h10) K } :=
  ⟨_, _, _, fun y K => by
    unfold owns held scr body
    rw [cc0_diff_attention_eq_skeleton]; unfold cc0_diff_attention_skel
    iintro ⟨⟨H0, H1, H2, H3, H4, HT0, HT1⟩, ⟨%f5, %hf5, HO5⟩, ⟨HS0, HS1, HS2⟩, Hk⟩
    obtain rfl := h10.eq_unread hf5
    have hS0 : scM.IsWhole := Memref.isWhole_whole _
    have hS1 : scL.IsWhole := Memref.isWhole_whole _
    have hS2 : scA.IsWhole := Memref.isWhole_whole _
    have hT0 : tbQ.IsWhole := Memref.isWhole_whole _
    have hT1 : tbK.IsWhole := Memref.isWhole_whole _
    sl_exec! (disch := first | exact hc0 | exact hc1 | exact hc2)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; isplitr; · ipureintro; exact h10.read_unread _
      iexact HO5
    isplitl [HS0]; · iexact HS0
    isplitl [HS1]; · iexact HS1
    iexact HS2⟩

end Cert.KernelIdeal.Attn

end
-- ==== Proof.AttnTables.lean ====
module

public import proofs.«01_k».proof.Proof.AttnRuns

@[expose] public section

/-! The two tables' contents, the pipeline at them, and what is decided of each of its 272 points. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI Idealize.SL.Sem

variable {F : FTy → Type} [FloatOps F]

/-- Table 0: the query block of each pair; table 1: its key block. -/
def tab0 : S136.Idx → BitVec 32 := fun x => lit0 (S136.rowMajor x)
def tab1 : S136.Idx → BitVec 32 := fun x => lit1 (S136.rowMajor x)

set_option backward.proofsInPublic true in
/-- The tables' contents, for any float values. -/
def pfN (F : FTy → Type) [FloatOps F] : pre0.Contents (Elt F) := fun | ⟨0, _⟩ => tab0 | ⟨1, _⟩ => tab1 | ⟨_ + 2, h⟩ => absurd h (by simp)

theorem inb_0 : ∀ i : grid0.Coords, ∀ a, (cc0_transform_0 k0_off1_inb numel1_S1 (pfN F) i a + 1) * S512x2048.size a ≤ S16384x2048.size a := of_decide_eq_true (by sl_kernel_rfl)
theorem inb_1 : ∀ i : grid0.Coords, ∀ a, (cc0_transform_1 k0_off1_inb numel1_S1 (pfN F) i a + 1) * S512x2048.size a ≤ S16384x2048.size a := of_decide_eq_true (by sl_kernel_rfl)
theorem inb_2 : ∀ i : grid0.Coords, ∀ a, (cc0_transform_2 k0_off1_inb numel1_S1 (pfN F) i a + 1) * S1x2048x512.size a ≤ S32x2048x512.size a := of_decide_eq_true (by sl_kernel_rfl)
theorem inb_5 : ∀ i : grid0.Coords, ∀ a, (cc0_transform_5 k0_off1_inb numel1_S1 (pfN F) i a + 1) * S512x2048.size a ≤ S16384x2048.size a := of_decide_eq_true (by sl_kernel_rfl)

theorem pf_ok : ok0 (pfN F) :=
  ⟨fun i => ⟨inb_0 i, .inr (Affine.block_words_dvd (by decide) (by decide))⟩,
   fun i => ⟨inb_1 i, .inr (Affine.block_words_dvd (by decide) (by decide))⟩,
   fun i => ⟨inb_2 i, .inr (Affine.block_words_dvd (by decide) (by decide))⟩,
   fun i => ⟨inb_5 i, .inr (Affine.block_words_dvd (by decide) (by decide))⟩⟩

/-- The pipeline at the tables. -/
def adm (F : FTy → Type) [FloatOps F] : (pcfg0 (F := F)).Adm := ⟨pfN F, pf_ok⟩
abbrev cfgA (F : FTy → Type) [FloatOps F] : Pipeline.Cfg sig Λ₀ := cfg0 (F := F) (adm F)
abbrev pcs (F : FTy → Type) [FloatOps F] : Fin 1 → Pipeline.Cfg sig Λ₀ := Pipeline.pin (pcfgs (F := F)) fun _ => adm F

/-- Point `t`'s coordinates. -/
abbrev crd (t : Fin (cfgA F).N) : grid0.Coords := (cfgA F).grid.coords t

/-- The staging buffers at point `t`. -/
abbrev ms0 (t : Fin (cfgA F).N) : Memref sig .tc .vmem S512x2048 .bf16 := spec0_0.stage ((cfgA F).slots t (0 : Fin 6))
abbrev hs0 (t : Fin (cfgA F).N) : (ms0 t).IsWhole := hstage0_0 (((cfgA F).slots t (0 : Fin 6)).cast nbuf0_0)
abbrev ms1 (t : Fin (cfgA F).N) : Memref sig .tc .vmem S512x2048 .bf16 := spec0_1.stage ((cfgA F).slots t (1 : Fin 6))
abbrev hs1 (t : Fin (cfgA F).N) : (ms1 t).IsWhole := hstage0_1 (((cfgA F).slots t (1 : Fin 6)).cast nbuf0_1)
abbrev ms2 (t : Fin (cfgA F).N) : Memref sig .tc .vmem S1x2048x512 .bf16 := spec0_2.stage ((cfgA F).slots t (2 : Fin 6))
abbrev hs2 (t : Fin (cfgA F).N) : (ms2 t).IsWhole := hstage0_2 (((cfgA F).slots t (2 : Fin 6)).cast nbuf0_2)
abbrev ms3 (t : Fin (cfgA F).N) : Memref sig .tc .vmem S4x128 .f32 := spec0_3.stage ((cfgA F).slots t (3 : Fin 6))
abbrev hs3 (t : Fin (cfgA F).N) : (ms3 t).IsWhole := hstage0_3 (((cfgA F).slots t (3 : Fin 6)).cast nbuf0_3)
abbrev ms4 (t : Fin (cfgA F).N) : Memref sig .tc .vmem S256x1 .f32 := spec0_4.stage ((cfgA F).slots t (4 : Fin 6))
abbrev hs4 (t : Fin (cfgA F).N) : (ms4 t).IsWhole := hstage0_4 (((cfgA F).slots t (4 : Fin 6)).cast nbuf0_4)
abbrev ms5 (t : Fin (cfgA F).N) : Memref sig .tc .vmem S512x2048 .bf16 := spec0_5.stage ((cfgA F).slots t (5 : Fin 6))
abbrev hs5 (t : Fin (cfgA F).N) : (ms5 t).IsWhole := hstage0_5 (((cfgA F).slots t (5 : Fin 6)).cast nbuf0_5)

/-- The query block's number and the key block's number at position `p` of the tables. -/
def qiN (p : ℕ) : ℕ := (lit0 (Fin.ofNat 136 p)).toNat
def kjN (p : ℕ) : ℕ := (lit1 (Fin.ofNat 136 p)).toNat

/-- Everything decided at point `t`: the words it reads and the blocks it moves, as functions of its position in the
    tables; which of the body's three decisions hold; when the output is stored and written back. -/
def FactsAt (F : FTy → Type) [FloatOps F] (t : Fin (cfgA F).N) : Prop :=
  (isFirst (wK (F := F) (crd t) tab1) ↔ kjN t.val = 0) ∧ (isBefore (wQ (F := F) (crd t) tab0) (wK (F := F) (crd t) tab1) ↔ kjN t.val < qiN t.val)
  ∧ (k0_cond3 (wQ (F := F) (crd t) tab0) (wK (F := F) (crd t) tab1) = 1#1 ↔ ¬kjN t.val < qiN t.val)
  ∧ kjN t.val ≤ qiN t.val ∧ qiN t.val < 16
  ∧ (cfgA F).idle (5 : Fin 6) ((cfgA F).grid.coords t) = decide (kjN t.val < qiN t.val)
  ∧ ((cfgA F).win (5 : Fin 6)).flush t = !decide (kjN t.val < qiN t.val)
  ∧ (kjN t.val ≠ 0 → t.val ≠ 0 ∧ (t.val - 1) / 136 = t.val / 136 ∧ kjN (t.val - 1) + 1 = kjN t.val ∧ qiN (t.val - 1) = qiN t.val)
  ∧ (∀ a, cc0_transform_0 k0_off1_inb numel1_S1 (pfN F) (crd t) a = ![16 * (t.val / 136) + qiN t.val, 0] a)
  ∧ (∀ a, cc0_transform_1 k0_off1_inb numel1_S1 (pfN F) (crd t) a = ![16 * (t.val / 136) + kjN t.val, 0] a)
  ∧ (∀ a, cc0_transform_2 k0_off1_inb numel1_S1 (pfN F) (crd t) a = ![16 * (t.val / 136) + kjN t.val, 0, 0] a)
  ∧ (∀ a, cc0_transform_5 k0_off1_inb numel1_S1 (pfN F) (crd t) a = ![16 * (t.val / 136) + qiN t.val, 0] a)

set_option synthInstance.maxSize 65536 in
set_option synthInstance.maxHeartbeats 400000 in
instance FactsAt.dec (t : Fin (cfgA F).N) : Decidable (FactsAt F t) := by
  unfold FactsAt; infer_instance

theorem facts_a : ∀ t : Fin (cfgA F).N, t.val < 68 → FactsAt F t := of_decide_eq_true (by sl_kernel_rfl)
theorem facts_b : ∀ t : Fin (cfgA F).N, 68 ≤ t.val → t.val < 136 → FactsAt F t := of_decide_eq_true (by sl_kernel_rfl)
theorem facts_c : ∀ t : Fin (cfgA F).N, 136 ≤ t.val → t.val < 204 → FactsAt F t := of_decide_eq_true (by sl_kernel_rfl)
theorem facts_d : ∀ t : Fin (cfgA F).N, 204 ≤ t.val → FactsAt F t := of_decide_eq_true (by sl_kernel_rfl)

/-- The facts at every point. -/
theorem facts_all (t : Fin (cfgA F).N) : FactsAt F t := by
  rcases Nat.lt_or_ge t.val 68 with h | h; · exact facts_a t h
  rcases Nat.lt_or_ge t.val 136 with h' | h'; · exact facts_b t h h'
  rcases Nat.lt_or_ge t.val 204 with h'' | h''; · exact facts_c t h' h''
  exact facts_d t h''

/-- The last pair of each query block: every block of the output is stored at one point. -/
theorem diag_point : ∀ b < 2, ∀ i < 16, ∃ t < 272, t / 136 = b ∧ qiN t = i ∧ kjN t = i := of_decide_eq_true (by sl_kernel_rfl)

end Cert.KernelIdeal.Attn

end
-- ==== Proof.AttnStep.lean ====
module

public import proofs.«01_k».proof.Proof.AttnTables
public import Idealize.ShloMosaic.Lib.Pipeline.Quiescent
public import Idealize.ShloMosaic.Lib.Claim

@[expose] public section

/-! What the attention call's scratch and its output hold after each of the 272 points, and the pipeline's proof data. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (c : Dev nD)

/-- What each buffer holds when the call begins: after the host's lines. -/
def V (b : Ref sig .tc) : Buf (Elt F) ((c : Thread nD τ).loc b) := StableHlo.after hostOps0 (fun b => m (c, b)) b

/-- Window `w`'s block at point `t`. -/
def iblk (w : Fin 6) (t : Fin (cfgA F).N) : (((cfgA F).win w).xblock (crd t)).Idx → Elt F ((cfgA F).win w).elt :=
  (((cfgA F).win w).blk t).view.read (Elt F) (V m c (Pipeline.arrRef spec0 w))

/-- What the three scratch buffers hold together. -/
abbrev St (F : FTy → Type) (c : Dev nD) : Type := BufM F c × BufL F c × BufA F c

/-- One point: the pieces it stores in the output block (none at a point that leaves it) and the scratch after it, from
    the scratch before it. -/
def stp (t : Fin (cfgA F).N) (s : St F c) : List (View.Piece (Elt F) S512x2048 .bf16) × St F c :=
  if hb : kjN t.val < qiN t.val then
    if h0 : kjN t.val = 0 then
      ([], (fun r => (r.1, r.2.1, r.2.2.1)) (runFirst c (crd t) (ms0 t) (hs0 t) (ms1 t) (hs1 t) (ms2 t) (hs2 t) (ms3 t) (hs3 t) (ms4 t) (hs4 t) (ms5 t) (hs5 t) tab0 tab1
        (iblk m c 0 t) (iblk m c 1 t) (iblk m c 2 t) (iblk m c 3 t) (iblk m c 4 t)
        ((facts_all t).1.2 h0) ((facts_all t).2.1.2 hb) (fun h => (facts_all t).2.2.1.1 h hb)))
    else
      ([], (fun r => (r.1, r.2.1, r.2.2.1)) (runMid c (crd t) (ms0 t) (hs0 t) (ms1 t) (hs1 t) (ms2 t) (hs2 t) (ms3 t) (hs3 t) (ms4 t) (hs4 t) (ms5 t) (hs5 t) tab0 tab1
        (iblk m c 0 t) (iblk m c 1 t) (iblk m c 2 t) (iblk m c 3 t) (iblk m c 4 t) s.1 s.2.1 s.2.2
        (fun h => h0 ((facts_all t).1.1 h)) ((facts_all t).2.1.2 hb) (fun h => (facts_all t).2.2.1.1 h hb)))
  else
    if h0 : kjN t.val = 0 then
      (fun r => (r.1, r.2.1, r.2.2.1, r.2.2.2.1)) (runFirstLast c (crd t) (ms0 t) (hs0 t) (ms1 t) (hs1 t) (ms2 t) (hs2 t) (ms3 t) (hs3 t) (ms4 t) (hs4 t) (ms5 t) (hs5 t) tab0 tab1
        (iblk m c 0 t) (iblk m c 1 t) (iblk m c 2 t) (iblk m c 3 t) (iblk m c 4 t)
        ((facts_all t).1.2 h0) (fun h => hb ((facts_all t).2.1.1 h)) ((facts_all t).2.2.1.2 hb))
    else
      (fun r => (r.1, r.2.1, r.2.2.1, r.2.2.2.1)) (runLast c (crd t) (ms0 t) (hs0 t) (ms1 t) (hs1 t) (ms2 t) (hs2 t) (ms3 t) (hs3 t) (ms4 t) (hs4 t) (ms5 t) (hs5 t) tab0 tab1
        (iblk m c 0 t) (iblk m c 1 t) (iblk m c 2 t) (iblk m c 3 t) (iblk m c 4 t) s.1 s.2.1 s.2.2
        (fun h => h0 ((facts_all t).1.1 h)) (fun h => hb ((facts_all t).2.1.1 h)) ((facts_all t).2.2.1.2 hb))

/-- The scratch before point `n` (anything before the first). -/
def prv : (n : ℕ) → n ≤ (cfgA F).N → St F c
  | 0, _ => (scM.view.junk, scL.view.junk, scA.view.junk)
  | n + 1, h => (stp m c ⟨n, h⟩ (prv n (Nat.le_of_lt h))).2

/-- The pieces stored at point `t`. -/
def outs (t : Fin (cfgA F).N) : List (View.Piece (Elt F) S512x2048 .bf16) := (stp m c t (prv m c t.val t.isLt.le)).1

/-- The output block as a memory of its own, to read the stored pieces back from. -/
abbrev VO : View sig .tc .vmem S512x2048 .bf16 := (Memref.whole cc0_stg5_0 : Memref sig .tc .vmem S512x2048 .bf16).view

/-- At a point that stores the output, the pieces cover the block. -/
theorem cover_outs (t : Fin (cfgA F).N) (s : St F c) (hb : ¬kjN t.val < qiN t.val) (y : S512x2048.Idx) :
    ∃ p ∈ (stp m c t s).1, y ∈ p.1.set := by
  unfold stp
  rw [dif_neg hb]
  by_cases h0 : kjN t.val = 0
  · rw [dif_pos h0]
    exact View.cover_of_tiledL (s := S512x2048) _ S512x256.size (by sl_kernel_rfl) y
  · rw [dif_neg h0]
    exact View.cover_of_tiledL (s := S512x2048) _ S512x256.size (by sl_kernel_rfl) y

/-- The body at point `t`. -/
abbrev bodyAt (t : Fin (cfgA F).N) : Prog (TpuEff nD τ sig (Elt F) Λ₀ .tc) PUnit :=
  body (crd t) (ms0 t) (hs0 t) (ms1 t) (hs1 t) (ms2 t) (hs2 t) (ms3 t) (hs3 t) (ms4 t) (hs4 t) (ms5 t) (hs5 t)

/-- What the body reads at point `t`. -/
abbrev heldAt (t : Fin (cfgA F).N) : sProp 𝕄 :=
  held c (ms0 t) (ms1 t) (ms2 t) (ms3 t) (ms4 t) tab0 tab1 (iblk m c 0 t) (iblk m c 1 t) (iblk m c 2 t) (iblk m c 3 t) (iblk m c 4 t)

/-- A point that leaves the output. -/
theorem wp_idle (t : Fin (cfgA F).N) (hb : kjN t.val < qiN t.val) (s p : St F c) (hs : t.val ≠ 0 → s = p)
    (y : S512x2048.Idx → Elt F .bf16) (K : PUnit → sProp 𝕄) :
    iprop(heldAt m c t ∗ owns (c : Thread nD τ) (ms5 t) fullShare y ∗ scr c s.1 s.2.1 s.2.2
      ∗ (iprop(heldAt m c t ∗ owns (c : Thread nD τ) (ms5 t) fullShare y ∗ scr c (stp m c t p).2.1 (stp m c t p).2.2.1 (stp m c t p).2.2.2) -∗ K ⟨⟩))
      ⊢ wp frame (wpE (defs₀ (F := F)) Variants.none c none) Set.univ (bodyAt t) K := by
  unfold stp
  rw [dif_pos hb]
  by_cases h0 : kjN t.val = 0
  · rw [dif_pos h0]
    generalize runFirst c (crd t) (ms0 t) (hs0 t) (ms1 t) (hs1 t) (ms2 t) (hs2 t) (ms3 t) (hs3 t) (ms4 t) (hs4 t) (ms5 t) (hs5 t) tab0 tab1
      (iblk m c 0 t) (iblk m c 1 t) (iblk m c 2 t) (iblk m c 3 t) (iblk m c 4 t)
      ((facts_all t).1.2 h0) ((facts_all t).2.1.2 hb) (fun h => (facts_all t).2.2.1.1 h hb) = r
    exact r.2.2.2 _ _ _ _ _
  · rw [dif_neg h0]
    obtain rfl := hs ((facts_all t).2.2.2.2.2.2.2.1 h0).1
    generalize runMid c (crd t) (ms0 t) (hs0 t) (ms1 t) (hs1 t) (ms2 t) (hs2 t) (ms3 t) (hs3 t) (ms4 t) (hs4 t) (ms5 t) (hs5 t) tab0 tab1
      (iblk m c 0 t) (iblk m c 1 t) (iblk m c 2 t) (iblk m c 3 t) (iblk m c 4 t)
      s.1 s.2.1 s.2.2 (fun h => h0 ((facts_all t).1.1 h)) ((facts_all t).2.1.2 hb) (fun h => (facts_all t).2.2.1.1 h hb) = r
    exact r.2.2.2 _ _

set_option maxHeartbeats 2000000 in
/-- A point that stores the output. -/
theorem wp_store (t : Fin (cfgA F).N) (hb : ¬kjN t.val < qiN t.val) (s p : St F c) (hs : t.val ≠ 0 → s = p) (K : PUnit → sProp 𝕄) :
    iprop(heldAt m c t ∗ (∃ d, owns (c : Thread nD τ) (ms5 t) fullShare d) ∗ scr c s.1 s.2.1 s.2.2
      ∗ (iprop(heldAt m c t ∗ (∃ f, (ms5 t).view.loc (c : Thread nD τ) ↦[(ms5 t).view.set]{fullShare} (ms5 t).view.writes (Elt F) f (stp m c t p).1)
        ∗ scr c (stp m c t p).2.1 (stp m c t p).2.2.1 (stp m c t p).2.2.2) -∗ K ⟨⟩))
      ⊢ wp frame (wpE (defs₀ (F := F)) Variants.none c none) Set.univ (bodyAt t) K := by
  unfold stp
  rw [dif_neg hb]
  by_cases h0 : kjN t.val = 0
  · rw [dif_pos h0]
    generalize runFirstLast c (crd t) (ms0 t) (hs0 t) (ms1 t) (hs1 t) (ms2 t) (hs2 t) (ms3 t) (hs3 t) (ms4 t) (hs4 t) (ms5 t) (hs5 t) tab0 tab1
      (iblk m c 0 t) (iblk m c 1 t) (iblk m c 2 t) (iblk m c 3 t) (iblk m c 4 t)
      ((facts_all t).1.2 h0) (fun h => hb ((facts_all t).2.1.1 h)) ((facts_all t).2.2.1.2 hb) = r
    exact r.2.2.2.2 _ _ _ _
  · rw [dif_neg h0]
    obtain rfl := hs ((facts_all t).2.2.2.2.2.2.2.1 h0).1
    generalize runLast c (crd t) (ms0 t) (hs0 t) (ms1 t) (hs1 t) (ms2 t) (hs2 t) (ms3 t) (hs3 t) (ms4 t) (hs4 t) (ms5 t) (hs5 t) tab0 tab1
      (iblk m c 0 t) (iblk m c 1 t) (iblk m c 2 t) (iblk m c 3 t) (iblk m c 4 t)
      s.1 s.2.1 s.2.2 (fun h => h0 ((facts_all t).1.1 h)) (fun h => hb ((facts_all t).2.1.1 h)) ((facts_all t).2.2.1.2 hb) = r
    exact r.2.2.2.2 _

theorem prv_succ (t : Fin (cfgA F).N) : prv m c (t.val + 1) t.isLt = (stp m c t (prv m c t.val t.isLt.le)).2 := rfl
theorem outs_eq (t : Fin (cfgA F).N) : outs m c t = (stp m c t (prv m c t.val t.isLt.le)).1 := rfl

attribute [irreducible] stp prv outs

/-- The invariant before point `n`: the scratch at what the points before it left, the body's halves of the tables and
    the core's random-number register. -/
def Phi (n : ℕ) (h : n ≤ (cfgA F).N) : sProp 𝕄 :=
  iprop((∃ s : St F c, ⌜n ≠ 0 → s = prv m c n h⌝ ∗ scr c s.1 s.2.1 s.2.2)
    ∗ (tbQ.view.loc (c : Thread nD τ) ↦{fullShare.right} (tab0 : S136.Idx → Elt F .i32)) ∗ (tbK.view.loc (c : Thread nD τ) ↦{fullShare.right} (tab1 : S136.Idx → Elt F .i32))
    ∗ ∃ r, prngReg c r)

/-- The pipeline's proof data. -/
def dats (_ : Fin 1) (c : Dev nD) : Dat τ (Elt F) Unit ℕ (UR sig nD τ) ℕ (cfgA F) c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => VO.read (Elt F) (VO.writes (Elt F) VO.junk (outs m c t))
  Φ t := Phi m c t.val (Nat.lt_succ_iff.1 t.isLt)
  q _ := fullShare
  owed _ := 0

theorem phi_at (t : Fin ((cfgA F).N + 1)) : (dats m 0 c).Φ t = Phi m c t.val (Nat.lt_succ_iff.1 t.isLt) := rfl
theorem phi_congr {a b : ℕ} (h : a = b) (ha : a ≤ (cfgA F).N) (hb : b ≤ (cfgA F).N) : Phi m c a ha = Phi m c b hb := by subst h; rfl
theorem phi_castSucc (t : Fin (cfgA F).N) : (dats m 0 c).Φ t.castSucc = Phi m c t.val t.isLt.le := (phi_at m c _).trans (phi_congr m c (Fin.val_castSucc t) _ _)
theorem phi_succ (t : Fin (cfgA F).N) : (dats m 0 c).Φ t.succ = Phi m c (t.val + 1) t.isLt := (phi_at m c _).trans (phi_congr m c (Fin.val_succ t) _ _)
theorem phi_zero : (dats m 0 c).Φ 0 = Phi m c 0 (Nat.zero_le _) := (phi_at m c _).trans (phi_congr m c rfl _ _)

theorem after_0 (t : Fin (cfgA F).N) : (dats m 0 c).after (0 : Fin 6) t = iblk m c (0 : Fin 6) t := rfl
theorem after_1 (t : Fin (cfgA F).N) : (dats m 0 c).after (1 : Fin 6) t = iblk m c (1 : Fin 6) t := rfl
theorem after_2 (t : Fin (cfgA F).N) : (dats m 0 c).after (2 : Fin 6) t = iblk m c (2 : Fin 6) t := rfl
theorem after_3 (t : Fin (cfgA F).N) : (dats m 0 c).after (3 : Fin 6) t = iblk m c (3 : Fin 6) t := rfl
theorem after_4 (t : Fin (cfgA F).N) : (dats m 0 c).after (4 : Fin 6) t = iblk m c (4 : Fin 6) t := rfl
theorem after_5 (t : Fin (cfgA F).N) : (dats m 0 c).after (5 : Fin 6) t = VO.read (Elt F) (VO.writes (Elt F) VO.junk (outs m c t)) := rfl

theorem before_0 (t : Fin (cfgA F).N) (d) : (dats m 0 c).before (0 : Fin 6) t d = iblk m c (0 : Fin 6) t :=
  ((dats m 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (t : Fin (cfgA F).N) (d) : (dats m 0 c).before (1 : Fin 6) t d = iblk m c (1 : Fin 6) t :=
  ((dats m 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (t : Fin (cfgA F).N) (d) : (dats m 0 c).before (2 : Fin 6) t d = iblk m c (2 : Fin 6) t :=
  ((dats m 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (t : Fin (cfgA F).N) (d) : (dats m 0 c).before (3 : Fin 6) t d = iblk m c (3 : Fin 6) t :=
  ((dats m 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (t : Fin (cfgA F).N) (d) : (dats m 0 c).before (4 : Fin 6) t d = iblk m c (4 : Fin 6) t :=
  ((dats m 0 c).before_in_eq_fetched (4 : Fin 6) rfl (fun _ => rfl) (fun _ _ _ => rfl) (fun t => by rw [after_4]; unfold Dat.blockOf iblk; rfl) t d).trans
    (by unfold Dat.fetched Dat.blockOf iblk; rfl)

/-- Before any point the output's staging buffer holds nothing yet to be written back. -/
theorem fresh_5 (n : ℕ) (h : n ≤ (cfgA F).N) : (cfgA F).fresh (5 : Fin 6) n = true :=
  Pipeline.Cfg.fresh_tab (cfgA F) (5 : Fin 6) (fun _ => true) rfl
    (fun t => by
      obtain ⟨-, -, -, -, -, hi, hf, -⟩ := facts_all (F := F) t
      rw [hi, hf]; by_cases hb : kjN t.val < qiN t.val <;> simp [hb]) n h

theorem before_5 (t : Fin (cfgA F).N) (d) : (dats m 0 c).before (5 : Fin 6) t d = d := by
  rw [(dats m 0 c).before_out_traj (5 : Fin 6) rfl (fun _ _ => rfl)
    (fun t _ _ hf => absurd (fresh_5 (F := F) t.val t.isLt.le) (by rw [hf]; decide)) t.val t rfl d, fresh_5 (F := F) t.val t.isLt.le]
  rfl

end Cert.KernelIdeal.Attn

end
-- ==== Proof.AttnFrame.lean ====
module

public import proofs.«01_k».proof.Proof.AttnStep
public import Idealize.ShloMosaic.Lib.Pipeline.Quiescent
public import Idealize.ShloMosaic.Lib.Claim

@[expose] public section

/-! The attention call's run: the body's obligation at each point and the whole program from the launch to the end, for any float values. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (c : Dev nD)

set_option maxHeartbeats 4000000 in
/-- The body's obligation at point `t`. -/
theorem sound_body (t : Fin (cfgA F).N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  obtain ⟨-, -, -, -, -, hi, hf, -⟩ := facts_all (F := F) t
  rewrite [phi_succ, phi_castSucc,
    show (dats m 0 c).owesAt () t.succ = (dats m 0 c).owesAt () t.castSucc from rfl]
  by_cases hb : kjN t.val < qiN t.val
  · rw [decide_eq_true hb] at hi hf
    rewrite [hi]
    simp only [before_0, before_1, before_2, before_3, before_4, before_5, after_0, after_1, after_2, after_3, after_4, after_5, hf, Bool.not_true]
    unfold Phi
    iintro ⟨⟨⟨%s, %hs, HS⟩, HT0, HT1, HR⟩, Ho, ⟨%d0, H0⟩, ⟨%d1, H1⟩, ⟨%d2, H2⟩, ⟨%d3, H3⟩, ⟨%d4, H4⟩, ⟨%d5, H5⟩⟩
    iapply (wp_idle m c t hb s (prv m c t.val t.isLt.le) hs d5)
    unfold heldAt held
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexact H5
    isplitl [HS]; · iexact HS
    iintro ⟨⟨H0, H1, H2, H3, H4, HT0, HT1⟩, H5, HS⟩
    isplitl [HS HT0 HT1 HR]
    · isplitl [HS]
      · iexists (stp m c t (prv m c t.val t.isLt.le)).2; isplitr; swap
        · iexact HS
        · ipureintro; intro _; exact (prv_succ m c t).symm
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · rw [decide_eq_false hb] at hi hf
    rewrite [hi]
    simp only [before_0, before_1, before_2, before_3, before_4, before_5, after_0, after_1, after_2, after_3, after_4, after_5, hf, Bool.not_false]
    unfold Phi
    iintro ⟨⟨⟨%s, %hs, HS⟩, HT0, HT1, HR⟩, Ho, ⟨%d0, H0⟩, ⟨%d1, H1⟩, ⟨%d2, H2⟩, ⟨%d3, H3⟩, ⟨%d4, H4⟩, H5⟩
    iapply (wp_store m c t hb s (prv m c t.val t.isLt.le) hs)
    unfold heldAt held
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexact H5
    isplitl [HS]; · iexact HS
    iintro ⟨⟨H0, H1, H2, H3, H4, HT0, HT1⟩, ⟨%e5, H5⟩, HS⟩
    isplitl [HS HT0 HT1 HR]
    · isplitl [HS]
      · iexists (stp m c t (prv m c t.val t.isLt.le)).2; isplitr; swap
        · iexact HS
        · ipureintro; intro _; exact (prv_succ m c t).symm
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; rw [outs_eq]; exact View.read_writes_of_cover _ _ _ _ _ (cover_outs m c t _ hb)

theorem body_obligation : BodyObligation (dats m 0 c) (defs₀ (F := F)) Variants.none () Set.univ := fun t => by
  rw [bigSep_W0]
  exact sound_body m c t

theorem share_eq (w : Fin (cfgA F).W) : (dats m 0 c).share w = fullShare := by unfold Dat.share; split <;> rfl

/-- The tables as the region receives them, one by one. -/
theorem prefHeld_eq (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_intro : iprop(Pipeline.ΦA spec0 c ∗ Pipeline.ΦT pre0 (adm F).1 c) ⊢ (dats m 0 c).Φ 0 := by
  unfold Pipeline.ΦA
  rw [show Pipeline.ΦT (U := UR sig nD τ) pre0 (adm F).1 c = _ from prefHeld_eq c _ _, scopedRest0_eq, phi_zero]
  unfold Phi scr
  iintro ⟨⟨⟨⟨%a0, HS0⟩, ⟨%a1, HS1⟩, ⟨%a2, HS2⟩⟩, HR⟩, ⟨HT0, HT1⟩⟩
  isplitl [HS0 HS1 HS2]
  · iexists ((a0, a1, a2) : St F c); isplitr
    · ipureintro; intro h; exact absurd rfl h
    isplitl [HS0]; · iexact HS0
    isplitl [HS1]; · iexact HS1
    iexact HS2
  isplitl [HT0]; · iexact HT0
  isplitl [HT1]; · iexact HT1
  iexact HR

theorem phi_exit : (dats m 0 c).Φ (Fin.last (cfgA F).N) ⊢ Pipeline.ΦA spec0 c := by
  unfold Pipeline.ΦA
  rw [scopedRest0_eq, phi_at]
  unfold Phi scr
  iintro ⟨⟨%s, -, HS0, HS1, HS2⟩, -, -, HR⟩
  isplitr [HR]; swap; · iexact HR
  isplitl [HS0]; · iexists s.1; iexact HS0
  isplitl [HS1]; · iexists s.2.1; iexact HS1
  iexists s.2.2; iexact HS2

end Cert.KernelIdeal.Attn

end
-- ==== Proof.AttnRun.lean ====
module

public import proofs.«01_k».proof.Proof.AttnFrame

@[expose] public section

/-! The whole program's run: the host's lines, the call, and what memory holds at the end, for any float values. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open Idealize.SL.Sem
open Idealize.ShloMosaic.Pipeline (Dat Cfg Window BodyObligation BodyObligationLoose cellOf)

variable {F : FTy → Type} [FloatOps F]
variable (m : (ℓ : Loc nD τ sig) → Buf (Elt F) ℓ) (g : Dev nD → PrngReg)

theorem hostOps0_fresh : (hostOps0 : List (HloOp τ sig (Elt F))).Forall fun op => op.fresh = ∅ := by
  simp only [List.Forall]; repeat' constructor

/-- The buffers the host's lines write, in order. -/
abbrev hostW : List (Ref sig .tc) := [main_c, main_c_0, main_cst, main_v0, main_cst_1, main_v1, main_v2, main_cst_2, main_v3, main_v4, main_v5, main_v6, main_v7, main_v8, main_v9, main_v10, main_v11]
theorem host_writes : (hostOps0 : List (HloOp τ sig (Elt F))).Forall fun op => op.writes ⊆ (hostW.map (Proc.devRef (τ := τ) .tc)).toFinset :=
  StableHlo.forall_writes_sub_of_map rfl

/-- A buffer the host's lines do not write is as it was. -/
theorem V_of (c : Dev nD) (b : Ref sig .tc) (hb : b ∉ hostW) : V m c b = m ((c : Thread nD τ).loc b) :=
  StableHlo.after_of_writes_sub hostOps0 _ host_writes hb

theorem V_main_c (c : Dev nD) : V m c main_c = (tab0 : S136.Idx → Elt F .i32) := by
  unfold V hostOps0
  after_results
  try rfl

theorem V_main_c_0 (c : Dev nD) : V m c main_c_0 = (tab1 : S136.Idx → Elt F .i32) := by
  unfold V hostOps0
  after_results
  try rfl

theorem tables (c : Dev nD) (k : Fin 2) : V m c (pre0.ref k) = (adm F).1 k := by
  match k with
  | 0 => exact V_main_c m c
  | 1 => exact V_main_c_0 m c

/-- The run: it ends, each window's array at its contents after the last write-back, every other buffer as when the call began. -/
theorem run_post : θ_run defs (onTc (τ := τ) (main (F := F))) ⟨m, fun _ => 0, g⟩
    fun r => Pipeline.FramePost (Pipeline.pin (pcfgs (F := F)) fun _ => adm F) (dats m) 0 (V m) r ∧ r.2.sem = fun _ => 0 :=
  Pipeline.θ_run_frameP_track (pcfgs (F := F)) (fun _ => adm F) (dats m) 0 launch0 defs₀ Variants.none m g main
    (fun c => (body_obligation m c).loose) (share_eq m) (fun _ _ => rfl) (V m)
    (Pipeline.hmainP_prefix pcfgs 0 defs₀ Variants.none m main hostOps0 hostOps0_sub hostOps0_fresh main_chain)
    (fun _ _ => rfl) (tables m) (phi_intro m) (phi_exit m) _ (fun _ h => h)

/-- The run read at the program's result and its arguments: the result at the output window's array, the arguments unchanged. -/
theorem run_main : θ_run defs (onTc (τ := τ) (main (F := F))) ⟨m, fun _ => 0, g⟩
    fun r => (∀ c : Dev nD, r.2.mem ((c.tc : Thread nD τ).loc main_v12) = (dats m 0 c).arrAt (5 : Fin 6) (cfgA F).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h.1 c).1 (5 : Fin 6),
    ((h.1 c).2 main_arg0 (by decide : main_arg0 ∈ Pipeline.restRefs sig spec0)).trans (V_of m c main_arg0 (by decide)),
    ((h.1 c).2 main_arg1 (by decide : main_arg1 ∈ Pipeline.restRefs sig spec0)).trans (V_of m c main_arg1 (by decide)),
    ((h.1 c).2 main_arg2 (by decide : main_arg2 ∈ Pipeline.restRefs sig spec0)).trans (V_of m c main_arg2 (by decide)),
    (((h.1 c).1 (3 : Fin 6)).trans ((dats m 0 c).arrAt_in (3 : Fin 6) rfl _)).trans (V_of m c main_arg3 (by decide)),
    ((h.1 c).2 main_arg4 (by decide : main_arg4 ∈ Pipeline.restRefs sig spec0)).trans (V_of m c main_arg4 (by decide))⟩, h.2⟩) (run_post m g)

end Cert.KernelIdeal.Attn

end
-- ==== Proof.FrameKernel.lean ====
module

public import proofs.«01_k».proof.Defs
public import proofs.«01_k».proof.Proof.AttnRun
public import proofs.«01_k».proof.Proof.Gen.Kernel

@[expose] public section

/-! The frame of the kernel over machine floats: the same text as over the extended reals, so the same run. -/

set_option maxRecDepth 16384

noncomputable section

namespace Cert.Proof

open Idealize.ShloMosaic Idealize.SL.Sem Cert.KernelIdeal

/-- The frame's statement of the idealized text, read over machine floats. -/
def textFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem textFrame_holds : textFrame := fun m g _ =>
  (θ_run defs _ _).mono (fun _ h => ⟨fun c => (h.1 c).2, h.2⟩) (Attn.run_main (F := Bits) m g)

/-- The two statements are one: the two programs' texts are equal. -/
theorem text_eq : textFrame = Cert.quiescent_Kernel := by sl_kernel_rfl

theorem frame_kernel : Cert.quiescent_Kernel := text_eq.mp textFrame_holds

end Cert.Proof

end
-- ==== Proof.Frames.lean ====
module

public import proofs.«01_k».proof.Defs
public import proofs.«01_k».proof.Proof.AttnRun
public import proofs.«01_k».proof.Proof.Gen.Kernel
public import Idealize.ShloMosaic.Lib.Quiescent
public import proofs.«01_k».proof.Proof.Gen.Pre_finite
public import proofs.«01_k».proof.Proof.Gen.ReferenceIdeal
public import proofs.«01_k».proof.Proof.Gen.ReferenceIdeal.Run

@[expose] public section

/-! The frames of the three programs: each runs to its end, its arguments unchanged and every counter at zero. -/

noncomputable section

namespace Cert.Proof

open Idealize.ShloMosaic Idealize.SL.Sem

/-- The kernel over the extended reals. -/
theorem frame_kernelIdeal : Cert.quiescent_KernelIdeal := fun m g _ =>
  (θ_run Cert.KernelIdeal.defs _ _).mono (fun _ h => ⟨fun c => (h.1 c).2, h.2⟩) (Cert.KernelIdeal.Attn.run_main (F := Ideal) m g)

theorem frame_kernelIdeal_pre : Cert.quiescent_KernelIdeal_pre_finite := fun m g _ => frame_kernelIdeal m g trivial

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem frame_reference_pre : Cert.quiescent_ReferenceIdeal_pre_finite := fun m g _ => frame_reference m g trivial

end Cert.Proof

end
-- ==== Proof.AttnForms.lean ====
module

public import proofs.«01_k».proof.Proof.AttnRuns

@[expose] public section

/-! One map's step of the running softmax, as formulas of the blocks and of the map's slot of the scratch, and what the
    body's four paths leave in the scratch: the 16 maps' formulas, slot by slot. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI Idealize.SL.Sem

variable {F : FTy → Type} [FloatOps F]

/-- The scores of a map: key row by query row. -/
def scoresOf (k q : FVec F S512x128 .bf16) : FVec F S512x512 .f32 :=
  matmul dot_S512x128_S512x128_S512x512_1_1_0_0_n_n none (shapeCast S512x128 k shapeCasts_S512x128_S512x128) (shapeCast S512x128 q shapeCasts_S512x128_S512x128) (constant S512x512 .f32 0x00000000#32)

/-- The scores on the diagonal block: minus infinity where the key comes after the query. -/
def maskedOf (s : FVec F S512x512 .f32) : FVec F S512x512 .f32 :=
  select k0_pay170 s (broadcast S512x512 (Scalar.ofBits .f32 0xFF800000#32))

/-- The running maximum after the block. -/
def maxOf (s : FVec F S512x512 .f32) (mo : FVec F S1x1x512 .f32) : FVec F S1x512 .f32 :=
  maximumf (shapeCast S1x512 mo shapeCasts_S1x1x512_S1x512)
    (shapeCast S1x512 (multiReduction .maximumf [0] S512 s 0xFF800000#32 reduces_S512x512_S512 (.inl rfl) rfl) shapeCasts_S512_S1x512)

def probOf (s : FVec F S512x512 .f32) (mo : FVec F S1x1x512 .f32) : FVec F S512x512 .f32 :=
  exp2 (subf s (broadcastTo S512x512 (maxOf s mo) broadcasts_S1x512_S512x512))

def scaleOf (s : FVec F S512x512 .f32) (mo : FVec F S1x1x512 .f32) : FVec F S1x512 .f32 :=
  exp2 (subf (shapeCast S1x512 mo shapeCasts_S1x1x512_S1x512) (maxOf s mo))

/-- The map's slot of the maxima after the block. -/
def newM (s : FVec F S512x512 .f32) (mo : FVec F S1x1x512 .f32) : FVec F S1x1x512 .f32 :=
  shapeCast S1x1x512 (maxOf s mo) shapeCasts_S1x512_S1x1x512

/-- The map's slot of the sums after the block. -/
def newL (s : FVec F S512x512 .f32) (mo lo : FVec F S1x1x512 .f32) : FVec F S1x1x512 .f32 :=
  shapeCast S1x1x512 (addf (mulf (scaleOf s mo) (shapeCast S1x512 lo shapeCasts_S1x1x512_S1x512))
    (shapeCast S1x512 (multiReduction .add [0] S512 (probOf s mo) 0x00000000#32 reduces_S512x512_S512 (.inl rfl) rfl) shapeCasts_S512_S1x512)) shapeCasts_S1x512_S1x1x512

/-- The map's slot of the accumulators after the block. -/
def newA (s : FVec F S512x512 .f32) (v : FVec F S1x256x512 .bf16) (mo : FVec F S1x1x512 .f32) (ao : FVec F S1x256x512 .f32) : FVec F S1x256x512 .f32 :=
  shapeCast S1x256x512 (addf (mulf (broadcastTo S256x512 (scaleOf s mo) broadcasts_S1x512_S256x512) (shapeCast S256x512 ao shapeCasts_S1x256x512_S256x512))
    (matmul dot_S256x512_S512x512_S256x512_1_0_0_1_n_n none (shapeCast S256x512 v shapeCasts_S1x256x512_S256x512) (truncf .bf16 (probOf s mo) bitsLt_bf16_f32) (constant S256x512 .f32 0x00000000#32)))
    shapeCasts_S256x512_S1x256x512

/-- Map `k`'s slot of the maxima (or sums), and of the accumulators. -/
theorem inbM : ∀ (k : Fin 16) (a : Fin 3), (![k.val, 0, 0] : Fin 3 → ℕ) a + S1x1x512.size a ≤ S16x1x512.size a := by decide
theorem inbA : ∀ (k : Fin 16) (a : Fin 3), (![k.val, 0, 0] : Fin 3 → ℕ) a + S1x256x512.size a ≤ S16x256x512.size a := by decide
abbrev rM (k : Fin 16) : Rect S16x1x512 := Rect.unit ![k.val, 0, 0] S1x1x512.size (inbM k)
abbrev rA (k : Fin 16) : Rect S16x256x512 := Rect.unit ![k.val, 0, 0] S1x256x512.size (inbA k)

/-- Map `k`'s 128 columns of a block of queries or keys, and its head's 256 rows of a block of values. -/
theorem inbX : ∀ (k : Fin 16) (a : Fin 2), (![0, 128 * k.val] : Fin 2 → ℕ) a + S512x128.size a ≤ S512x2048.size a := by decide
theorem inbV : ∀ (k : Fin 16) (a : Fin 3), (![0, 256 * (k.val / 2), 0] : Fin 3 → ℕ) a + S1x256x512.size a ≤ S1x2048x512.size a := by decide

variable (c : Dev nD) (i : grid0.Coords)
  (a5 : Memref sig .tc .vmem S512x2048 .bf16) (h5 : a5.IsWhole) (a6 : Memref sig .tc .vmem S512x2048 .bf16) (h6 : a6.IsWhole)
  (a7 : Memref sig .tc .vmem S1x2048x512 .bf16) (h7 : a7.IsWhole) (a8 : Memref sig .tc .vmem S4x128 .f32) (h8 : a8.IsWhole)
  (a9 : Memref sig .tc .vmem S256x1 .f32) (h9 : a9.IsWhole) (a10 : Memref sig .tc .vmem S512x2048 .bf16) (h10 : a10.IsWhole)
  (T0 T1 : S136.Idx → Elt F .i32)
  (x0 x1 : S512x2048.Idx → Elt F .bf16) (x2 : S1x2048x512.Idx → Elt F .bf16) (x3 : S4x128.Idx → Elt F .f32) (x4 : S256x1.Idx → Elt F .f32)

abbrev colsOf (a : Memref sig .tc .vmem S512x2048 .bf16) (x : S512x2048.Idx → Elt F .bf16) (k : Fin 16) : FVec F S512x128 .bf16 :=
  View.readAt (Elt F) a.view (Rect.unit (s := S512x2048) ![0, 128 * k.val] S512x128.size (inbX k)).toLoadRect (a.view.rep x)
abbrev rowsOf (a : Memref sig .tc .vmem S1x2048x512 .bf16) (x : S1x2048x512.Idx → Elt F .bf16) (k : Fin 16) : FVec F S1x256x512 .bf16 :=
  View.readAt (Elt F) a.view (Rect.unit (s := S1x2048x512) ![0, 256 * (k.val / 2), 0] S1x256x512.size (inbV k)).toLoadRect (a.view.rep x)

/-- Map `k`'s scores at a block. -/
abbrev sc (k : Fin 16) : FVec F S512x512 .f32 := scoresOf (colsOf a6 x1 k) (colsOf a5 x0 k)

/-- Slot `k` of the scratch contents. -/
abbrev slM (s : S16x1x512.Idx → Elt F .f32) (k : Fin 16) : FVec F S1x1x512 .f32 := View.readAt (Elt F) scM.view (rM k).toLoadRect s
abbrev slL (s : S16x1x512.Idx → Elt F .f32) (k : Fin 16) : FVec F S1x1x512 .f32 := View.readAt (Elt F) scL.view (rM k).toLoadRect s
abbrev slA (s : S16x256x512.Idx → Elt F .f32) (k : Fin 16) : FVec F S1x256x512 .f32 := View.readAt (Elt F) scA.view (rA k).toLoadRect s

/-- A buffer written slot after slot: the pieces of the first `n` maps, the last one first, over the pieces `b` stored before. -/
def pcs16 {s : Shape} (r : Fin 16 → Rect s) (P : (k : Fin 16) → List (View.Piece (Elt F) s .f32) → ((r k).shape.Idx → Elt F .f32)) (b : List (View.Piece (Elt F) s .f32)) :
    (n : ℕ) → n ≤ 16 → List (View.Piece (Elt F) s .f32)
  | 0, _ => b
  | n + 1, h => ⟨r ⟨n, h⟩, P ⟨n, h⟩ (pcs16 r P b n (Nat.le_of_lt h))⟩ :: pcs16 r P b n (Nat.le_of_lt h)

/-- The pieces that initialise the maxima, the sums and the accumulators. -/
theorem inbM0 : ∀ a : Fin 3, (![0, 0, 0] : Fin 3 → ℕ) a + S16x1x512.size a ≤ S16x1x512.size a := by decide
theorem inbA0 : ∀ a : Fin 3, (![0, 0, 0] : Fin 3 → ℕ) a + S16x256x512.size a ≤ S16x256x512.size a := by decide
abbrev initM : List (View.Piece (Elt F) S16x1x512 .f32) := [⟨Rect.unit ![0, 0, 0] S16x1x512.size inbM0, k0_pay1⟩]
abbrev initL : List (View.Piece (Elt F) S16x1x512 .f32) := [⟨Rect.unit ![0, 0, 0] S16x1x512.size inbM0, k0_pay2⟩]
abbrev initA : List (View.Piece (Elt F) S16x256x512 .f32) := [⟨Rect.unit ![0, 0, 0] S16x256x512.size inbA0, k0_pay3⟩]

/-- The maxima's slot `k` as a first block finds it. -/
abbrev slM₀ (k : Fin 16) : FVec F S1x1x512 .f32 := View.readCov scM.view (initM (F := F)) (rM k).toLoadRect

/-- The pieces of the three scratch buffers after a first block, of scores `S`. -/
abbrev firstM (S : Fin 16 → FVec F S512x512 .f32) := pcs16 (F := F) rM (fun k _ => newM (S k) (slM₀ k)) initM 16 le_rfl
abbrev firstL (S : Fin 16 → FVec F S512x512 .f32) := pcs16 (F := F) rM (fun k b => newL (S k) (slM₀ k) (View.readCov scL.view b (rM k).toLoadRect)) initL 16 le_rfl
abbrev firstA (S : Fin 16 → FVec F S512x512 .f32) (V : Fin 16 → FVec F S1x256x512 .bf16) := pcs16 (F := F) rA (fun k b => newA (S k) (V k) (slM₀ k) (View.readCov scA.view b (rA k).toLoadRect)) initA 16 le_rfl

/-- The pieces of the three scratch buffers after a later block. -/
abbrev nextM (S : Fin 16 → FVec F S512x512 .f32) (s0 : S16x1x512.Idx → Elt F .f32) := pcs16 (F := F) rM (fun k _ => newM (S k) (slM s0 k)) [] 16 le_rfl
abbrev nextL (S : Fin 16 → FVec F S512x512 .f32) (s0 s1 : S16x1x512.Idx → Elt F .f32) := pcs16 (F := F) rM (fun k _ => newL (S k) (slM s0 k) (slL s1 k)) [] 16 le_rfl
abbrev nextA (S : Fin 16 → FVec F S512x512 .f32) (V : Fin 16 → FVec F S1x256x512 .bf16) (s0 : S16x1x512.Idx → Elt F .f32) (s2 : S16x256x512.Idx → Elt F .f32) :=
  pcs16 (F := F) rA (fun k _ => newA (S k) (V k) (slM s0 k) (slA s2 k)) [] 16 le_rfl

/-- The mixing weight, from the block of its four vectors. -/
def lamOf (x : FVec F S4x128 .f32) : FVec F S1x1 .f32 := k0_pay326 (k0_pay324 x) (k0_pay325 x)

/-- A head's 256 columns of the output block: the two maps' quotients mixed, normalised, scaled and transposed. -/
def headOf (lam : FVec F S1x1 .f32) (a0 : FVec F S1x256x512 .f32) (l0 : FVec F S1x1x512 .f32) (a1 : FVec F S1x256x512 .f32) (l1 : FVec F S1x1x512 .f32) (g : FVec F S256x1 .f32) : FVec F S512x256 .bf16 :=
  k0_pay328 lam a0 l0 a1 l1 g

theorem inbO : ∀ (h : Fin 8) (a : Fin 2), (![0, 256 * h.val] : Fin 2 → ℕ) a + S512x256.size a ≤ S512x2048.size a := by decide
abbrev rO (h : Fin 8) : Rect S512x2048 := Rect.unit ![0, 256 * h.val] S512x256.size (inbO h)
theorem inbG : ∀ a : Fin 2, (![0, 0] : Fin 2 → ℕ) a + S4x128.size a ≤ S4x128.size a := by decide
theorem inbH : ∀ a : Fin 2, (![0, 0] : Fin 2 → ℕ) a + S256x1.size a ≤ S256x1.size a := by decide

/-- The first and the second map of head `h`. -/
abbrev map0 (h : Fin 8) : Fin 16 := ⟨2 * h.val, by omega⟩
abbrev map1 (h : Fin 8) : Fin 16 := ⟨2 * h.val + 1, by omega⟩

abbrev lamBlk : FVec F S4x128 .f32 := View.readAt (Elt F) a8.view (Rect.unit (s := S4x128) ![0, 0] S4x128.size inbG).toLoadRect (a8.view.rep x3)
abbrev gainBlk : FVec F S256x1 .f32 := View.readAt (Elt F) a9.view (Rect.unit (s := S256x1) ![0, 0] S256x1.size inbH).toLoadRect (a9.view.rep x4)

/-- The output's pieces after the first `n` heads, from the pieces of the sums and of the accumulators. -/
def outPcs (L : List (View.Piece (Elt F) S16x1x512 .f32)) (A : List (View.Piece (Elt F) S16x256x512 .f32)) : (n : ℕ) → n ≤ 8 → List (View.Piece (Elt F) S512x2048 .bf16)
  | 0, _ => []
  | n + 1, h => ⟨rO ⟨n, h⟩, headOf (lamOf (lamBlk a8 x3)) (View.readCov scA.view A (rA (map0 ⟨n, h⟩)).toLoadRect) (View.readCov scL.view L (rM (map0 ⟨n, h⟩)).toLoadRect)
      (View.readCov scA.view A (rA (map1 ⟨n, h⟩)).toLoadRect) (View.readCov scL.view L (rM (map1 ⟨n, h⟩)).toLoadRect) (gainBlk a9 x4)⟩ :: outPcs L A n (Nat.le_of_lt h)

section
variable (s0 : BufM F c) (s1 : BufL F c) (s2 : BufA F c)

theorem mid_M (hc0 hc1 hc2) : (runMid c i a5 h5 a6 h6 a7 h7 a8 h8 a9 h9 a10 h10 T0 T1 x0 x1 x2 x3 x4 s0 s1 s2 hc0 hc1 hc2).1
    = scM.view.writes (Elt F) scM.view.junk (nextM (sc a5 a6 x0 x1) s0) := by sl_kernel_rfl

theorem mid_L (hc0 hc1 hc2) : (runMid c i a5 h5 a6 h6 a7 h7 a8 h8 a9 h9 a10 h10 T0 T1 x0 x1 x2 x3 x4 s0 s1 s2 hc0 hc1 hc2).2.1
    = scL.view.writes (Elt F) scL.view.junk (nextL (sc a5 a6 x0 x1) s0 s1) := by sl_kernel_rfl

theorem mid_A (hc0 hc1 hc2) : (runMid c i a5 h5 a6 h6 a7 h7 a8 h8 a9 h9 a10 h10 T0 T1 x0 x1 x2 x3 x4 s0 s1 s2 hc0 hc1 hc2).2.2.1
    = scA.view.writes (Elt F) scA.view.junk (nextA (sc a5 a6 x0 x1) (rowsOf a7 x2) s0 s2) := by sl_kernel_rfl

theorem last_M (hc0 hc1 hc2) : (runLast c i a5 h5 a6 h6 a7 h7 a8 h8 a9 h9 a10 h10 T0 T1 x0 x1 x2 x3 x4 s0 s1 s2 hc0 hc1 hc2).2.1
    = scM.view.writes (Elt F) scM.view.junk (nextM (fun k => maskedOf (sc a5 a6 x0 x1 k)) s0) := by sl_kernel_rfl

theorem last_L (hc0 hc1 hc2) : (runLast c i a5 h5 a6 h6 a7 h7 a8 h8 a9 h9 a10 h10 T0 T1 x0 x1 x2 x3 x4 s0 s1 s2 hc0 hc1 hc2).2.2.1
    = scL.view.writes (Elt F) scL.view.junk (nextL (fun k => maskedOf (sc a5 a6 x0 x1 k)) s0 s1) := by sl_kernel_rfl

theorem last_A (hc0 hc1 hc2) : (runLast c i a5 h5 a6 h6 a7 h7 a8 h8 a9 h9 a10 h10 T0 T1 x0 x1 x2 x3 x4 s0 s1 s2 hc0 hc1 hc2).2.2.2.1
    = scA.view.writes (Elt F) scA.view.junk (nextA (fun k => maskedOf (sc a5 a6 x0 x1 k)) (rowsOf a7 x2) s0 s2) := by sl_kernel_rfl

theorem last_O (hc0 hc1 hc2) : (runLast c i a5 h5 a6 h6 a7 h7 a8 h8 a9 h9 a10 h10 T0 T1 x0 x1 x2 x3 x4 s0 s1 s2 hc0 hc1 hc2).1
    = outPcs a8 a9 x3 x4 (nextL (fun k => maskedOf (sc a5 a6 x0 x1 k)) s0 s1) (nextA (fun k => maskedOf (sc a5 a6 x0 x1 k)) (rowsOf a7 x2) s0 s2) 8 le_rfl := by sl_kernel_rfl

end

theorem first_M (hc0 hc1 hc2) : (runFirst c i a5 h5 a6 h6 a7 h7 a8 h8 a9 h9 a10 h10 T0 T1 x0 x1 x2 x3 x4 hc0 hc1 hc2).1
    = scM.view.writes (Elt F) scM.view.junk (firstM (sc a5 a6 x0 x1)) := by sl_kernel_rfl

theorem first_L (hc0 hc1 hc2) : (runFirst c i a5 h5 a6 h6 a7 h7 a8 h8 a9 h9 a10 h10 T0 T1 x0 x1 x2 x3 x4 hc0 hc1 hc2).2.1
    = scL.view.writes (Elt F) scL.view.junk (firstL (sc a5 a6 x0 x1)) := by sl_kernel_rfl

theorem first_A (hc0 hc1 hc2) : (runFirst c i a5 h5 a6 h6 a7 h7 a8 h8 a9 h9 a10 h10 T0 T1 x0 x1 x2 x3 x4 hc0 hc1 hc2).2.2.1
    = scA.view.writes (Elt F) scA.view.junk (firstA (sc a5 a6 x0 x1) (rowsOf a7 x2)) := by sl_kernel_rfl

theorem firstLast_M (hc0 hc1 hc2) : (runFirstLast c i a5 h5 a6 h6 a7 h7 a8 h8 a9 h9 a10 h10 T0 T1 x0 x1 x2 x3 x4 hc0 hc1 hc2).2.1
    = scM.view.writes (Elt F) scM.view.junk (firstM (fun k => maskedOf (sc a5 a6 x0 x1 k))) := by sl_kernel_rfl

theorem firstLast_L (hc0 hc1 hc2) : (runFirstLast c i a5 h5 a6 h6 a7 h7 a8 h8 a9 h9 a10 h10 T0 T1 x0 x1 x2 x3 x4 hc0 hc1 hc2).2.2.1
    = scL.view.writes (Elt F) scL.view.junk (firstL (fun k => maskedOf (sc a5 a6 x0 x1 k))) := by sl_kernel_rfl

theorem firstLast_A (hc0 hc1 hc2) : (runFirstLast c i a5 h5 a6 h6 a7 h7 a8 h8 a9 h9 a10 h10 T0 T1 x0 x1 x2 x3 x4 hc0 hc1 hc2).2.2.2.1
    = scA.view.writes (Elt F) scA.view.junk (firstA (fun k => maskedOf (sc a5 a6 x0 x1 k)) (rowsOf a7 x2)) := by sl_kernel_rfl

theorem firstLast_O (hc0 hc1 hc2) : (runFirstLast c i a5 h5 a6 h6 a7 h7 a8 h8 a9 h9 a10 h10 T0 T1 x0 x1 x2 x3 x4 hc0 hc1 hc2).1
    = outPcs a8 a9 x3 x4 (firstL (fun k => maskedOf (sc a5 a6 x0 x1 k))) (firstA (fun k => maskedOf (sc a5 a6 x0 x1 k)) (rowsOf a7 x2)) 8 le_rfl := by sl_kernel_rfl

end Cert.KernelIdeal.Attn

end
-- ==== Proof.AttnSlots.lean ====
module

public import proofs.«01_k».proof.Proof.AttnForms
public import proofs.«01_k».proof.Proof.AttnStep
public import Idealize.ShloMosaic.Lib.Pipeline.ReadBack

@[expose] public section

/-! The scratch slot by slot: what a point leaves in a map's slot, from what the slot held before it, and the output
    block a diagonal point stores, from the slots it leaves. -/

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI Idealize.SL.Sem

variable {F : FTy → Type} [FloatOps F]

section
variable {s : Shape} {κ : Kind} {sp : Space} {sg : RefSig} (v : View sg κ sp s .f32) (r : Fin 16 → Rect s)
  (P : (k : Fin 16) → List (View.Piece (Elt F) s .f32) → ((r k).shape.Idx → Elt F .f32)) (b : List (View.Piece (Elt F) s .f32))
  (hr : ∀ j k : Fin 16, j ≠ k → Disjoint (r j).set (r k).toLoadRect.set)

include hr in
/-- A slot not yet written reads as before. -/
theorem slot_old (k : Fin 16) : ∀ (n : ℕ) (h : n ≤ 16), n ≤ k.val → v.readCov (pcs16 r P b n h) (r k).toLoadRect = v.readCov b (r k).toLoadRect
  | 0, _, _ => rfl
  | n + 1, h, hk => by
    rw [pcs16, View.readCov_cons_of_disjoint v _ _ _ (hr ⟨n, h⟩ k (fun e => by rw [← e] at hk; simp at hk))]
    exact slot_old k n _ (by omega)

include hr in
/-- A slot already written reads what was stored. -/
theorem slot_new (k : Fin 16) : ∀ (n : ℕ) (h : n ≤ 16), k.val < n → v.readCov (pcs16 r P b n h) (r k).toLoadRect = P k (pcs16 r P b k.val k.isLt.le)
  | 0, _, hk => absurd hk (by simp)
  | n + 1, h, hk => by
    rw [pcs16]
    by_cases e : k.val = n
    · subst e
      exact View.readCov_cons_toLoadRect v _ _ _
    · rw [View.readCov_cons_of_disjoint v _ _ _ (hr ⟨n, h⟩ k (fun e' => e (by rw [← e'])))]
      exact slot_new k n _ (by omega)
end

theorem disjM (j k : Fin 16) (h : j ≠ k) : Disjoint (rM j).set (rM k).toLoadRect.set := by
  refine LoadRect.disjoint_of_separated (rM j).toLoadRect (rM k).toLoadRect (0 : Fin 3) ?_
  have := fun e => h (Fin.ext e)
  show ((1 = 0) ∨ j.val + 1 * (1 - 1) < k.val) ∨ ((1 = 0) ∨ k.val + 1 * (1 - 1) < j.val)
  omega
theorem disjA (j k : Fin 16) (h : j ≠ k) : Disjoint (rA j).set (rA k).toLoadRect.set := by
  refine LoadRect.disjoint_of_separated (rA j).toLoadRect (rA k).toLoadRect (0 : Fin 3) ?_
  have := fun e => h (Fin.ext e)
  show ((1 = 0) ∨ j.val + 1 * (1 - 1) < k.val) ∨ ((1 = 0) ∨ k.val + 1 * (1 - 1) < j.val)
  omega

/-- The initial slots: minus infinity, zero, zero. -/
def zM (k : Fin 16) : FVec F S1x1x512 .f32 := View.ld (Val := Elt F) (e' := .f32) k0_pay1 (rM k)
def zL (k : Fin 16) : FVec F S1x1x512 .f32 := View.ld (Val := Elt F) (e' := .f32) k0_pay2 (rM k)
def zA (k : Fin 16) : FVec F S1x256x512 .f32 := View.ld (Val := Elt F) (e' := .f32) k0_pay3 (rA k)

theorem off0 : ∀ a : Fin 3, (![0, 0, 0] : Fin 3 → ℕ) a = 0 := by decide
theorem slM₀_eq (k : Fin 16) : slM₀ (F := F) k = zM k := View.readCov_fill (Val := Elt F) scM.view inbM0 k0_pay1 [] (rM k) off0
theorem slL₀_eq (k : Fin 16) : View.readCov scL.view (initL (F := F)) (rM k).toLoadRect = zL k := View.readCov_fill (Val := Elt F) scL.view inbM0 k0_pay2 [] (rM k) off0
theorem slA₀_eq (k : Fin 16) : View.readCov scA.view (initA (F := F)) (rA k).toLoadRect = zA k := View.readCov_fill (Val := Elt F) scA.view inbA0 k0_pay3 [] (rA k) off0

variable (S : Fin 16 → FVec F S512x512 .f32) (X : Fin 16 → FVec F S1x256x512 .bf16) (s0 s1 : S16x1x512.Idx → Elt F .f32) (s2 : S16x256x512.Idx → Elt F .f32) (k : Fin 16)

theorem firstM_slot : slM (scM.view.writes (Elt F) scM.view.junk (firstM S)) k = newM (S k) (zM k) :=
  (slot_new scM.view rM _ _ disjM k 16 le_rfl k.isLt).trans (by rw [slM₀_eq])
theorem firstL_slot : slL (scL.view.writes (Elt F) scL.view.junk (firstL S)) k = newL (S k) (zM k) (zL k) :=
  (slot_new scL.view rM _ _ disjM k 16 le_rfl k.isLt).trans (by rw [slM₀_eq, slot_old scL.view rM _ _ disjM k _ _ le_rfl, slL₀_eq])
theorem firstA_slot : slA (scA.view.writes (Elt F) scA.view.junk (firstA S X)) k = newA (S k) (X k) (zM k) (zA k) :=
  (slot_new scA.view rA _ _ disjA k 16 le_rfl k.isLt).trans (by rw [slM₀_eq, slot_old scA.view rA _ _ disjA k _ _ le_rfl, slA₀_eq])
theorem nextM_slot : slM (scM.view.writes (Elt F) scM.view.junk (nextM S s0)) k = newM (S k) (slM s0 k) :=
  slot_new scM.view rM _ _ disjM k 16 le_rfl k.isLt
theorem nextL_slot : slL (scL.view.writes (Elt F) scL.view.junk (nextL S s0 s1)) k = newL (S k) (slM s0 k) (slL s1 k) :=
  slot_new scL.view rM _ _ disjM k 16 le_rfl k.isLt
theorem nextA_slot : slA (scA.view.writes (Elt F) scA.view.junk (nextA S X s0 s2)) k = newA (S k) (X k) (slM s0 k) (slA s2 k) :=
  slot_new scA.view rA _ _ disjA k 16 le_rfl k.isLt

variable (m : (ℓ : Loc nD τ sig) → Buf (Elt F) ℓ) (c : Dev nD) (t : Fin (cfgA F).N) (s : St F c)

/-- Map `k`'s scores at point `t`: masked on the diagonal. -/
def scT : FVec F S512x512 .f32 :=
  if kjN t.val < qiN t.val then sc (ms0 t) (ms1 t) (iblk m c 0 t) (iblk m c 1 t) k else maskedOf (sc (ms0 t) (ms1 t) (iblk m c 0 t) (iblk m c 1 t) k)
/-- Map `k`'s rows of the value block at point `t`. -/
def vT : FVec F S1x256x512 .bf16 := rowsOf (ms2 t) (iblk m c 2 t) k
/-- What map `k` finds in its slots at point `t`. -/
def oldM : FVec F S1x1x512 .f32 := if kjN t.val = 0 then zM k else slM s.1 k
def oldL : FVec F S1x1x512 .f32 := if kjN t.val = 0 then zL k else slL s.2.1 k
def oldA : FVec F S1x256x512 .f32 := if kjN t.val = 0 then zA k else slA s.2.2 k

/-- The slots after point `t`. -/
theorem step_M : slM (stp m c t s).2.1 k = newM (scT k m c t) (oldM k c t s) := by
  unfold stp scT oldM
  by_cases hb : kjN t.val < qiN t.val <;> by_cases h0 : kjN t.val = 0
  · rw [dif_pos hb, dif_pos h0, if_pos hb, if_pos h0]; dsimp only; rw [first_M, firstM_slot]
  · rw [dif_pos hb, dif_neg h0, if_pos hb, if_neg h0]; dsimp only; rw [mid_M, nextM_slot]
  · rw [dif_neg hb, dif_pos h0, if_neg hb, if_pos h0]; dsimp only; rw [firstLast_M, firstM_slot]
  · rw [dif_neg hb, dif_neg h0, if_neg hb, if_neg h0]; dsimp only; rw [last_M, nextM_slot]
theorem step_L : slL (stp m c t s).2.2.1 k = newL (scT k m c t) (oldM k c t s) (oldL k c t s) := by
  unfold stp scT oldM oldL
  by_cases hb : kjN t.val < qiN t.val <;> by_cases h0 : kjN t.val = 0
  · rw [dif_pos hb, dif_pos h0, if_pos hb, if_pos h0, if_pos h0]; dsimp only; rw [first_L, firstL_slot]
  · rw [dif_pos hb, dif_neg h0, if_pos hb, if_neg h0, if_neg h0]; dsimp only; rw [mid_L, nextL_slot]
  · rw [dif_neg hb, dif_pos h0, if_neg hb, if_pos h0, if_pos h0]; dsimp only; rw [firstLast_L, firstL_slot]
  · rw [dif_neg hb, dif_neg h0, if_neg hb, if_neg h0, if_neg h0]; dsimp only; rw [last_L, nextL_slot]
theorem step_A : slA (stp m c t s).2.2.2 k = newA (scT k m c t) (vT k m c t) (oldM k c t s) (oldA k c t s) := by
  unfold stp scT oldM oldA vT
  by_cases hb : kjN t.val < qiN t.val <;> by_cases h0 : kjN t.val = 0
  · rw [dif_pos hb, dif_pos h0, if_pos hb, if_pos h0, if_pos h0]; dsimp only; rw [first_A, firstA_slot]
  · rw [dif_pos hb, dif_neg h0, if_pos hb, if_neg h0, if_neg h0]; dsimp only; rw [mid_A, nextA_slot]
  · rw [dif_neg hb, dif_pos h0, if_neg hb, if_pos h0, if_pos h0]; dsimp only; rw [firstLast_A, firstA_slot]
  · rw [dif_neg hb, dif_neg h0, if_neg hb, if_neg h0, if_neg h0]; dsimp only; rw [last_A, nextA_slot]

end Cert.KernelIdeal.Attn

end
-- ==== Proof.AttnMath.lean ====
module

public import Idealize.ShloMosaic.PureOps.Ideal
public import Idealize.ShloMosaic.PureOps.Ideal.Laws

@[expose] public section

/-! A softmax average over the extended reals, computed block by block with a running maximum: the pure facts. -/

set_option Elab.async false

noncomputable section

namespace Cert.Online

open Idealize.ShloMosaic

/-- A score is minus infinity (a masked key) or a real number. -/
def Sc (s : EReal) : Prop := s ≠ ⊤

/-- The weight of a key of score `s`: `2 ^ s`, and nothing for a masked key. -/
def wt : EReal → ℝ
  | ⊥ => 0
  | ⊤ => 0
  | (r : ℝ) => (2 : ℝ) ^ r

theorem wt_bot : wt ⊥ = 0 := rfl
theorem wt_coe (r : ℝ) : wt (r : EReal) = (2 : ℝ) ^ r := rfl
theorem wt_nonneg (s : EReal) : 0 ≤ wt s := by
  induction s with
  | bot => exact le_rfl
  | top => exact le_rfl
  | coe r => exact (Real.rpow_pos_of_pos two_pos r).le

/-- A block's term of the softmax sum, relative to a real maximum. -/
theorem exp2_sub (s : EReal) (hs : s ≠ ⊤) (M : ℝ) : Ideal.exp2 (s - (M : EReal)) = ((wt s * (2 : ℝ) ^ (-M) : ℝ) : EReal) := by
  induction s with
  | bot => rw [EReal.bot_sub, Ideal.exp2_bot, wt_bot, zero_mul]; rfl
  | top => exact absurd rfl hs
  | coe r =>
    rw [← EReal.coe_sub, Ideal.exp2_coe, wt_coe, ← Real.rpow_add two_pos, sub_eq_add_neg]
    rfl

/-- The maximum of scores not all masked is a real number. -/
theorem fold_max_real {ι : Type} [Fintype ι] (s : ι → EReal) (m : EReal) (hm : m ≠ ⊤) (hs : ∀ i, s i ≠ ⊤) (hne : m ≠ ⊥ ∨ ∃ i, s i ≠ ⊥) :
    ∃ M : ℝ, max m (Finset.univ.fold max ⊥ s) = (M : EReal) := by
  have ht : ∀ T : Finset ι, T.fold max (⊥ : EReal) s ≠ ⊤ := by
    classical
    intro T
    induction T using Finset.induction_on with
    | empty => simp
    | insert a T ha ih =>
      rw [Finset.fold_insert ha]
      rcases max_choice (s a) (T.fold max ⊥ s) with e | e <;> rw [e]
      · exact hs a
      · exact ih
  have h1 : max m (Finset.univ.fold max ⊥ s) ≠ ⊤ := by
    rcases max_choice m (Finset.univ.fold max ⊥ s) with e | e <;> rw [e]
    · exact hm
    · exact ht _
  have h2 : max m (Finset.univ.fold max ⊥ s) ≠ ⊥ := by
    intro e
    rw [max_eq_bot] at e
    rcases hne with h | ⟨i, hi⟩
    · exact h e.1
    · refine hi (le_bot_iff.mp ?_)
      rw [← e.2]
      exact (Finset.le_fold_max (s i)).mpr (Or.inr ⟨i, Finset.mem_univ i, le_rfl⟩)
  exact ⟨_, (EReal.coe_toReal h1 h2).symm⟩

theorem coe_sum {ι : Type} (T : Finset ι) (f : ι → ℝ) : ∑ i ∈ T, ((f i : ℝ) : EReal) = ((∑ i ∈ T, f i : ℝ) : EReal) := by
  classical
  induction T using Finset.induction_on with
  | empty => simp
  | insert a T ha ih => rw [Finset.sum_insert ha, Finset.sum_insert ha, ih, EReal.coe_add]

/-- The scratch holds a weighted sum `A`: nothing yet, or the sum relative to the running maximum. -/
def Rel (A : ℝ) (m a : EReal) : Prop := (m = ⊥ ∧ a = 0 ∧ A = 0) ∨ ∃ M : ℝ, m = (M : EReal) ∧ a = ((A * (2 : ℝ) ^ (-M) : ℝ) : EReal)

theorem rel_init : Rel 0 ⊥ 0 := Or.inl ⟨rfl, rfl, rfl⟩

/-- A block of keys joins the sum: the old sum is rescaled to the new maximum, and the block's terms are relative to it. -/
theorem rel_step {ι : Type} [Fintype ι] (A : ℝ) (m a : EReal) (h : Rel A m a) (s : ι → EReal) (c : ι → ℝ) (hs : ∀ i, s i ≠ ⊤) (hne : ∃ i, s i ≠ ⊥) :
    Rel (A + ∑ i, c i * wt (s i)) (max m (Finset.univ.fold max ⊥ s))
      (Ideal.exp2 (m - max m (Finset.univ.fold max ⊥ s)) * a + ∑ i, (c i : EReal) * Ideal.exp2 (s i - max m (Finset.univ.fold max ⊥ s))) := by
  have hm : m ≠ ⊤ := by
    rcases h with ⟨e, _⟩ | ⟨M, e, _⟩ <;> rw [e]
    · exact bot_ne_top
    · exact EReal.coe_ne_top M
  obtain ⟨M', hM'⟩ := fold_max_real s m hm hs (Or.inr hne)
  rw [hM']
  refine Or.inr ⟨M', rfl, ?_⟩
  have hsum : ∑ i, (c i : EReal) * Ideal.exp2 (s i - (M' : EReal)) = (((∑ i, c i * wt (s i)) * (2 : ℝ) ^ (-M') : ℝ) : EReal) := by
    rw [Finset.sum_mul, ← coe_sum]
    refine Finset.sum_congr rfl fun i _ => ?_
    rw [exp2_sub _ (hs i), ← EReal.coe_mul, mul_assoc]
  have ha : Ideal.exp2 (m - (M' : EReal)) * a = ((A * (2 : ℝ) ^ (-M') : ℝ) : EReal) := by
    rcases h with ⟨e, ea, eA⟩ | ⟨M, e, ea⟩
    · rw [e, ea, eA, mul_zero, zero_mul]; rfl
    · rw [e, ea, exp2_sub _ (EReal.coe_ne_top M), wt_coe, ← EReal.coe_mul]
      congr 1
      have : (2 : ℝ) ^ M * (2 : ℝ) ^ (-M) = 1 := by rw [← Real.rpow_add two_pos, add_neg_cancel, Real.rpow_zero]
      linear_combination (A * (2 : ℝ) ^ (-M')) * this
  rw [hsum, ha, ← EReal.coe_add, add_mul]

/-- The same for the sum of the weights themselves. -/
theorem rel_step_one {ι : Type} [Fintype ι] (A : ℝ) (m a : EReal) (h : Rel A m a) (s : ι → EReal) (hs : ∀ i, s i ≠ ⊤) (hne : ∃ i, s i ≠ ⊥) :
    Rel (A + ∑ i, wt (s i)) (max m (Finset.univ.fold max ⊥ s))
      (Ideal.exp2 (m - max m (Finset.univ.fold max ⊥ s)) * a + ∑ i, Ideal.exp2 (s i - max m (Finset.univ.fold max ⊥ s))) := by
  have := rel_step A m a h s (fun _ => 1) hs hne
  simpa using this

/-- The quotient of two sums relative to one maximum is the quotient of the sums. -/
theorem rel_div (A L : ℝ) (m a l : EReal) (ha : Rel A m a) (hl : Rel L m l) (hL : L ≠ 0) : Ideal.div a l = ((A / L : ℝ) : EReal) := by
  rcases hl with ⟨_, _, e⟩ | ⟨M, hm, hl⟩
  · exact absurd e hL
  rcases ha with ⟨e, _⟩ | ⟨M', hm', ha⟩
  · rw [hm] at e; exact absurd e (EReal.coe_ne_bot M)
  have e : M = M' := EReal.coe_injective (hm.symm.trans hm')
  subst e
  have hp : (2 : ℝ) ^ (-M) ≠ 0 := (Real.rpow_pos_of_pos two_pos _).ne'
  have hlr : L * (2 : ℝ) ^ (-M) ≠ 0 := mul_ne_zero hL hp
  rw [ha, hl, Ideal.div, if_neg (by exact_mod_cast hlr), ← EReal.coe_inv, ← EReal.coe_mul]
  congr 1
  field_simp

/-- A softmax average as the reference writes it, relative to the maximum of all the scores: the quotient of the sums. -/
theorem exp_sub (s : EReal) (hs : s ≠ ⊤) (M w : ℝ) (hb : s = ⊥ → w = 0) (hr : ∀ r : ℝ, s = (r : EReal) → w = Real.exp r) :
    Ideal.exp (s - (M : EReal)) = ((w * Real.exp (-M) : ℝ) : EReal) := by
  induction s with
  | bot => rw [EReal.bot_sub, Ideal.exp_bot, hb rfl, zero_mul]; rfl
  | top => exact absurd rfl hs
  | coe r => rw [← EReal.coe_sub, Ideal.exp_coe, hr r rfl, ← Real.exp_add, sub_eq_add_neg]

theorem softmax_term {ι : Type} [Fintype ι] (s : ι → EReal) (w : ι → ℝ) (hs : ∀ i, s i ≠ ⊤) (hb : ∀ i, s i = ⊥ → w i = 0)
    (hr : ∀ i (r : ℝ), s i = (r : EReal) → w i = Real.exp r) (hne : ∃ i, s i ≠ ⊥) (hL : ∑ i, w i ≠ 0) (j : ι) :
    Ideal.div (Ideal.exp (s j - max ⊥ (Finset.univ.fold max ⊥ s))) (0 + ∑ i, Ideal.exp (s i - max ⊥ (Finset.univ.fold max ⊥ s)))
      = ((w j / ∑ i, w i : ℝ) : EReal) := by
  obtain ⟨M, hM⟩ := fold_max_real s ⊥ bot_ne_top hs (Or.inr hne)
  have h : ∀ i, Ideal.exp (s i - (M : EReal)) = ((w i * Real.exp (-M) : ℝ) : EReal) := fun i => exp_sub (s i) (hs i) M (w i) (hb i) (hr i)
  have hp : Real.exp (-M) ≠ 0 := Real.exp_ne_zero _
  rw [hM, Finset.sum_congr rfl fun i _ => h i, h j, coe_sum, ← Finset.sum_mul, zero_add, Ideal.div,
    if_neg (by exact_mod_cast mul_ne_zero hL hp), ← EReal.coe_inv, ← EReal.coe_mul]
  congr 1
  field_simp

end Cert.Online

end
-- ==== Proof.AttnBlocks.lean ====
module

public import proofs.«01_k».proof.Proof.AttnRun
public import proofs.«01_k».proof.Proof.AttnSlots
public import proofs.«01_k».proof.Proof.AttnMath
public import Idealize.ShloMosaic.Lib.Pointwise
public import Idealize.ShloMosaic.Lib.IdealHost
public import Idealize.ShloMosaic.Lib.VecWindow
public import Idealize.ShloMosaic.Lib.WordCmp
public import Idealize.ShloMosaic.Lib.Pipeline.ValueKit

@[expose] public section

/-! The blocks of a point read at an element, over the extended reals: queries, keys and values as real numbers, and the
    point's scores from them. -/

set_option maxRecDepth 16384
set_option Elab.async false

noncomputable section

namespace Cert.KernelIdeal.Attn

open Cert.KernelIdeal Cert.KernelIdeal.Gen Cert.Online
open Idealize.ShloMosaic
open Idealize.ShloMosaic.TcCoe Idealize.ShloMosaic.Tactic
open Idealize.SL Idealize.SL.RA Idealize.SL.BI Idealize.SL.Sem

local notation "𝕀" => Idealize.ShloMosaic.Ideal

/-- A real matrix read at numbers, zero outside. -/
def at2 (x : S16384x2048.Idx → ℝ) (R C : ℕ) : ℝ := if h : R < 16384 ∧ C < 2048 then x (ix2 ⟨R, h.1⟩ ⟨C, h.2⟩) else 0

theorem at2_val (x : S16384x2048.Idx → ℝ) (R : Fin 16384) (C : Fin 2048) : at2 x R.val C.val = x (ix2 R C) := dif_pos ⟨R.isLt, C.isLt⟩

theorem at2_of (x : S16384x2048.Idx → ℝ) (R C : ℕ) (hR : R < 16384) (hC : C < 2048) : at2 x R C = x (ix2 ⟨R, hR⟩ ⟨C, hC⟩) := dif_pos ⟨hR, hC⟩

/-- The factor on the queries: `1 / (√128 · log 2)`. -/
def sig₀ : ℝ := (Real.sqrt 128 * Real.log 2)⁻¹

theorem bits128 : Idealize.ShloMosaic.Ideal.ofBits .f32 0x43000000#32 = ((128 : ℝ) : EReal) := by
  simp [Ideal.ofBits, Ideal.ieee, -EReal.coe_mul]; norm_num
theorem bits2 : Idealize.ShloMosaic.Ideal.ofBits .f32 0x40000000#32 = ((2 : ℝ) : EReal) := by
  simp [Ideal.ofBits, Ideal.ieee, -EReal.coe_mul]; norm_num
theorem bitsNegInf : Idealize.ShloMosaic.Ideal.ofBits .f32 0xFF800000#32 = (⊥ : EReal) := by
  simp [Ideal.ofBits, Ideal.ieee]

theorem sqrt128 : Ideal.sqrt (Idealize.ShloMosaic.Ideal.ofBits .f32 0x43000000#32) = ((Real.sqrt 128 : ℝ) : EReal) := by
  rw [bits128]
  show (if (128 : ℝ) < 0 then (⊥ : EReal) else ((Real.sqrt 128 : ℝ) : EReal)) = _
  exact if_neg (by norm_num)
theorem sqrt128_pos : 0 < Real.sqrt 128 := Real.sqrt_pos.mpr (by norm_num)

theorem sig₀_eq : Ideal.div 1 (Ideal.sqrt (Idealize.ShloMosaic.Ideal.ofBits .f32 0x43000000#32) * Ideal.log (Idealize.ShloMosaic.Ideal.ofBits .f32 0x40000000#32)) = ((sig₀ : ℝ) : EReal) := by
  have hl : Ideal.log ((2 : ℝ) : EReal) = ((Real.log 2 : ℝ) : EReal) := by
    show (if (2 : ℝ) ≤ 0 then (⊥ : EReal) else ((Real.log 2 : ℝ) : EReal)) = _
    exact if_neg (by norm_num)
  have hp : Real.sqrt 128 * Real.log 2 ≠ 0 := (mul_pos sqrt128_pos (Real.log_pos one_lt_two)).ne'
  rw [sqrt128, bits2, hl, ← EReal.coe_mul, Ideal.div, if_neg (by exact_mod_cast hp), one_mul, ← EReal.coe_inv]
  rfl

variable (m : (ℓ : Loc nD τ sig) → Buf (Elt 𝕀) ℓ) (c : Dev nD)

/-- The arguments hold the real numbers `q`, `k`, `v` and `lm`. -/
structure Holds (q k v : S16384x2048.Idx → ℝ) (lm : S4x128.Idx → ℝ) : Prop where
  hq : ∀ i, (m (c, Proc.tc.devRef main_arg0) : S16384x2048.Idx → EReal) i = ((q i : ℝ) : EReal)
  hk : ∀ i, (m (c, Proc.tc.devRef main_arg1) : S16384x2048.Idx → EReal) i = ((k i : ℝ) : EReal)
  hv : ∀ i, (m (c, Proc.tc.devRef main_arg2) : S16384x2048.Idx → EReal) i = ((v i : ℝ) : EReal)
  hl : ∀ i, (m (c, Proc.tc.devRef main_arg3) : S4x128.Idx → EReal) i = ((lm i : ℝ) : EReal)

variable {q k v : S16384x2048.Idx → ℝ} {lm : S4x128.Idx → ℝ} (H : Holds m c q k v lm)
include H

/-- The arrays the call reads. -/
theorem V_q (R : Fin 16384) (C : Fin 2048) : (V m c main_v6 : S16384x2048.Idx → EReal) (ix2 R C) = ((at2 q R C * sig₀ : ℝ) : EReal) := by
  unfold V hostOps0; after_results
  pointwise
  rw [sig₀_eq, H.hq, at2_val, EReal.coe_mul]
theorem V_k (R : Fin 16384) (C : Fin 2048) : (V m c main_v7 : S16384x2048.Idx → EReal) (ix2 R C) = ((at2 k R C : ℝ) : EReal) := by
  unfold V hostOps0; after_results
  pointwise
  rw [H.hk, at2_val]
theorem V_v (b : Fin 32) (R : Fin 2048) (C : Fin 512) : (V m c main_v10 : S32x2048x512.Idx → EReal) (ix3 b R C) = ((at2 v (512 * b + C) R : ℝ) : EReal) := by
  unfold V hostOps0; after_results
  pointwise
  rw [H.hv, at2_of v _ _ (by omega) R.isLt]
  congr 3
  exact Fin.ext (by show b.val * 512 + C.val = 512 * b.val + C.val; omega)
omit H in
theorem V_g (R : Fin 256) : (V m c main_v11 : S256x1.Idx → EReal) (ix2 R 0) = (m (c, Proc.tc.devRef main_arg4) : S256.Idx → EReal) (ix1 R) := by
  unfold V hostOps0; after_results
  pointwise

omit H in
theorem idx_0 {F : FTy → Type} [FloatOps F] (t : Fin (cfgA F).N) : ((cfgA F).win (0 : Fin 6)).index t = ![16 * (t.val / 136) + qiN t.val, 0] := funext (facts_all t).2.2.2.2.2.2.2.2.1
omit H in
theorem idx_1 {F : FTy → Type} [FloatOps F] (t : Fin (cfgA F).N) : ((cfgA F).win (1 : Fin 6)).index t = ![16 * (t.val / 136) + kjN t.val, 0] := funext (facts_all t).2.2.2.2.2.2.2.2.2.1
omit H in
theorem idx_2 {F : FTy → Type} [FloatOps F] (t : Fin (cfgA F).N) : ((cfgA F).win (2 : Fin 6)).index t = ![16 * (t.val / 136) + kjN t.val, 0, 0] := funext (facts_all t).2.2.2.2.2.2.2.2.2.2.1
omit H in
theorem idx_5 {F : FTy → Type} [FloatOps F] (t : Fin (cfgA F).N) : ((cfgA F).win (5 : Fin 6)).index t = ![16 * (t.val / 136) + qiN t.val, 0] := funext (facts_all t).2.2.2.2.2.2.2.2.2.2.2
omit H in
theorem qi_lt {F : FTy → Type} [FloatOps F] (t : Fin (cfgA F).N) : qiN t.val < 16 := (facts_all t).2.2.2.2.1
omit H in
theorem kj_le {F : FTy → Type} [FloatOps F] (t : Fin (cfgA F).N) : kjN t.val ≤ qiN t.val := (facts_all t).2.2.2.1
omit H in
theorem t_lt {F : FTy → Type} [FloatOps F] (t : Fin (cfgA F).N) : t.val < 272 := t.isLt

/-- A block of queries, keys, values. -/
theorem blk_q (t : Fin (cfgA 𝕀).N) (r : Fin 512) (C : Fin 2048) : (iblk m c 0 t : S512x2048.Idx → EReal) (ix2 r C)
    = ((at2 q (8192 * (t.val / 136) + 512 * qiN t.val + r) C * sig₀ : ℝ) : EReal) := by
  have h1 := t_lt t; have h2 := qi_lt t
  have := V_q m c H ⟨8192 * (t.val / 136) + 512 * qiN t.val + r, by omega⟩ C
  rw [← this]
  have e := idx_0 t
  blk_ext [iblk, e]
theorem blk_k (t : Fin (cfgA 𝕀).N) (r : Fin 512) (C : Fin 2048) : (iblk m c 1 t : S512x2048.Idx → EReal) (ix2 r C)
    = ((at2 k (8192 * (t.val / 136) + 512 * kjN t.val + r) C : ℝ) : EReal) := by
  have h1 := t_lt t; have h2 := qi_lt t; have h3 := kj_le t
  have := V_k m c H ⟨8192 * (t.val / 136) + 512 * kjN t.val + r, by omega⟩ C
  rw [← this]
  have e := idx_1 t
  blk_ext [iblk, e]
theorem blk_v (t : Fin (cfgA 𝕀).N) (R : Fin 2048) (C : Fin 512) : (iblk m c 2 t : S1x2048x512.Idx → EReal) (ix3 0 R C)
    = ((at2 v (8192 * (t.val / 136) + 512 * kjN t.val + C) R : ℝ) : EReal) := by
  have h1 := t_lt t; have h2 := qi_lt t; have h3 := kj_le t
  have := V_v m c H ⟨16 * (t.val / 136) + kjN t.val, by omega⟩ R C
  rw [show 8192 * (t.val / 136) + 512 * kjN t.val + C.val = 512 * (16 * (t.val / 136) + kjN t.val) + C.val by omega, ← this]
  have e := idx_2 t
  blk_ext [iblk, e]

/-- The score of key `j` for query `n` at map `p` of batch `b`. -/
def score (q k : S16384x2048.Idx → ℝ) (b p n j : ℕ) : ℝ := ∑ d : Fin 128, at2 k (8192 * b + j) (128 * p + d) * (at2 q (8192 * b + n) (128 * p + d) * sig₀)

omit H in
theorem cols_at (a : Memref sig .tc .vmem S512x2048 .bf16) (x : S512x2048.Idx → EReal) (p : Fin 16) (r : Fin 512) (d : Fin 128) :
    (colsOf (F := 𝕀) a x p : S512x128.Idx → EReal) (ix2 r d) = x (ix2 r ⟨128 * p.val + d.val, by omega⟩) := by
  refine (congrFun (View.readAt_rep_unit (Val := Elt 𝕀) a.view (x : S512x2048.Idx → Elt 𝕀 .bf16) (inbX p) rfl (inbX p)) (ix2 r d)).trans ?_
  unfold VecWindow.window
  blk_ext
omit H in
theorem rows_at (a : Memref sig .tc .vmem S1x2048x512 .bf16) (x : S1x2048x512.Idx → EReal) (p : Fin 16) (e : Fin 256) (j : Fin 512) :
    (rowsOf (F := 𝕀) a x p : S1x256x512.Idx → EReal) (ix3 0 e j) = x (ix3 0 ⟨256 * (p.val / 2) + e.val, by omega⟩ j) := by
  refine (congrFun (View.readAt_rep_unit (Val := Elt 𝕀) a.view (x : S1x2048x512.Idx → Elt 𝕀 .bf16) (inbV p) rfl (inbV p)) (ix3 0 e j)).trans ?_
  unfold VecWindow.window
  blk_ext

theorem sc_at (p : Fin 16) (t : Fin (cfgA 𝕀).N) (j r : Fin 512) :
    (sc (ms0 t) (ms1 t) (iblk m c 0 t) (iblk m c 1 t) p : S512x512.Idx → EReal) (ix2 j r)
      = ((score q k (t.val / 136) p (512 * qiN t.val + r) (512 * kjN t.val + j) : ℝ) : EReal) := by
  unfold sc score
  pointwise [scoresOf]
  rw [← coe_sum]
  refine Finset.sum_congr rfl fun d _ => ?_
  rw [cols_at, cols_at, blk_q m c H, blk_k m c H, EReal.coe_mul (at2 k _ _)]
  simp only [Nat.add_assoc]

/-- The scores of a point: minus infinity where the key comes after the query. -/
theorem scT_at (p : Fin 16) (t : Fin (cfgA 𝕀).N) (j r : Fin 512) :
    (scT p m c t : S512x512.Idx → EReal) (ix2 j r)
      = if 512 * kjN t.val + j.val ≤ 512 * qiN t.val + r.val then ((score q k (t.val / 136) p (512 * qiN t.val + r) (512 * kjN t.val + j) : ℝ) : EReal) else ⊥ := by
  have h3 := kj_le t
  unfold scT
  by_cases hb : kjN t.val < qiN t.val
  · rw [if_pos hb, if_pos (by omega), sc_at m c H]
  · rw [if_neg hb]
    pointwise [maskedOf, k0_pay170]
    rw [bitsNegInf]
    rw [show IntOp.cmpi CmpIPredicate.sle (BitVec.ofNat 32 j.val) (BitVec.ofNat 32 r.val) = _ from WordCmp.cmpi_sle_ofNat (by omega) (by omega), Scalar.select_decide]
    by_cases hj : j.val ≤ r.val
    · rw [if_pos hj, if_pos (by omega)]
      exact sc_at m c H p t j r
    · rw [if_neg hj, if_neg (by omega)]

theorem vT_at (p : Fin 16) (t : Fin (cfgA 𝕀).N) (e : Fin 256) (j : Fin 512) :
    (vT p m c t : S1x256x512.Idx → EReal) (ix3 0 e j) = ((at2 v (8192 * (t.val / 136) + (512 * kjN t.val + j)) (256 * (p.val / 2) + e) : ℝ) : EReal) := by
  unfold vT
  rw [rows_at, blk_v m c H]
  simp only [Nat.add_assoc]

end Cert.KernelIdeal.Attn

end
-- ==== Proof.AttnInv.lean ====
module

public import proofs.«01_k».proof.Proof.AttnBlocks

@[expose] public section

/-! What the scratch holds after a point: each map's softmax sums over the keys seen so far, relative to the running
    maximum. -/

set_option maxRecDepth 16384
set_option Elab.async false

noncomputable section

namespace Cert.KernelIdeal.Attn

open Cert.KernelIdeal Cert.KernelIdeal.Gen Cert.Online
open Idealize.ShloMosaic
open Idealize.ShloMosaic.TcCoe Idealize.ShloMosaic.Tactic
open Idealize.SL Idealize.SL.RA Idealize.SL.BI Idealize.SL.Sem

local notation "𝕀" => Idealize.ShloMosaic.Ideal

/-- The weight of key `j` for query `n` at map `p` of batch `b`: `2 ^ score`, nothing for a key after the query. -/
def W (q k : S16384x2048.Idx → ℝ) (b p n j : ℕ) : ℝ := if j ≤ n then (2 : ℝ) ^ score q k b p n j else 0

/-- The sum of the weights over the first `N` blocks of keys, and the weighted sum of column `e` of the head's values. -/
def Ls (q k : S16384x2048.Idx → ℝ) (b p n N : ℕ) : ℝ := ∑ i ∈ Finset.range N, ∑ j : Fin 512, W q k b p n (512 * i + j)
def As (q k v : S16384x2048.Idx → ℝ) (b p n e N : ℕ) : ℝ :=
  ∑ i ∈ Finset.range N, ∑ j : Fin 512, at2 v (8192 * b + (512 * i + j)) (256 * (p / 2) + e) * W q k b p n (512 * i + j)

theorem zM_at (p : Fin 16) (r : Fin 512) : (zM (F := 𝕀) p : S1x1x512.Idx → EReal) (ix3 0 0 r) = ⊥ := by
  show (k0_pay1 (F := 𝕀) : S16x1x512.Idx → EReal) _ = ⊥
  unfold k0_pay1
  simp only [broadcast, shapeCast]
  exact bitsNegInf
theorem zL_at (p : Fin 16) (r : Fin 512) : (zL (F := 𝕀) p : S1x1x512.Idx → EReal) (ix3 0 0 r) = 0 := by
  show (k0_pay2 (F := 𝕀) : S16x1x512.Idx → EReal) _ = 0
  unfold k0_pay2
  simp only [broadcast, shapeCast]
  exact Ideal.ofBits_zero_f32
theorem zA_at (p : Fin 16) (e : Fin 256) (r : Fin 512) : (zA (F := 𝕀) p : S1x256x512.Idx → EReal) (ix3 0 e r) = 0 := by
  show (k0_pay3 (F := 𝕀) : S16x256x512.Idx → EReal) _ = 0
  unfold k0_pay3
  simp only [broadcast, shapeCast]
  exact Ideal.ofBits_zero_f32

variable (m : (ℓ : Loc nD τ sig) → Buf (Elt 𝕀) ℓ) (c : Dev nD)
variable {q k v : S16384x2048.Idx → ℝ} {lm : S4x128.Idx → ℝ} (H : Holds m c q k v lm)
include H

theorem scT_ne_top (p : Fin 16) (t : Fin (cfgA 𝕀).N) (j r : Fin 512) : (scT p m c t : S512x512.Idx → EReal) (ix2 j r) ≠ ⊤ := by
  rw [scT_at m c H]
  split
  · exact EReal.coe_ne_top _
  · exact bot_ne_top
theorem scT_ne_bot (p : Fin 16) (t : Fin (cfgA 𝕀).N) (r : Fin 512) : (scT p m c t : S512x512.Idx → EReal) (ix2 0 r) ≠ ⊥ := by
  have := kj_le t
  rw [scT_at m c H, if_pos (by show 512 * kjN t.val + 0 ≤ _; omega)]
  exact EReal.coe_ne_bot _
theorem wt_scT (p : Fin 16) (t : Fin (cfgA 𝕀).N) (j r : Fin 512) :
    wt ((scT p m c t : S512x512.Idx → EReal) (ix2 j r)) = W q k (t.val / 136) p (512 * qiN t.val + r) (512 * kjN t.val + j) := by
  rw [scT_at m c H, W]
  split
  · exact wt_coe _
  · exact wt_bot

/-- The scratch of map `p` at query row `r` of the point's block, with `N` blocks of keys behind it. -/
def Good (q k v : S16384x2048.Idx → ℝ) (b qi N : ℕ) (p : Fin 16) (M : S1x1x512.Idx → EReal) (L : S1x1x512.Idx → EReal) (A : S1x256x512.Idx → EReal) : Prop :=
  ∀ r : Fin 512, Rel (Ls q k b p (512 * qi + r) N) (M (ix3 0 0 r)) (L (ix3 0 0 r))
    ∧ ∀ e : Fin 256, Rel (As q k v b p (512 * qi + r) e N) (M (ix3 0 0 r)) (A (ix3 0 e r))

omit H in
theorem good_init (b qi : ℕ) (p : Fin 16) : Good q k v b qi 0 p (zM (F := 𝕀) p) (zL (F := 𝕀) p) (zA (F := 𝕀) p) := fun r =>
  ⟨by rw [zM_at, zL_at]; exact rel_init, fun e => by rw [zM_at, zA_at]; exact rel_init⟩

/-- A point adds its block of keys. -/
theorem good_step (p : Fin 16) (t : Fin (cfgA 𝕀).N) (M L : S1x1x512.Idx → EReal) (A : S1x256x512.Idx → EReal)
    (h : Good q k v (t.val / 136) (qiN t.val) (kjN t.val) p M L A) :
    Good q k v (t.val / 136) (qiN t.val) (kjN t.val + 1) p (newM (F := 𝕀) (scT p m c t) M) (newL (F := 𝕀) (scT p m c t) M L) (newA (F := 𝕀) (scT p m c t) (vT p m c t) M A) := by
  intro r
  have hM : (newM (F := 𝕀) (scT p m c t) M : S1x1x512.Idx → EReal) (ix3 0 0 r)
      = max (M (ix3 0 0 r)) (Finset.univ.fold max ⊥ fun j => (scT p m c t : S512x512.Idx → EReal) (ix2 j r)) := by
    pointwise [newM, maxOf]
    rw [bitsNegInf]
  rw [hM]
  refine ⟨?_, fun e => ?_⟩
  · have := rel_step_one _ _ _ (h r).1 (fun j => (scT p m c t : S512x512.Idx → EReal) (ix2 j r)) (fun j => scT_ne_top m c H p t j r) ⟨0, scT_ne_bot m c H p t r⟩
    rw [Ls, Finset.sum_range_succ]
    rw [Finset.sum_congr rfl fun j _ => wt_scT m c H p t j r] at this
    pointwise [newL, maxOf, probOf, scaleOf]
    rw [bitsNegInf]
    exact this
  · have := rel_step _ _ _ ((h r).2 e) (fun j => (scT p m c t : S512x512.Idx → EReal) (ix2 j r))
      (fun j => at2 v (8192 * (t.val / 136) + (512 * kjN t.val + j.val)) (256 * (p.val / 2) + e)) (fun j => scT_ne_top m c H p t j r) ⟨0, scT_ne_bot m c H p t r⟩
    rw [As, Finset.sum_range_succ]
    rw [Finset.sum_congr rfl fun j _ => congrArg _ (wt_scT m c H p t j r)] at this
    pointwise [newA, maxOf, probOf, scaleOf]
    rw [bitsNegInf, Finset.sum_congr rfl fun j _ => congrArg (· * _) (vT_at m c H p t e j)]
    exact this

/-- After point `n` the scratch holds the sums over the blocks of keys up to the point's own. -/
theorem good_after : ∀ (n : ℕ) (h : n < (cfgA 𝕀).N) (p : Fin 16), Good q k v (n / 136) (qiN n) (kjN n + 1) p
    (slM (F := 𝕀) (prv m c (n + 1) h).1 p) (slL (F := 𝕀) (prv m c (n + 1) h).2.1 p) (slA (F := 𝕀) (prv m c (n + 1) h).2.2 p)
  | n, h, p => by
    rw [prv_succ m c ⟨n, h⟩, step_M, step_L, step_A]
    refine good_step m c H p ⟨n, h⟩ _ _ _ ?_
    unfold oldM oldL oldA
    by_cases h0 : kjN n = 0
    · rw [if_pos h0, if_pos h0, if_pos h0]
      have := good_init (q := q) (k := k) (v := v) (n / 136) (qiN n) p
      rw [← h0] at this
      exact this
    · rw [if_neg h0, if_neg h0, if_neg h0]
      obtain ⟨e0, e1, e2, e3⟩ := (facts_all (F := 𝕀) ⟨n, h⟩).2.2.2.2.2.2.2.1 h0
      cases n with
      | zero => exact absurd rfl e0
      | succ n =>
        have := good_after n (Nat.lt_of_succ_lt h) p
        simp only [Nat.add_sub_cancel] at e1 e2 e3
        rw [e1, e2, e3] at this
        exact this

end Cert.KernelIdeal.Attn

end
-- ==== Proof.AttnOut.lean ====
module

public import proofs.«01_k».proof.Proof.AttnInv
public import Idealize.ShloMosaic.Lib.Pipeline.Covers

@[expose] public section

/-! The array the call leaves, over the extended reals, in closed form: per head the difference of two softmax averages,
    normalised and scaled. -/

set_option maxRecDepth 16384
set_option Elab.async false

noncomputable section

namespace Cert.KernelIdeal.Attn

open Cert.KernelIdeal Cert.KernelIdeal.Gen Cert.Online
open Idealize.ShloMosaic
open Idealize.ShloMosaic.TcCoe Idealize.ShloMosaic.Tactic
open Idealize.SL Idealize.SL.RA Idealize.SL.BI Idealize.SL.Sem

local notation "𝕀" => Idealize.ShloMosaic.Ideal

section generic
variable {F : FTy → Type} [FloatOps F]

theorem disjO (j k : Fin 8) (h : j ≠ k) : Disjoint (rO j).set (rO k).toLoadRect.set := by
  refine LoadRect.disjoint_of_separated (rO j).toLoadRect (rO k).toLoadRect (1 : Fin 2) ?_
  have := fun e => h (Fin.ext e)
  show ((256 = 0) ∨ 256 * j.val + 1 * (256 - 1) < 256 * k.val) ∨ ((256 = 0) ∨ 256 * k.val + 1 * (256 - 1) < 256 * j.val)
  omega

/-- Eight pieces, the last one first. -/
def pcs8 {s : Shape} {e : EltTy} (r : Fin 8 → Rect s) (P : (k : Fin 8) → ((r k).shape.Idx → Elt F e)) : (n : ℕ) → n ≤ 8 → List (View.Piece (Elt F) s e)
  | 0, _ => []
  | n + 1, h => ⟨r ⟨n, h⟩, P ⟨n, h⟩⟩ :: pcs8 r P n (Nat.le_of_lt h)

theorem pcs8_at {s : Shape} {e : EltTy} {κ : Kind} {sp : Space} {sg : RefSig} (v : View sg κ sp s e) (r : Fin 8 → Rect s) (P : (k : Fin 8) → ((r k).shape.Idx → Elt F e))
    (hr : ∀ j k : Fin 8, j ≠ k → Disjoint (r j).set (r k).toLoadRect.set) (k : Fin 8) :
    ∀ (n : ℕ) (h : n ≤ 8), k.val < n → v.readCov (pcs8 r P n h) (r k).toLoadRect = P k
  | 0, _, hk => absurd hk (by simp)
  | n + 1, h, hk => by
    rw [pcs8]
    by_cases e : k.val = n
    · subst e
      exact View.readCov_cons_toLoadRect v _ _ _
    · rw [View.readCov_cons_of_disjoint v _ _ _ (hr ⟨n, h⟩ k (fun e' => e (by rw [← e'])))]
      exact pcs8_at v r P hr k n _ (by omega)

section
variable (a8 : Memref sig .tc .vmem S4x128 .f32) (a9 : Memref sig .tc .vmem S256x1 .f32) (x3 : S4x128.Idx → Elt F .f32) (x4 : S256x1.Idx → Elt F .f32)
  (L : List (View.Piece (Elt F) S16x1x512 .f32)) (A : List (View.Piece (Elt F) S16x256x512 .f32))

/-- The columns of head `h` that the pieces of the sums and of the accumulators give. -/
abbrev headPc (h : Fin 8) : FVec F S512x256 .bf16 :=
  headOf (lamOf (lamBlk a8 x3)) (slA (scA.view.writes (Elt F) scA.view.junk A) (map0 h)) (slL (scL.view.writes (Elt F) scL.view.junk L) (map0 h))
      (slA (scA.view.writes (Elt F) scA.view.junk A) (map1 h)) (slL (scL.view.writes (Elt F) scL.view.junk L) (map1 h)) (gainBlk a9 x4)

theorem outPcs_eq : ∀ (n : ℕ) (hn : n ≤ 8), outPcs a8 a9 x3 x4 L A n hn = pcs8 (F := F) rO (headPc a8 a9 x3 x4 L A) n hn
  | 0, _ => rfl
  | n + 1, hn => by rw [outPcs, outPcs_eq n _, pcs8]; rfl

/-- A head's columns of the stored block. -/
theorem outPcs_at (h : Fin 8) : View.readCov VO (outPcs a8 a9 x3 x4 L A 8 le_rfl) (rO h).toLoadRect = headPc a8 a9 x3 x4 L A h := by
  rw [outPcs_eq]
  exact pcs8_at VO rO (headPc a8 a9 x3 x4 L A) disjO h 8 le_rfl h.isLt
end

variable (m : (ℓ : Loc nD τ sig) → Buf (Elt F) ℓ) (c : Dev nD) (t : Fin (cfgA F).N) (s : St F c)

/-- A diagonal point's stored pieces, and the pieces of the sums and of the accumulators it leaves. -/
theorem out_pieces (hb : ¬kjN t.val < qiN t.val) : ∃ L A, (stp m c t s).1 = outPcs (ms3 t) (ms4 t) (iblk m c 3 t) (iblk m c 4 t) L A 8 le_rfl
    ∧ (stp m c t s).2.2.1 = scL.view.writes (Elt F) scL.view.junk L ∧ (stp m c t s).2.2.2 = scA.view.writes (Elt F) scA.view.junk A := by
  unfold stp
  by_cases h0 : kjN t.val = 0
  · rw [dif_neg hb, dif_pos h0]; dsimp only
    refine ⟨(firstL (fun k => maskedOf (sc (ms0 t) (ms1 t) (iblk m c 0 t) (iblk m c 1 t) k))),
      (firstA (fun k => maskedOf (sc (ms0 t) (ms1 t) (iblk m c 0 t) (iblk m c 1 t) k)) (rowsOf (ms2 t) (iblk m c 2 t))), ?_, ?_, ?_⟩
    · exact firstLast_O ..
    · exact firstLast_L ..
    · exact firstLast_A ..
  · rw [dif_neg hb, dif_neg h0]; dsimp only
    refine ⟨(nextL (fun k => maskedOf (sc (ms0 t) (ms1 t) (iblk m c 0 t) (iblk m c 1 t) k)) s.1 s.2.1),
      (nextA (fun k => maskedOf (sc (ms0 t) (ms1 t) (iblk m c 0 t) (iblk m c 1 t) k)) (rowsOf (ms2 t) (iblk m c 2 t)) s.1 s.2.2), ?_, ?_, ?_⟩
    · exact last_O ..
    · exact last_L ..
    · exact last_A ..

/-- A diagonal point's stored block, a head's columns at a time, from the slots the point leaves. -/
theorem out_slot (hb : ¬kjN t.val < qiN t.val) (h : Fin 8) : View.readCov VO (stp m c t s).1 (rO h).toLoadRect
    = headOf (lamOf (lamBlk (ms3 t) (iblk m c 3 t))) (slA (stp m c t s).2.2.2 (map0 h)) (slL (stp m c t s).2.2.1 (map0 h))
      (slA (stp m c t s).2.2.2 (map1 h)) (slL (stp m c t s).2.2.1 (map1 h)) (gainBlk (ms4 t) (iblk m c 4 t)) := by
  obtain ⟨L, A, e1, e2, e3⟩ := out_pieces m c t s hb
  rw [e1, e2, e3, outPcs_at]

end generic

/-- Sums block by block are sums over all the keys, where nothing comes after the last block taken. -/
theorem sum_blocks (f : ℕ → ℝ) (N : ℕ) (hN : N ≤ 16) (hz : ∀ j, 512 * N ≤ j → f j = 0) :
    ∑ i ∈ Finset.range N, ∑ j : Fin 512, f (512 * i + j) = ∑ j : Fin 8192, f j := by
  have h1 : ∀ M, ∑ i ∈ Finset.range M, ∑ j : Fin 512, f (512 * i + j) = ∑ j ∈ Finset.range (512 * M), f j := by
    intro M
    induction M with
    | zero => simp
    | succ M ih => rw [Finset.sum_range_succ, ih, Nat.mul_succ, Finset.sum_range_add, Fin.sum_univ_eq_sum_range (fun j => f (512 * M + j))]
  rw [h1, Fin.sum_univ_eq_sum_range f]
  refine Finset.sum_subset (fun x hx => ?_) (fun x _ hx => hz x ?_)
  · rw [Finset.mem_range] at *; omega
  · rw [Finset.mem_range] at hx; omega

/-- The sums over all the keys. -/
def Lf (q k : S16384x2048.Idx → ℝ) (b p n : ℕ) : ℝ := ∑ j : Fin 8192, W q k b p n j
def Af (q k v : S16384x2048.Idx → ℝ) (b p n e : ℕ) : ℝ := ∑ j : Fin 8192, at2 v (8192 * b + j) (256 * (p / 2) + e) * W q k b p n j

theorem Ls_eq (q k : S16384x2048.Idx → ℝ) (b p qi : ℕ) (r : Fin 512) (hq : qi < 16) : Ls q k b p (512 * qi + r) (qi + 1) = Lf q k b p (512 * qi + r) :=
  sum_blocks (fun j => W q k b p (512 * qi + r) j) (qi + 1) hq fun j hj => if_neg (by omega)
theorem As_eq (q k v : S16384x2048.Idx → ℝ) (b p qi e : ℕ) (r : Fin 512) (hq : qi < 16) : As q k v b p (512 * qi + r) e (qi + 1) = Af q k v b p (512 * qi + r) e :=
  sum_blocks (fun j => at2 v (8192 * b + j) (256 * (p / 2) + e) * W q k b p (512 * qi + r) j) (qi + 1) hq fun j hj => by rw [W, if_neg (by omega), mul_zero]

theorem Lf_pos (q k : S16384x2048.Idx → ℝ) (b p n : ℕ) : 0 < Lf q k b p n := by
  refine Finset.sum_pos' (fun j _ => ?_) ⟨0, Finset.mem_univ _, ?_⟩
  · unfold W; split
    · exact (Real.rpow_pos_of_pos two_pos _).le
    · exact le_rfl
  · show 0 < W q k b p n 0
    rw [W, if_pos (Nat.zero_le n)]
    exact Real.rpow_pos_of_pos two_pos _

/-- The constant `λ_init` as a real number, and `λ` itself. -/
def lam₀ : ℝ := (Idealize.ShloMosaic.Ideal.ofBits .f32 0x3EF1014C#32 : EReal).toReal
theorem lam₀_eq : (Idealize.ShloMosaic.Ideal.ofBits .f32 0x3EF1014C#32 : EReal) = ((lam₀ : ℝ) : EReal) := by
  refine (EReal.coe_toReal ?_ ?_).symm <;> simp [Ideal.ofBits, Ideal.ieee, -EReal.coe_mul]
def lamR (lm : S4x128.Idx → ℝ) : ℝ := Real.exp (∑ d : Fin 128, lm (ix2 0 d) * lm (ix2 1 d)) - Real.exp (∑ d : Fin 128, lm (ix2 2 d) * lm (ix2 3 d)) + lam₀

theorem lamR_eq (x : S4x128.Idx → EReal) (lm : S4x128.Idx → ℝ) (h : ∀ i, x i = ((lm i : ℝ) : EReal)) :
    Ideal.exp (∑ d : Fin 128, x (ix2 0 d) * x (ix2 1 d)) - Ideal.exp (∑ d : Fin 128, x (ix2 2 d) * x (ix2 3 d)) + Idealize.ShloMosaic.Ideal.ofBits .f32 0x3EF1014C#32 = ((lamR lm : ℝ) : EReal) := by
  have e : ∀ a b : Fin 4, Ideal.exp (∑ d : Fin 128, x (ix2 a d) * x (ix2 b d)) = ((Real.exp (∑ d : Fin 128, lm (ix2 a d) * lm (ix2 b d)) : ℝ) : EReal) := fun a b => by
    rw [Finset.sum_congr rfl fun d _ => (show x (ix2 a d) * x (ix2 b d) = ((lm (ix2 a d) * lm (ix2 b d) : ℝ) : EReal) by rw [h, h, EReal.coe_mul]), coe_sum, Ideal.exp_coe]
  rw [e 0 1, e 2 3, lam₀_eq, lamR, EReal.coe_add, EReal.coe_sub]

/-- Head `h`'s mixed average at query `n` of batch `b`, column `e`. -/
def mixed (q k v : S16384x2048.Idx → ℝ) (lm : S4x128.Idx → ℝ) (b h n e : ℕ) : ℝ :=
  Af q k v b (2 * h) n e / Lf q k b (2 * h) n - lamR lm * (Af q k v b (2 * h + 1) n e / Lf q k b (2 * h + 1) n)

/-- A head's row, normalised to mean square one, times the gain and the constant. -/
def normed (o : ℕ → ℝ) (g : EReal) (e : ℕ) : EReal :=
  ((o e : ℝ) : EReal) * Ideal.rsqrt (Ideal.div (∑ x : Fin 256, ((o x : ℝ) : EReal) * ((o x : ℝ) : EReal)) (Idealize.ShloMosaic.Ideal.ofBits .f32 0x43800000#32) + Idealize.ShloMosaic.Ideal.ofBits .f32 0x358637BD#32) * g
    * Idealize.ShloMosaic.Ideal.ofBits .f32 0x3F077F5A#32

/-- The result of the attention, element by element. -/
def result (q k v : S16384x2048.Idx → ℝ) (lm : S4x128.Idx → ℝ) (g : S256.Idx → EReal) : S16384x2048.Idx → EReal := fun i =>
  normed (mixed q k v lm ((i 0).val / 8192) ((i 1).val / 256) ((i 0).val % 8192)) (g (ix1 ⟨(i 1).val % 256, Nat.mod_lt _ (by decide)⟩)) ((i 1).val % 256)

theorem headOf_at (lam : S4x128.Idx → EReal) (a0 a1 : S1x256x512.Idx → EReal) (l0 l1 : S1x1x512.Idx → EReal) (g : S256x1.Idx → EReal) (r : Fin 512) (e : Fin 256)
    (o : ℕ → ℝ) (lm : S4x128.Idx → ℝ) (hl : ∀ i, lam i = ((lm i : ℝ) : EReal)) (f0 f1 : ℕ → ℝ)
    (h0 : ∀ x : Fin 256, Ideal.div (a0 (ix3 0 x r)) (l0 (ix3 0 0 r)) = ((f0 x : ℝ) : EReal)) (h1 : ∀ x : Fin 256, Ideal.div (a1 (ix3 0 x r)) (l1 (ix3 0 0 r)) = ((f1 x : ℝ) : EReal))
    (ho : ∀ x, o x = f0 x - lamR lm * f1 x) :
    (headOf (F := 𝕀) (lamOf (F := 𝕀) lam) a0 l0 a1 l1 g : S512x256.Idx → EReal) (ix2 r e) = normed o (g (ix2 e 0)) e := by
  pointwise [headOf, lamOf, k0_pay328, k0_pay326, k0_pay324, k0_pay325]
  rw [lamR_eq lam lm hl]
  have e1 : ∀ x : Fin 256, Ideal.div (a0 (ix3 0 x r)) (l0 (ix3 0 0 r)) - ((lamR lm : ℝ) : EReal) * Ideal.div (a1 (ix3 0 x r)) (l1 (ix3 0 0 r)) = ((o x : ℝ) : EReal) := fun x => by
    rw [h0, h1, ho, EReal.coe_sub, EReal.coe_mul]
  simp only [e1]
  rfl

variable (m : (ℓ : Loc nD τ sig) → Buf (Elt 𝕀) ℓ) (c : Dev nD)
variable {q k v : S16384x2048.Idx → ℝ} {lm : S4x128.Idx → ℝ} (H : Holds m c q k v lm)
include H

omit H in
theorem idx_3 (t : Fin (cfgA 𝕀).N) : ((cfgA 𝕀).win (3 : Fin 6)).index t = ![0, 0] := rfl
omit H in
theorem idx_4 (t : Fin (cfgA 𝕀).N) : ((cfgA 𝕀).win (4 : Fin 6)).index t = ![0, 0] := rfl

theorem lam_at (t : Fin (cfgA 𝕀).N) (i : S4x128.Idx) : (lamBlk (F := 𝕀) (ms3 t) (iblk m c 3 t) : S4x128.Idx → EReal) i = ((lm i : ℝ) : EReal) := by
  refine (congrFun (View.readAt_rep_unit (Val := Elt 𝕀) (ms3 t).view _ inbG rfl inbG) i).trans ?_
  unfold VecWindow.window
  refine Eq.trans ?_ (H.hl i)
  have e := V_of m c main_arg3 (by decide)
  unfold iblk
  rw [show V m c (Pipeline.arrRef spec0 3) = _ from e]
  have e3 := idx_3 t
  blk_ext [e3]
omit H in
theorem gain_at (t : Fin (cfgA 𝕀).N) (e : Fin 256) : (gainBlk (F := 𝕀) (ms4 t) (iblk m c 4 t) : S256x1.Idx → EReal) (ix2 e 0) = (m (c, Proc.tc.devRef main_arg4) : S256.Idx → EReal) (ix1 e) := by
  refine (congrFun (View.readAt_rep_unit (Val := Elt 𝕀) (ms4 t).view _ inbH rfl inbH) (ix2 e 0)).trans ?_
  unfold VecWindow.window
  refine Eq.trans ?_ (V_g m c e)
  have e4 := idx_4 t
  blk_ext [iblk, e4]

/-- The quotient of a map's slots after a diagonal point. -/
theorem slot_div (t : Fin (cfgA 𝕀).N) (hb : ¬kjN t.val < qiN t.val) (p : Fin 16) (e : Fin 256) (r : Fin 512) :
    Ideal.div ((slA (F := 𝕀) (prv m c (t.val + 1) t.isLt).2.2 p : S1x256x512.Idx → EReal) (ix3 0 e r)) ((slL (F := 𝕀) (prv m c (t.val + 1) t.isLt).2.1 p : S1x1x512.Idx → EReal) (ix3 0 0 r))
      = ((Af q k v (t.val / 136) p (512 * qiN t.val + r) e / Lf q k (t.val / 136) p (512 * qiN t.val + r) : ℝ) : EReal) := by
  have hg := good_after m c H t.val t.isLt p r
  have hk : kjN t.val = qiN t.val := le_antisymm (kj_le t) (not_lt.mp hb)
  rw [hk, Ls_eq _ _ _ _ _ _ (qi_lt t)] at hg
  have := hg.2 e
  rw [As_eq _ _ _ _ _ _ _ _ (qi_lt t)] at this
  exact rel_div _ _ _ _ _ this hg.1 (Lf_pos _ _ _ _ _).ne'

/-- The block a diagonal point stores. -/
theorem block_at (t : Fin (cfgA 𝕀).N) (hb : ¬kjN t.val < qiN t.val) (r : Fin 512) (h : Fin 8) (e : Fin 256) (C : Fin 2048) (hC : C.val = 256 * h.val + e.val) :
    (VO.read (Elt 𝕀) (VO.writes (Elt 𝕀) VO.junk (outs m c t)) : S512x2048.Idx → EReal) (ix2 r C)
      = normed (mixed q k v lm (t.val / 136) h (512 * qiN t.val + r)) ((m (c, Proc.tc.devRef main_arg4) : S256.Idx → EReal) (ix1 e)) e := by
  have e0 := congrFun (out_slot m c t (prv m c t.val t.isLt.le) hb h) (ix2 r e)
  rw [← prv_succ m c t, View.readCov_eq_canon'] at e0
  rw [View.read_writes_junk_eq_canon, outs_eq]
  refine Eq.trans ?_ (e0.trans ?_)
  · congr 1
    blk_ext
    · show r.val = 0 + 1 * r.val; omega
    · show C.val = 256 * h.val + 1 * e.val; omega
  · rw [← gain_at m c t e]
    exact headOf_at _ _ _ _ _ _ r e _ lm (lam_at m c H t) _ _ (fun x => slot_div m c H t hb (map0 h) x r) (fun x => slot_div m c H t hb (map1 h) x r) (fun x => rfl)

omit H in
theorem covers5 : ((cfgA 𝕀).win (5 : Fin 6)).Covers :=
  ((cfgA 𝕀).win (5 : Fin 6)).covers_of_index_surj rfl (by decide) fun β => by
    obtain ⟨t, ht, h1, h2, h3⟩ := diag_point ((β 0).val / 16) (by have : (β 0).val < 32 := (β 0).isLt; omega) ((β 0).val % 16) (Nat.mod_lt _ (by decide))
    have ht' : t < (cfgA 𝕀).N := ht
    refine ⟨⟨t, ht'⟩, fun a => ?_⟩
    rw [idx_5 ⟨t, ht'⟩]
    match a with
    | ⟨0, _⟩ => show 16 * (t / 136) + qiN t = (β 0).val; omega
    | ⟨1, _⟩ => have : (β 1).val < 1 := (β 1).isLt; show 0 = (β 1).val; omega

omit H in
/-- The result at a batch's row and a head's column. -/
theorem result_at (q k v lm g) (i : S16384x2048.Idx) (b n h : ℕ) (e : Fin 256) (hn : n < 8192) (h0 : (i 0).val = 8192 * b + n) (h1 : (i 1).val = 256 * h + e.val) :
    result q k v lm g i = normed (mixed q k v lm b h n) (g (ix1 e)) e := by
  have he := e.isLt
  have d0 : (i 0).val / 8192 = b := by omega
  have d1 : (i 0).val % 8192 = n := by omega
  have d2 : (i 1).val / 256 = h := by omega
  have d3 : (i 1).val % 256 = e.val := by omega
  unfold result
  simp only [d0, d1, d2, d3]

/-- The array after the run. -/
theorem out_array : (dats m 0 c).arrAt (5 : Fin 6) (cfgA 𝕀).N = (result q k v lm (m (c, Proc.tc.devRef main_arg4)) : S16384x2048.Idx → EReal) := by
  refine (dats m 0 c).arrAt_eq_of_covers (5 : Fin 6) _ covers5 fun t hf y => ?_
  have hb : ¬kjN t.val < qiN t.val := by
    have := (facts_all (F := 𝕀) t).2.2.2.2.2.2.1
    rw [hf] at this
    simpa using this
  blk_simp
  rw [after_5]
  have e := idx_5 t
  have e0 : (((((cfgA 𝕀).win (5 : Fin 6)).blk t).view.emb y : S16384x2048.Idx) 0).val = 8192 * (t.val / 136) + (512 * qiN t.val + (y 0).val) := by
    blk_simp [e]
    omega
  have e1 : (((((cfgA 𝕀).win (5 : Fin 6)).blk t).view.emb y : S16384x2048.Idx) 1).val = (y 1).val := by
    blk_simp [e]
  have h0 : (y 0).val < 512 := (y 0).isLt
  have h1 : (y 1).val < 2048 := (y 1).isLt
  have h2 := qi_lt t
  have := block_at m c H t hb (y 0) ⟨(y 1).val / 256, by omega⟩ ⟨(y 1).val % 256, by omega⟩ (y 1) (by show (y 1).val = 256 * ((y 1).val / 256) + (y 1).val % 256; omega)
  refine (congrArg (VO.read (Elt 𝕀) (VO.writes (Elt 𝕀) VO.junk (outs m c t)) : S512x2048.Idx → EReal) (eq_ix2 y)).trans (this.trans ?_)
  exact (result_at q k v lm _ _ _ (512 * qiN t.val + (y 0).val) ((y 1).val / 256) ⟨(y 1).val % 256, by omega⟩ (by omega) e0 (e1.trans (by dsimp only; omega))).symm

end Cert.KernelIdeal.Attn

end
-- ==== Proof.RefParts.lean ====
module

public import proofs.«01_k».proof.Proof.AttnOut
public import proofs.«01_k».proof.Proof.Gen.ReferenceIdeal.Run

@[expose] public section

/-! The reference's result in named parts, and each part read at an element over the extended reals. -/

set_option maxRecDepth 16384
set_option Elab.async false

noncomputable section

namespace Cert.ReferenceIdeal.Parts

open Cert.ReferenceIdeal Cert.ReferenceIdeal.Gen Cert.Online
open Cert.KernelIdeal.Attn (at2 at2_of sig₀ score W Lf Lf_pos Af mixed normed result result_at lamR lamR_eq sqrt128 sqrt128_pos bitsNegInf)
open Idealize.ShloMosaic Idealize.ShloMosaic.TcCoe Idealize.ShloMosaic.Tactic
open Idealize.SL.Sem Idealize.ShloMosaic.StableHlo

local notation "𝕀" => Idealize.ShloMosaic.Ideal

section generic

variable {F : FTy → Type} [FloatOps F]

/-- The scores, minus infinity where the key comes after the query. -/
def masked (x0 x1 : Vec F S16384x2048 .f32) : Vec F S2x8x2x8192x8192 .f32 :=
  select (broadcastInDim S2x8x2x8192x8192 ![3, 4] bcast_S8192x8192_S2x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x8192x8x2x128_S2x8192x8x2x128_S2x8x2x8192x8192_4_4_1_1_023_023 none (Host.divf (shapeCast _ x0 shapeCasts_S16384x2048_S2x8192x8x2x128) (broadcastInDim S2x8192x8x2x128 ![] bcast_S_S2x8192x8x2x128 (Host.sqrt (constant S_ .f32 0x43000000#32)))) (shapeCast _ x1 shapeCasts_S16384x2048_S2x8192x8x2x128))
    (broadcastInDim S2x8x2x8192x8192 ![] bcast_S_S2x8x2x8192x8192 (id (constant S_ .f32 0xFF800000#32)))

/-- The largest of each row, and the sum of each row. -/
def rowMax (s : Vec F S2x8x2x8192x8192 .f32) : Vec F S2x8x2x8192 .f32 := Host.reduce FloatOps.maximumf s (constant S_ .f32 0xFF800000#32) reducesTo_S2x8x2x8192x8192_S2x8x2x8192_d4 h_S_
def rowSum (s : Vec F S2x8x2x8192x8192 .f32) : Vec F S2x8x2x8192 .f32 := Host.reduceAdd s (constant S_ .f32 0x00000000#32) reducesTo_S2x8x2x8192x8192_S2x8x2x8192_d4 h_S_

/-- The exponentials of the scores less their row's largest. -/
def expd (s : Vec F S2x8x2x8192x8192 .f32) (t : Vec F S2x8x2x8192 .f32) : Vec F S2x8x2x8192x8192 .f32 :=
  Host.exp (subf s (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (maximumf (broadcastInDim S2x8x2x8192 ![] bcast_S_S2x8x2x8192 (constant S_ .f32 0xFF800000#32)) t))))

/-- The rows of weights, each of sum one. -/
def quot (x : Vec F S2x8x2x8192x8192 .f32) (t : Vec F S2x8x2x8192 .f32) : Vec F S2x8x2x8192x8192 .f32 :=
  Host.divf x (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 t))

def probs (s : Vec F S2x8x2x8192x8192 .f32) : Vec F S2x8x2x8192x8192 .f32 := quot (expd s (rowMax s)) (rowSum (expd s (rowMax s)))

/-- The number the second map is taken with. -/
def lamP (x3 : Vec F S4x128 .f32) : Vec F S_ .f32 :=
  addf (subf (Host.exp (Host.reduceAdd (mulf (shapeCast _ (extractStridedSlice S1x128 ![0, 0] x3 slices_S4x128_S1x128_0_0) shapeCasts_S1x128_S128) (shapeCast _ (extractStridedSlice S1x128 ![1, 0] x3 slices_S4x128_S1x128_1_0) shapeCasts_S1x128_S128)) (constant S_ .f32 0x00000000#32) reducesTo_S128_S_d0 h_S_))
    (Host.exp (Host.reduceAdd (mulf (shapeCast _ (extractStridedSlice S1x128 ![2, 0] x3 slices_S4x128_S1x128_2_0) shapeCasts_S1x128_S128) (shapeCast _ (extractStridedSlice S1x128 ![3, 0] x3 slices_S4x128_S1x128_3_0) shapeCasts_S1x128_S128)) (constant S_ .f32 0x00000000#32) reducesTo_S128_S_d0 h_S_))) (constant S_ .f32 0x3EF1014C#32)

/-- The first map's weights less the second's. -/
def mixP (p : Vec F S2x8x2x8192x8192 .f32) (l : Vec F S_ .f32) : Vec F S2x8x8192x8192 .f32 :=
  subf (shapeCast _ (extractStridedSlice S2x8x1x8192x8192 ![0, 0, 0, 0, 0] p slices_S2x8x2x8192x8192_S2x8x1x8192x8192_0_0_0_0_0) shapeCasts_S2x8x1x8192x8192_S2x8x8192x8192)
    (mulf (broadcastInDim S2x8x8192x8192 ![] bcast_S_S2x8x8192x8192 l) (shapeCast _ (extractStridedSlice S2x8x1x8192x8192 ![0, 0, 1, 0, 0] p slices_S2x8x2x8192x8192_S2x8x1x8192x8192_0_0_1_0_0) shapeCasts_S2x8x1x8192x8192_S2x8x8192x8192))

/-- The averages of the values. -/
def avgP (x2 : Vec F S16384x2048 .f32) (a : Vec F S2x8x8192x8192 .f32) : Vec F S2x8192x8x256 .f32 :=
  transpose S2x8192x8x256 [0, 3, 1, 2] (Host.dotGeneral dot_S2x8192x8x256_S2x8x8192x8192_S2x8x256x8192_1_3_3_2_02_01 none (shapeCast _ x2 shapeCasts_S16384x2048_S2x8192x8x256) a) transposes_S2x8x256x8192_S2x8192x8x256_0_3_1_2

/-- The averages, normalised per head and scaled. -/
def normP (o : Vec F S2x8192x8x256 .f32) (x4 : Vec F S256 .f32) : Vec F S16384x2048 .bf16 :=
  truncf .bf16 (shapeCast _ (mulf (mulf (mulf o (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf o o) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32))))))
    (broadcastInDim S2x8192x8x256 ![0, 1, 2, 3] bcast_S1x1x1x256_S2x8192x8x256_0_1_2_3 (broadcastInDim S1x1x1x256 ![3] bcast_S256_S1x1x1x256_3 x4))) (broadcastInDim S2x8192x8x256 ![] bcast_S_S2x8192x8x256 (constant S_ .f32 0x3F077F5A#32))) shapeCasts_S2x8192x8x256_S16384x2048) bitsLt_bf16_f32

theorem res_eq (m : (ℓ : Loc nD τ sig) → Buf (Elt F) ℓ) (c : Dev nD) :
    Value.res_out0 m c = normP (avgP (m ((c.tc : Thread nD τ).loc main_arg2)) (mixP (probs (masked (m ((c.tc : Thread nD τ).loc main_arg0)) (m ((c.tc : Thread nD τ).loc main_arg1)))) (lamP (m ((c.tc : Thread nD τ).loc main_arg3))))) (m ((c.tc : Thread nD τ).loc main_arg4)) := by
  sl_kernel_rfl

end generic

/-- The score of query `n` and key `j` of batch `b` under map `p`. -/
def dotR (q k : S16384x2048.Idx → ℝ) (b p n j : ℕ) : ℝ := ∑ d : Fin 128, at2 q (8192 * b + n) (128 * p + d) / Real.sqrt 128 * at2 k (8192 * b + j) (128 * p + d)

/-- The kernel's powers of two are the reference's exponentials. -/
theorem W_exp (q k : S16384x2048.Idx → ℝ) (b p n j : ℕ) : W q k b p n j = if j ≤ n then Real.exp (dotR q k b p n j) else 0 := by
  have hl : Real.log 2 ≠ 0 := (Real.log_pos one_lt_two).ne'
  have e : Real.log 2 * score q k b p n j = dotR q k b p n j := by
    unfold score dotR
    rw [Finset.mul_sum]
    refine Finset.sum_congr rfl fun d _ => ?_
    unfold sig₀
    field_simp
  unfold W
  rw [← e, Real.rpow_def_of_pos two_pos]

/-- The masked scores. -/
theorem masked_at (x0 x1 : S16384x2048.Idx → EReal) (q k : S16384x2048.Idx → ℝ) (hq : ∀ i, x0 i = ((q i : ℝ) : EReal)) (hk : ∀ i, x1 i = ((k i : ℝ) : EReal))
    (b : Fin 2) (h : Fin 8) (z : Fin 2) (n j : Fin 8192) :
    (masked (F := 𝕀) x0 x1 : S2x8x2x8192x8192.Idx → EReal) (ix5 b h z n j) = if j.val ≤ n.val then ((dotR q k b (2 * h + z) n j : ℝ) : EReal) else ⊥ := by
  pointwise [masked]
  have hs : Real.sqrt 128 ≠ 0 := sqrt128_pos.ne'
  have e : ∀ x : Fin 128, Ideal.div (x0 (ix2 (n0 := 16384) (n1 := 2048) ⟨b.val * 8192 + n.val, by omega⟩ ⟨h.val * 256 + z.val * 128 + x.val, by omega⟩)) (Ideal.sqrt (Idealize.ShloMosaic.Ideal.ofBits FTy.f32 1124073472#32))
      * x1 (ix2 (n0 := 16384) (n1 := 2048) ⟨b.val * 8192 + j.val, by omega⟩ ⟨h.val * 256 + z.val * 128 + x.val, by omega⟩)
      = ((at2 q (8192 * b + n) (128 * (2 * h + z) + x) / Real.sqrt 128 * at2 k (8192 * b + j) (128 * (2 * h + z) + x) : ℝ) : EReal) := fun x => by
    rw [hq, hk, sqrt128, Ideal.div, if_neg (by exact_mod_cast hs), ← EReal.coe_inv, ← EReal.coe_mul, ← EReal.coe_mul, at2_of _ _ _ (by omega) (by omega), at2_of _ _ _ (by omega) (by omega), div_eq_mul_inv]
    congr 6
    all_goals omega
  rw [Finset.sum_congr rfl fun x _ => e x, coe_sum, WordCmp.cmpi_sle_ofNat (by omega) (by omega), Scalar.select_decide]
  split
  · rfl
  · exact bitsNegInf

theorem rowMax_at (s : S2x8x2x8192x8192.Idx → EReal) (b : Fin 2) (h : Fin 8) (z : Fin 2) (n : Fin 8192) :
    (rowMax (F := 𝕀) s : S2x8x2x8192.Idx → EReal) (ix4 b h z n) = Finset.univ.fold max (Idealize.ShloMosaic.Ideal.ofBits .f32 0xFF800000#32) (fun x => s (ix5 b h z n x)) := by
  pointwise [rowMax]

theorem rowSum_at (s : S2x8x2x8192x8192.Idx → EReal) (b : Fin 2) (h : Fin 8) (z : Fin 2) (n : Fin 8192) :
    (rowSum (F := 𝕀) s : S2x8x2x8192.Idx → EReal) (ix4 b h z n) = ∑ x : Fin 8192, s (ix5 b h z n x) := by
  pointwise [rowSum]

theorem expd_at' (s : S2x8x2x8192x8192.Idx → EReal) (t : S2x8x2x8192.Idx → EReal) (b : Fin 2) (h : Fin 8) (z : Fin 2) (n j : Fin 8192) :
    (expd (F := 𝕀) s t : S2x8x2x8192x8192.Idx → EReal) (ix5 b h z n j) = Ideal.exp (s (ix5 b h z n j) - max (Idealize.ShloMosaic.Ideal.ofBits .f32 0xFF800000#32) (t (ix4 b h z n))) := by
  pointwise [expd]

theorem quot_at (x : S2x8x2x8192x8192.Idx → EReal) (t : S2x8x2x8192.Idx → EReal) (b : Fin 2) (h : Fin 8) (z : Fin 2) (n j : Fin 8192) :
    (quot (F := 𝕀) x t : S2x8x2x8192x8192.Idx → EReal) (ix5 b h z n j) = Ideal.div (x (ix5 b h z n j)) (t (ix4 b h z n)) := by
  pointwise [quot]

theorem expd_at (s : S2x8x2x8192x8192.Idx → EReal) (b : Fin 2) (h : Fin 8) (z : Fin 2) (n j : Fin 8192) :
    (expd (F := 𝕀) s (rowMax (F := 𝕀) s) : S2x8x2x8192x8192.Idx → EReal) (ix5 b h z n j) = Ideal.exp (s (ix5 b h z n j) - max ⊥ (Finset.univ.fold max ⊥ (fun x => s (ix5 b h z n x)))) := by
  rw [expd_at', rowMax_at, bitsNegInf]

/-- The rows of weights: each key's weight over the sum of the weights. -/
theorem probs_at (s : S2x8x2x8192x8192.Idx → EReal) (q k : S16384x2048.Idx → ℝ) (b : Fin 2) (h : Fin 8) (z : Fin 2) (n : Fin 8192)
    (hs : ∀ j : Fin 8192, s (ix5 b h z n j) = if j.val ≤ n.val then ((dotR q k b (2 * h + z) n j : ℝ) : EReal) else ⊥) (j : Fin 8192) :
    (probs (F := 𝕀) s : S2x8x2x8192x8192.Idx → EReal) (ix5 b h z n j) = ((W q k b (2 * h + z) n j / Lf q k b (2 * h + z) n : ℝ) : EReal) := by
  unfold probs
  rw [quot_at, rowSum_at, expd_at, Finset.sum_congr rfl fun x _ => expd_at s b h z n x]
  have h1 := softmax_term (fun j => s (ix5 b h z n j)) (fun j : Fin 8192 => W q k b (2 * h + z) n j) (fun i => by rw [hs]; split <;> simp)
    (fun i hi => by
      rw [hs] at hi; rw [W_exp]
      split at hi
      · exact absurd hi (EReal.coe_ne_bot _)
      · rename_i hn; exact if_neg hn)
    (fun i r hi => by
      rw [hs] at hi; rw [W_exp]
      split at hi
      · rename_i hn; rw [if_pos hn, EReal.coe_injective hi]
      · exact absurd hi.symm (EReal.coe_ne_bot _))
    ⟨0, by rw [hs, if_pos (show ((0 : Fin 8192) : ℕ) ≤ n.val from Nat.zero_le _)]; exact EReal.coe_ne_bot _⟩ (Lf_pos q k b (2 * h + z) n).ne' j
  rw [zero_add] at h1
  exact h1

theorem lamP_at (x3 : S4x128.Idx → EReal) (lm : S4x128.Idx → ℝ) (hl : ∀ i, x3 i = ((lm i : ℝ) : EReal)) :
    (lamP (F := 𝕀) x3 : S_.Idx → EReal) ix0 = ((lamR lm : ℝ) : EReal) := by
  pointwise [lamP]
  exact lamR_eq x3 lm hl

theorem mixP_at (p : S2x8x2x8192x8192.Idx → EReal) (l : S_.Idx → EReal) (b : Fin 2) (h : Fin 8) (n j : Fin 8192) :
    (mixP (F := 𝕀) p l : S2x8x8192x8192.Idx → EReal) (ix4 b h n j) = p (ix5 b h 0 n j) - l ix0 * p (ix5 b h 1 n j) := by
  pointwise [mixP]

/-- The averages: the difference of the two maps' averages. -/
theorem avgP_at (x2 : S16384x2048.Idx → EReal) (a : S2x8x8192x8192.Idx → EReal) (q k v : S16384x2048.Idx → ℝ) (lm : S4x128.Idx → ℝ) (hv : ∀ i, x2 i = ((v i : ℝ) : EReal))
    (b : Fin 2) (h : Fin 8) (n : Fin 8192) (e : Fin 256)
    (ha : ∀ j : Fin 8192, a (ix4 b h n j) = ((W q k b (2 * h) n j / Lf q k b (2 * h) n - lamR lm * (W q k b (2 * h + 1) n j / Lf q k b (2 * h + 1) n) : ℝ) : EReal)) :
    (avgP (F := 𝕀) x2 a : S2x8192x8x256.Idx → EReal) (ix4 b n h e) = ((mixed q k v lm b h n e : ℝ) : EReal) := by
  pointwise [avgP]
  have e1 : ∀ x : Fin 8192, x2 (ix2 (n0 := 16384) (n1 := 2048) ⟨b.val * 8192 + x.val, by omega⟩ ⟨h.val * 256 + e.val, by omega⟩) * a (ix4 b h n x)
      = ((at2 v (8192 * b + x) (256 * h + e) * (W q k b (2 * h) n x / Lf q k b (2 * h) n - lamR lm * (W q k b (2 * h + 1) n x / Lf q k b (2 * h + 1) n)) : ℝ) : EReal) := fun x => by
    rw [hv, ha, ← EReal.coe_mul, at2_of _ _ _ (by omega) (by omega)]
    congr 4 <;> exact Fin.ext (by dsimp only; omega)
  rw [Finset.sum_congr rfl fun x _ => e1 x, coe_sum]
  congr 1
  unfold mixed Af
  rw [show 2 * h.val / 2 = h.val by omega, show (2 * h.val + 1) / 2 = h.val by omega, Finset.sum_div, Finset.sum_div, Finset.mul_sum, ← Finset.sum_sub_distrib]
  exact Finset.sum_congr rfl fun x _ => by ring

theorem normP_at (o : S2x8192x8x256.Idx → EReal) (x4 : S256.Idx → EReal) (f : ℕ → ℝ) (b : Fin 2) (h : Fin 8) (n : Fin 8192) (e : Fin 256) (ho : ∀ x : Fin 256, o (ix4 b n h x) = ((f x : ℝ) : EReal))
    (R : Fin 16384) (C : Fin 2048) (hR : R.val = 8192 * b.val + n.val) (hC : C.val = 256 * h.val + e.val) :
    (normP (F := 𝕀) o x4 : S16384x2048.Idx → EReal) (ix2 R C) = normed f (x4 (ix1 e)) e := by
  pointwise [normP]
  have e0 : (⟨R.val / 8192, by omega⟩ : Fin 2) = b := Fin.ext (by dsimp only; omega)
  have e1 : (⟨R.val % 8192, by omega⟩ : Fin 8192) = n := Fin.ext (by dsimp only; omega)
  have e2 : (⟨C.val / 256, by omega⟩ : Fin 8) = h := Fin.ext (by dsimp only; omega)
  have e3 : (⟨C.val % 256, by omega⟩ : Fin 256) = e := Fin.ext (by dsimp only; omega)
  simp only [e0, e1, e2, e3, ho]
  rfl

/-- The reference's result in closed form. -/
theorem ref_out (m : (ℓ : Loc nD τ sig) → Buf (Elt 𝕀) ℓ) (c : Dev nD) (q k v : S16384x2048.Idx → ℝ) (lm : S4x128.Idx → ℝ)
    (hq : ∀ i, (m ((c.tc : Thread nD τ).loc main_arg0) : S16384x2048.Idx → EReal) i = ((q i : ℝ) : EReal))
    (hk : ∀ i, (m ((c.tc : Thread nD τ).loc main_arg1) : S16384x2048.Idx → EReal) i = ((k i : ℝ) : EReal))
    (hv : ∀ i, (m ((c.tc : Thread nD τ).loc main_arg2) : S16384x2048.Idx → EReal) i = ((v i : ℝ) : EReal))
    (hl : ∀ i, (m ((c.tc : Thread nD τ).loc main_arg3) : S4x128.Idx → EReal) i = ((lm i : ℝ) : EReal)) :
    (Value.res_out0 m c : S16384x2048.Idx → EReal) = result q k v lm (m ((c.tc : Thread nD τ).loc main_arg4)) := by
  rw [res_eq]
  funext i
  have h0 : (i 0).val < 16384 := (i 0).isLt
  have h1 : (i 1).val < 2048 := (i 1).isLt
  rw [result_at q k v lm _ i ((i 0).val / 8192) ((i 0).val % 8192) ((i 1).val / 256) ⟨(i 1).val % 256, by omega⟩ (by omega) (by omega) (by dsimp only; omega)]
  refine (congrArg (normP (F := 𝕀) _ _ : S16384x2048.Idx → EReal) (eq_ix2 i)).trans ?_
  refine normP_at _ _ (mixed q k v lm ((i 0).val / 8192) ((i 1).val / 256) ((i 0).val % 8192)) ⟨(i 0).val / 8192, by omega⟩ ⟨(i 1).val / 256, by omega⟩ ⟨(i 0).val % 8192, by omega⟩ ⟨(i 1).val % 256, by omega⟩ (fun x => ?_) (i 0) (i 1) (by dsimp only; omega) (by dsimp only; omega)
  refine avgP_at _ _ q k v lm hv _ _ _ _ fun j => ?_
  rw [mixP_at, lamP_at _ lm hl, probs_at _ q k _ _ 0 _ (fun j => masked_at _ _ q k hq hk _ _ _ _ _), probs_at _ q k _ _ 1 _ (fun j => masked_at _ _ q k hq hk _ _ _ _ _), EReal.coe_sub, EReal.coe_mul]
  rfl

end Cert.ReferenceIdeal.Parts

end
-- ==== Proof.Finite.lean ====
module

public import proofs.«01_k».proof.Proof.RefParts
public import proofs.«01_k».proof.Proof.Gen.Pre_finite
public import Idealize.ShloMosaic.PureOps.Reduce

@[expose] public section

/-! What the precondition says: the arrays' entries are real numbers. -/

set_option Elab.async false

noncomputable section

namespace Cert.Finite

open Idealize.ShloMosaic Cert.Pre_finite Cert.Pre_finite.Gen

local notation "𝕀" => Idealize.ShloMosaic.Ideal

theorem andi_one (a b : BitVec 1) : IntOp.andi a b = 1#1 ↔ a = 1#1 ∧ b = 1#1 := by
  simp only [IntOp.andi]; decide +revert

/-- A conjunction over a set is true only where every member is. -/
theorem fold_one {ι : Type} [DecidableEq ι] (S : Finset ι) (f : ι → BitVec 1) (h : S.fold IntOp.andi 1#1 f = 1#1) : ∀ i ∈ S, f i = 1#1 := by
  induction S using Finset.induction_on with
  | empty => exact fun i hi => absurd hi (Finset.notMem_empty i)
  | insert a S ha ih =>
    rw [Finset.fold_insert ha, andi_one] at h
    intro i hi
    rcases Finset.mem_insert.mp hi with rfl | hi
    · exact h.1
    · exact ih h.2 i hi

theorem all_of_reduce {s : Shape} {axes : List (Fin s.rank)} (x : s.Idx → BitVec 1) (c : S_.Idx → BitVec 1) (hc : ∀ j, c j = 1#1) (h : s.ReducesTo axes S_) (hu : 0 < S_.numel) (j : S_.Idx)
    (he : Host.reduce IntOp.andi x c h hu j = 1#1) (i : s.Idx) : x i = 1#1 := by
  rw [Host.reduce_eq_fold, hc] at he
  exact fold_one _ x he i (Finset.mem_filter.mpr ⟨Finset.mem_univ _, funext fun a => a.elim0⟩)

/-- An entry of absolute value below infinity is a real number. -/
theorem real_of_lt {s : Shape} (x : s.Idx → EReal) (h : S_.BroadcastsInDim s (![] : Fin 0 → Fin s.rank)) (i : s.Idx)
    (he : cmpf (F := 𝕀) (φ := .f32) .olt (Host.absf (F := 𝕀) (φ := .f32) x) (broadcastInDim s ![] h (constant (F := 𝕀) S_ .f32 0x7F800000#32)) i = 1#1) : x i = (((x i).toReal : ℝ) : EReal) := by
  have e : Ideal.cmp .olt (max (x i) (-(x i))) (Idealize.ShloMosaic.Ideal.ofBits .f32 0x7F800000#32) = 1#1 := he
  rw [show (Idealize.ShloMosaic.Ideal.ofBits .f32 0x7F800000#32 : EReal) = ⊤ by simp [Ideal.ofBits, Ideal.ieee]] at e
  have e' : max (x i) (-(x i)) < ⊤ := by
    by_contra hn
    rw [Ideal.cmp_olt, decide_eq_false hn] at e
    exact absurd e (by decide)
  refine (EReal.coe_toReal (fun h1 => ?_) fun h1 => ?_).symm <;> rw [h1] at e' <;> simp at e'

theorem entries (x0 x1 x2 : S16384x2048.Idx → EReal) (x3 : S4x128.Idx → EReal) (x4 : S256.Idx → EReal) (h : Cert.Pre_finite.fn (F := 𝕀) x0 x1 x2 x3 x4 = fun _ => 1#1) :
    (∀ i, x0 i = (((x0 i).toReal : ℝ) : EReal)) ∧ (∀ i, x1 i = (((x1 i).toReal : ℝ) : EReal)) ∧ (∀ i, x2 i = (((x2 i).toReal : ℝ) : EReal)) ∧ ∀ i, x3 i = (((x3 i).toReal : ℝ) : EReal) := by
  have e := congrFun h ix0
  unfold Cert.Pre_finite.fn fn_part1 at e
  dsimp only at e
  obtain ⟨e, e3⟩ := (andi_one _ _).mp e
  obtain ⟨e, e2⟩ := (andi_one _ _).mp e
  obtain ⟨e0, e1⟩ := (andi_one _ _).mp e
  exact ⟨fun i => real_of_lt x0 _ i (all_of_reduce _ _ (fun _ => rfl) _ _ _ e0 i), fun i => real_of_lt x1 _ i (all_of_reduce _ _ (fun _ => rfl) _ _ _ e1 i),
    fun i => real_of_lt x2 _ i (all_of_reduce _ _ (fun _ => rfl) _ _ _ e2 i), fun i => real_of_lt x3 _ i (all_of_reduce _ _ (fun _ => rfl) _ _ _ e3 i)⟩

end Cert.Finite

end
-- ==== Proof.Algebraic.lean ====
module

public import proofs.«01_k».proof.Defs
public import proofs.«01_k».proof.Proof.Finite
public import proofs.«01_k».proof.Proof.AttnRun

@[expose] public section

/-! On real queries, keys, values and rows, the program and the reference return the same array, element by element. -/

noncomputable section

namespace Cert.Proof

open Idealize.ShloMosaic Idealize.SL.Sem

theorem algebraic : algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hp ha
  refine ⟨fun c => Cert.ReferenceIdeal.Value.res_out0 m' c, ?_, (θ_run _ _ _).mono (fun r h c => h c) (Cert.ReferenceIdeal.Value.run m' g')⟩
  refine (θ_run _ _ _).mono (fun r h c => ⟨(h.1 c).1.trans ?_, (h.1 c).2⟩) (Cert.KernelIdeal.Attn.run_main m g)
  obtain ⟨e0, e1, e2, e3⟩ := Cert.Finite.entries _ _ _ _ _ (hp c)
  obtain ⟨a0, a1, a2, a3, a4⟩ := ha c
  refine (Cert.KernelIdeal.Attn.out_array m c ⟨e0, e1, e2, e3⟩).trans ?_
  refine ((Cert.ReferenceIdeal.Parts.ref_out m' c _ _ _ _ (fun i => (congrFun a0 i).trans (e0 i)) (fun i => (congrFun a1 i).trans (e1 i)) (fun i => (congrFun a2 i).trans (e2 i)) (fun i => (congrFun a3 i).trans (e3 i))).trans ?_).symm
  rw [a4]
  rfl

end Cert.Proof

end
-- ==== Proof.FramesLinear.lean ====
module

public import proofs.«01_k».proof.Defs
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.FinalKernel
public import proofs.«01_k».proof.Proof.Gen.FinalKernel.Frame
public import proofs.«01_k».proof.Proof.Gen.FinalKernelIdeal
public import proofs.«01_k».proof.Proof.Gen.FinalKernelIdeal.Frame
public import proofs.«01_k».proof.Proof.Gen.FinalReferenceIdeal
public import proofs.«01_k».proof.Proof.Gen.FinalReferenceIdeal.Run
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.QueryKernel
public import proofs.«01_k».proof.Proof.Gen.QueryKernel.Frame
public import proofs.«01_k».proof.Proof.Gen.QueryKernelIdeal
public import proofs.«01_k».proof.Proof.Gen.QueryKernelIdeal.Frame
public import proofs.«01_k».proof.Proof.Gen.QueryReferenceIdeal
public import proofs.«01_k».proof.Proof.Gen.QueryReferenceIdeal.Run
public import proofs.«01_k».proof.Proof.Gen.KeyKernel
public import proofs.«01_k».proof.Proof.Gen.KeyKernel.Frame
public import proofs.«01_k».proof.Proof.Gen.KeyKernelIdeal
public import proofs.«01_k».proof.Proof.Gen.KeyKernelIdeal.Frame
public import proofs.«01_k».proof.Proof.Gen.KeyReferenceIdeal
public import proofs.«01_k».proof.Proof.Gen.KeyReferenceIdeal.Run
public import proofs.«01_k».proof.Proof.Gen.ValKernel
public import proofs.«01_k».proof.Proof.Gen.ValKernel.Frame
public import proofs.«01_k».proof.Proof.Gen.ValKernelIdeal
public import proofs.«01_k».proof.Proof.Gen.ValKernelIdeal.Frame
public import proofs.«01_k».proof.Proof.Gen.ValReferenceIdeal
public import proofs.«01_k».proof.Proof.Gen.ValReferenceIdeal.Run
public import proofs.«01_k».proof.Proof.Gen.RopeKernel
public import proofs.«01_k».proof.Proof.Gen.RopeKernel.Frame
public import proofs.«01_k».proof.Proof.Gen.RopeKernelIdeal
public import proofs.«01_k».proof.Proof.Gen.RopeKernelIdeal.Frame
public import proofs.«01_k».proof.Proof.Gen.RopeReferenceIdeal
public import proofs.«01_k».proof.Proof.Gen.RopeReferenceIdeal.Run
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Frame
public import proofs.«01_k».proof.Proof.Gen.ModReferenceIdeal
public import proofs.«01_k».proof.Proof.Gen.ModReferenceIdeal.Run
public import proofs.«01_k».proof.Proof.Gen.Pre_finite_mod
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateReferenceIdeal
public import proofs.«01_k».proof.Proof.Gen.GateReferenceIdeal.Run
public import proofs.«01_k».proof.Proof.Gen.Pre_finite_ab
public import Idealize.ShloMosaic.Lib.Quiescent

@[expose] public section

/-! The frames of the nine smaller programs: each runs to its end, its arguments unchanged and every counter at zero. -/

noncomputable section

namespace Cert.Proof

open Idealize.ShloMosaic Idealize.SL.Sem

theorem frame_outKernel : Cert.quiescent_OutKernel := fun m g _ => Cert.OutKernel.Gen.frame m g

theorem frame_outKernelIdeal : Cert.quiescent_OutKernelIdeal := fun m g _ => Cert.OutKernelIdeal.Gen.frame m g

theorem frame_outReference : Cert.quiescent_OutReferenceIdeal := fun m g _ =>
  (θ_run Cert.OutReferenceIdeal.defs _ _).mono (fun r h => ⟨fun c => (h c).2, sem_eq_zero_of_no_sems (by decide) r.2⟩) (Cert.OutReferenceIdeal.Value.run (F := Ideal) m g)

theorem frame_finalKernel : Cert.quiescent_FinalKernel := fun m g _ => Cert.FinalKernel.Gen.frame m g

theorem frame_finalKernelIdeal : Cert.quiescent_FinalKernelIdeal := fun m g _ => Cert.FinalKernelIdeal.Gen.frame m g

theorem frame_finalReference : Cert.quiescent_FinalReferenceIdeal := fun m g _ =>
  (θ_run Cert.FinalReferenceIdeal.defs _ _).mono (fun r h => ⟨fun c => (h c).2, sem_eq_zero_of_no_sems (by decide) r.2⟩) (Cert.FinalReferenceIdeal.Value.run (F := Ideal) m g)

theorem frame_inKernel : Cert.quiescent_InKernel := fun m g _ => Cert.InKernel.Gen.frame m g

theorem frame_inKernelIdeal : Cert.quiescent_InKernelIdeal := fun m g _ => Cert.InKernelIdeal.Gen.frame m g

theorem frame_inReference : Cert.quiescent_InReferenceIdeal := fun m g _ =>
  (θ_run Cert.InReferenceIdeal.defs _ _).mono (fun r h => ⟨fun c => (h c).2, sem_eq_zero_of_no_sems (by decide) r.2⟩) (Cert.InReferenceIdeal.Value.run (F := Ideal) m g)

theorem frame_queryKernel : Cert.quiescent_QueryKernel := fun m g _ => Cert.QueryKernel.Gen.frame m g

theorem frame_queryKernelIdeal : Cert.quiescent_QueryKernelIdeal := fun m g _ => Cert.QueryKernelIdeal.Gen.frame m g

theorem frame_queryReference : Cert.quiescent_QueryReferenceIdeal := fun m g _ =>
  (θ_run Cert.QueryReferenceIdeal.defs _ _).mono (fun r h => ⟨fun c => (h c).2, sem_eq_zero_of_no_sems (by decide) r.2⟩) (Cert.QueryReferenceIdeal.Value.run (F := Ideal) m g)

theorem frame_keyKernel : Cert.quiescent_KeyKernel := fun m g _ => Cert.KeyKernel.Gen.frame m g

theorem frame_keyKernelIdeal : Cert.quiescent_KeyKernelIdeal := fun m g _ => Cert.KeyKernelIdeal.Gen.frame m g

theorem frame_keyReference : Cert.quiescent_KeyReferenceIdeal := fun m g _ =>
  (θ_run Cert.KeyReferenceIdeal.defs _ _).mono (fun r h => ⟨fun c => (h c).2, sem_eq_zero_of_no_sems (by decide) r.2⟩) (Cert.KeyReferenceIdeal.Value.run (F := Ideal) m g)

theorem frame_valKernel : Cert.quiescent_ValKernel := fun m g _ => Cert.ValKernel.Gen.frame m g

theorem frame_valKernelIdeal : Cert.quiescent_ValKernelIdeal := fun m g _ => Cert.ValKernelIdeal.Gen.frame m g

theorem frame_valReference : Cert.quiescent_ValReferenceIdeal := fun m g _ =>
  (θ_run Cert.ValReferenceIdeal.defs _ _).mono (fun r h => ⟨fun c => (h c).2, sem_eq_zero_of_no_sems (by decide) r.2⟩) (Cert.ValReferenceIdeal.Value.run (F := Ideal) m g)

theorem frame_ropeKernel : Cert.quiescent_RopeKernel := fun m g _ => Cert.RopeKernel.Gen.frame m g

theorem frame_ropeKernelIdeal : Cert.quiescent_RopeKernelIdeal := fun m g _ => Cert.RopeKernelIdeal.Gen.frame m g

theorem frame_ropeReference : Cert.quiescent_RopeReferenceIdeal := fun m g _ =>
  (θ_run Cert.RopeReferenceIdeal.defs _ _).mono (fun r h => ⟨fun c => (h c).2.2, sem_eq_zero_of_no_sems (by decide) r.2⟩) (Cert.RopeReferenceIdeal.Value.run (F := Ideal) m g)

theorem frame_modKernel : Cert.quiescent_ModKernel := fun m g _ => Cert.ModKernel.Gen.frame m g

theorem frame_modKernelIdeal : Cert.quiescent_ModKernelIdeal := fun m g _ => Cert.ModKernelIdeal.Gen.frame m g

theorem frame_modKernelIdeal_pre : Cert.quiescent_ModKernelIdeal_pre_finite_mod := fun m g _ => frame_modKernelIdeal m g trivial

theorem frame_modReference : Cert.quiescent_ModReferenceIdeal := fun m g _ =>
  (θ_run Cert.ModReferenceIdeal.defs _ _).mono (fun r h => ⟨fun c => (h c).2, sem_eq_zero_of_no_sems (by decide) r.2⟩) (Cert.ModReferenceIdeal.Value.run (F := Ideal) m g)

theorem frame_modReference_pre : Cert.quiescent_ModReferenceIdeal_pre_finite_mod := fun m g _ => frame_modReference m g trivial

theorem frame_gateKernel : Cert.quiescent_GateKernel := fun m g _ => Cert.GateKernel.Gen.frame m g

theorem frame_gateKernelIdeal : Cert.quiescent_GateKernelIdeal := fun m g _ => Cert.GateKernelIdeal.Gen.frame m g

theorem frame_gateKernelIdeal_pre : Cert.quiescent_GateKernelIdeal_pre_finite_ab := fun m g _ => frame_gateKernelIdeal m g trivial

theorem frame_gateReference : Cert.quiescent_GateReferenceIdeal := fun m g _ =>
  (θ_run Cert.GateReferenceIdeal.defs _ _).mono (fun r h => ⟨fun c => (h c).2, sem_eq_zero_of_no_sems (by decide) r.2⟩) (Cert.GateReferenceIdeal.Value.run (F := Ideal) m g)

theorem frame_gateReference_pre : Cert.quiescent_GateReferenceIdeal_pre_finite_ab := fun m g _ => frame_gateReference m g trivial

end Cert.Proof

end
-- ==== Proof.OutValue.lean ====
module

public import proofs.«01_k».proof.Defs
public import proofs.«01_k».proof.Proof.Gen.OutKernelIdeal.Value
public import proofs.«01_k».proof.Proof.Gen.OutReferenceIdeal
public import proofs.«01_k».proof.Proof.Gen.OutReferenceIdeal.Run
public import Idealize.ShloMosaic.Lib.Pointwise
public import Idealize.ShloMosaic.Lib.IdealHost
public import Idealize.ShloMosaic.Lib.Pipeline.ValueKit
public import Idealize.ShloMosaic.Lib.Pipeline.Covers

@[expose] public section

/-! The output projection: the array the call leaves, and the reference's, are one function of the arguments. -/

set_option maxRecDepth 16384

noncomputable section

namespace Cert.OutKernelIdeal.Val

open Cert.OutKernelIdeal Cert.OutKernelIdeal.Gen
open Idealize.ShloMosaic Idealize.ShloMosaic.TcCoe Idealize.ShloMosaic.Tactic
open Idealize.SL.Sem

local notation "𝕀" => Idealize.ShloMosaic.Ideal

/-- The batch and the place in it of row `R` of the batches' rows one below the other. -/
abbrev bat (R : Fin 16384) : Fin 2 := ⟨R.val / 8192, by omega⟩
abbrev pos (R : Fin 16384) : Fin 8192 := ⟨R.val % 8192, Nat.mod_lt _ (by decide)⟩

/-- Row `R`, column `C` of the result: the residual plus the gate times the row of `y` by the column of `w`. -/
def elem (y : S2x8192x2048.Idx → EReal) (w : S2048x2048.Idx → EReal) (x : S2x8192x2048.Idx → EReal) (g : S2x2048.Idx → EReal)
    (R : Fin 16384) (C : Fin 2048) : EReal :=
  x (ix3 (bat R) (pos R) C) + g (ix2 (bat R) C) * ∑ d : Fin 2048, y (ix3 (bat R) (pos R) d) * w (ix2 d C)

variable (m : (ℓ : Loc nD τ sig) → Buf (Elt 𝕀) ℓ) (c : Dev nD)

/-- The arrays the call reads. -/
theorem V_y (R : Fin 16384) (C : Fin 2048) : (V m c main_v1 : S16384x2048.Idx → EReal) (ix2 R C)
    = (m (c, Proc.tc.devRef main_arg0) : S2x8192x2048.Idx → EReal) (ix3 (bat R) (pos R) C) := by
  unfold V hostOps0; after_results
  pointwise
theorem V_w (R C : Fin 2048) : (V m c main_v2 : S2048x2048.Idx → EReal) (ix2 R C) = (m (c, Proc.tc.devRef main_arg1) : S2048x2048.Idx → EReal) (ix2 R C) := by
  unfold V hostOps0; after_results
  pointwise
theorem V_x (R : Fin 16384) (C : Fin 2048) : (V m c main_v3 : S16384x2048.Idx → EReal) (ix2 R C)
    = (m (c, Proc.tc.devRef main_arg2) : S2x8192x2048.Idx → EReal) (ix3 (bat R) (pos R) C) := by
  unfold V hostOps0; after_results
  pointwise
theorem V_g (b : Fin 2) (C : Fin 2048) : (V m c main_v4 : S2x1x2048.Idx → EReal) (ix3 b 0 C) = (m (c, Proc.tc.devRef main_arg3) : S2x2048.Idx → EReal) (ix2 b C) := by
  unfold V hostOps0; after_results
  pointwise

theorem idxs : ∀ t : Fin grid0.N, win0_0.index t = ![t.val / 2, 0] ∧ win0_1.index t = ![0, t.val % 2] ∧ win0_2.index t = ![t.val / 2, t.val % 2]
    ∧ win0_3.index t = ![t.val / 16, 0, t.val % 2] ∧ win0_4.index t = ![t.val / 2, t.val % 2] := by decide +kernel
theorem t_lt (t : Fin cfg0.N) : t.val < 32 := lt_of_lt_of_eq t.isLt N_0

/-- The blocks of a point. -/
theorem blk_y (t : Fin cfg0.N) (r : Fin 1024) (d : Fin 2048) : (iblk m c 0 t : S1024x2048.Idx → EReal) (ix2 r d)
    = (V m c main_v1 : S16384x2048.Idx → EReal) (ix2 ⟨1024 * (t.val / 2) + r.val, by have := t_lt t; omega⟩ d) := by
  have e : (cfg0.win 0).index t = _ := (idxs t).1
  blk_ext [iblk, e]
theorem blk_w (t : Fin cfg0.N) (d : Fin 2048) (C : Fin 1024) : (iblk m c 1 t : S2048x1024.Idx → EReal) (ix2 d C)
    = (V m c main_v2 : S2048x2048.Idx → EReal) (ix2 d ⟨1024 * (t.val % 2) + C.val, by omega⟩) := by
  have e : (cfg0.win 1).index t = _ := (idxs t).2.1
  blk_ext [iblk, e]
theorem blk_x (t : Fin cfg0.N) (r C : Fin 1024) : (iblk m c 2 t : S1024x1024.Idx → EReal) (ix2 r C)
    = (V m c main_v3 : S16384x2048.Idx → EReal) (ix2 ⟨1024 * (t.val / 2) + r.val, by have := t_lt t; omega⟩ ⟨1024 * (t.val % 2) + C.val, by omega⟩) := by
  have e : (cfg0.win 2).index t = _ := (idxs t).2.2.1
  blk_ext [iblk, e]
theorem blk_g (t : Fin cfg0.N) (C : Fin 1024) : (iblk m c 3 t : S1x1x1024.Idx → EReal) (ix3 0 0 C)
    = (V m c main_v4 : S2x1x2048.Idx → EReal) (ix3 ⟨t.val / 16, by have := t_lt t; omega⟩ 0 ⟨1024 * (t.val % 2) + C.val, by omega⟩) := by
  have e : (cfg0.win 3).index t = _ := (idxs t).2.2.2.1
  blk_ext [iblk, e]

/-- The stored block at an element. -/
theorem pay_at (x : S1024x1024.Idx → EReal) (g : S1x1x1024.Idx → EReal) (y : S1024x2048.Idx → EReal) (w : S2048x1024.Idx → EReal) (r C : Fin 1024) :
    (k0_pay1 (F := 𝕀) x g y w : S1024x1024.Idx → EReal) (ix2 r C) = x (ix2 r C) + g (ix3 0 0 C) * ∑ d : Fin 2048, y (ix2 r d) * w (ix2 d C) := by
  pointwise [k0_pay1]

theorem covers : (cfg0.win 4).Covers :=
  (cfg0.win 4).covers_of_index_surj rfl (by decide) fun β => by
    have h0 : (β 0).val < 16 := (β 0).isLt
    have h1 : (β 1).val < 2 := (β 1).isLt
    have ht : 2 * (β 0).val + (β 1).val < cfg0.N := lt_of_lt_of_eq (by omega : _ < 32) N_0.symm
    refine ⟨⟨_, ht⟩, fun a => ?_⟩
    rw [show (cfg0.win 4).index ⟨_, ht⟩ = _ from (idxs ⟨_, ht⟩).2.2.2.2]
    match a with
    | ⟨0, _⟩ => show (2 * (β 0).val + (β 1).val) / 2 = (β 0).val; omega
    | ⟨1, _⟩ => show (2 * (β 0).val + (β 1).val) % 2 = (β 1).val; omega

/-- The block a point stores, at an element. -/
theorem block_at (t : Fin cfg0.N) (r C : Fin 1024) :
    (out0_4 (F := 𝕀) (iblk m c 0 t) (iblk m c 1 t) (iblk m c 2 t) (iblk m c 3 t) : S1024x1024.Idx → EReal) (ix2 r C)
      = elem (m (c, Proc.tc.devRef main_arg0)) (m (c, Proc.tc.devRef main_arg1)) (m (c, Proc.tc.devRef main_arg2)) (m (c, Proc.tc.devRef main_arg3))
          ⟨1024 * (t.val / 2) + r.val, by have := t_lt t; omega⟩ ⟨1024 * (t.val % 2) + C.val, by omega⟩ := by
  have ht := t_lt t
  have hb : (⟨t.val / 16, by omega⟩ : Fin 2) = bat ⟨1024 * (t.val / 2) + r.val, by omega⟩ := Fin.ext (by show t.val / 16 = (1024 * (t.val / 2) + r.val) / 8192; omega)
  unfold out0_4 elem
  rw [View.canon_unit_zero (funext fun a => by fin_cases a <;> rfl), View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]
  refine (pay_at _ _ _ _ r C).trans ?_
  rw [blk_x, blk_g, V_x, V_g, hb]
  refine congrArg₂ _ rfl (congrArg₂ _ rfl (Finset.sum_congr rfl fun d _ => ?_))
  rw [blk_y, blk_w, V_y, V_w]

/-- The array after the run. -/
theorem out_array : (dats m 0 c).arrAt 4 cfg0.N
    = (fun i : S16384x2048.Idx => elem (m (c, Proc.tc.devRef main_arg0)) (m (c, Proc.tc.devRef main_arg1)) (m (c, Proc.tc.devRef main_arg2)) (m (c, Proc.tc.devRef main_arg3)) (i 0) (i 1)) := by
  refine (dats m 0 c).arrAt_eq_of_covers 4 _ covers fun t hf y => ?_
  have e : (cfg0.win 4).index t = _ := (idxs t).2.2.2.2
  blk_simp
  rw [after0_4]
  refine (congrArg (out0_4 (F := 𝕀) (iblk m c 0 t) (iblk m c 1 t) (iblk m c 2 t) (iblk m c 3 t) : S1024x1024.Idx → EReal) (eq_ix2 y)).trans ((block_at m c t (y 0) (y 1)).trans ?_)
  refine congrArg₂ _ (Fin.ext ?_) (Fin.ext ?_) <;> blk_simp [e]
  · exact congrArg (· + (y 0).val) (Nat.mul_comm 1024 (t.val / 2))
  · exact congrArg (· + (y 1).val) (Nat.mul_comm 1024 (t.val % 2))

end Cert.OutKernelIdeal.Val

namespace Cert.OutReferenceIdeal.Val

open Cert.OutReferenceIdeal Cert.OutReferenceIdeal.Gen Cert.OutKernelIdeal.Val
open Idealize.ShloMosaic Idealize.ShloMosaic.TcCoe Idealize.ShloMosaic.Tactic
open Idealize.SL.Sem

local notation "𝕀" => Idealize.ShloMosaic.Ideal

theorem ref_at (y : S2x8192x2048.Idx → EReal) (w : S2048x2048.Idx → EReal) (x : S2x8192x2048.Idx → EReal) (g : S2x2048.Idx → EReal) (R : Fin 16384) (C : Fin 2048) :
    (shapeCast S16384x2048 (addf (F := 𝕀) (φ := .f32) x (mulf (broadcastInDim S2x8192x2048 ![0, 1, 2] bcast_S2x1x2048_S2x8192x2048_0_1_2 (broadcastInDim S2x1x2048 ![0, 2] bcast_S2x2048_S2x1x2048_0_2 g)) (Host.dotGeneral (F := 𝕀) (φ₁ := .f32) (φ₂ := .f32) dot_S2x8192x2048_S2048x2048_S2x8192x2048_2_0_01_1_n_n none y w))) shapeCasts_S2x8192x2048_S16384x2048 : S16384x2048.Idx → EReal) (ix2 R C)
      = elem y w x g R C := by
  unfold elem
  pointwise

/-- The reference's array. -/
theorem ref_array (y : S2x8192x2048.Idx → EReal) (w : S2048x2048.Idx → EReal) (x : S2x8192x2048.Idx → EReal) (g : S2x2048.Idx → EReal) :
    (shapeCast S16384x2048 (addf (F := 𝕀) (φ := .f32) x (mulf (broadcastInDim S2x8192x2048 ![0, 1, 2] bcast_S2x1x2048_S2x8192x2048_0_1_2 (broadcastInDim S2x1x2048 ![0, 2] bcast_S2x2048_S2x1x2048_0_2 g)) (Host.dotGeneral (F := 𝕀) (φ₁ := .f32) (φ₂ := .f32) dot_S2x8192x2048_S2048x2048_S2x8192x2048_2_0_01_1_n_n none y w))) shapeCasts_S2x8192x2048_S16384x2048 : S16384x2048.Idx → EReal)
      = fun i => elem y w x g (i 0) (i 1) := by
  funext i
  rw [eq_ix2 i]
  exact ref_at y w x g (i 0) (i 1)

end Cert.OutReferenceIdeal.Val

namespace Cert.Proof

open Idealize.ShloMosaic Idealize.SL.Sem

/-- The call and the reference return the same array. -/
theorem algebraic_out : algebraic_OutKernelIdeal_OutReferenceIdeal (hOutKernelIdeal := Cert.OutKernelIdeal.Gen.facts) (hOutReferenceIdeal := Cert.OutReferenceIdeal.Gen.facts) := by
  intro m g m' g' _ ha
  refine ⟨_, Cert.OutKernelIdeal.Value.run_blocks m g, ?_⟩
  refine (θ_run _ _ _).mono (fun r h c => ⟨(h c).1.trans ?_, (h c).2⟩) (Cert.OutReferenceIdeal.Value.run m' g')
  obtain ⟨a0, a1, a2, a3⟩ := ha c
  rw [a0, a1, a2, a3]
  exact (Cert.OutReferenceIdeal.Val.ref_array _ _ _ _).trans (Cert.OutKernelIdeal.Val.out_array m c).symm

end Cert.Proof

end
-- ==== Proof.FinalValue.lean ====
module

public import proofs.«01_k».proof.Defs
public import proofs.«01_k».proof.Proof.Gen.FinalKernelIdeal.Value
public import proofs.«01_k».proof.Proof.Gen.FinalReferenceIdeal
public import proofs.«01_k».proof.Proof.Gen.FinalReferenceIdeal.Run
public import Idealize.ShloMosaic.Lib.Pointwise
public import Idealize.ShloMosaic.Lib.IdealHost
public import Idealize.ShloMosaic.Lib.Pipeline.ValueKit
public import Idealize.ShloMosaic.Lib.Pipeline.Covers

@[expose] public section

/-! The final normalisation: the array the call leaves, and the reference's, are one function of the arguments. -/

set_option maxRecDepth 16384

noncomputable section

namespace Cert.FinalKernelIdeal.Val

open Cert.FinalKernelIdeal Cert.FinalKernelIdeal.Gen
open Idealize.ShloMosaic Idealize.ShloMosaic.TcCoe Idealize.ShloMosaic.Tactic
open Idealize.SL.Sem

local notation "𝕀" => Idealize.ShloMosaic.Ideal

/-- An entry of a row of 2048 numbers, divided by the root of their mean square and scaled. -/
def nrm (row g : Fin 2048 → EReal) (C : Fin 2048) : EReal :=
  row C * Ideal.rsqrt (Ideal.div (∑ d : Fin 2048, row d * row d) (Idealize.ShloMosaic.Ideal.ofBits .f32 0x45000000#32) + Idealize.ShloMosaic.Ideal.ofBits .f32 0x358637BD#32) * g C

/-- Row `R` of the batches' rows one below the other. -/
abbrev rowOf (x : (⟨3, ![2, 8192, 2048]⟩ : Shape).Idx → EReal) (R : Fin 16384) (d : Fin 2048) : EReal :=
  x (ix3 ⟨R.val / 8192, by omega⟩ ⟨R.val % 8192, Nat.mod_lt _ (by decide)⟩ d)

variable (m : (ℓ : Loc nD τ sig) → Buf (Elt 𝕀) ℓ) (c : Dev nD)

/-- The arrays the call reads. -/
theorem V_x (R : Fin 16384) (C : Fin 2048) : (V m c main_v0 : S16384x2048.Idx → EReal) (ix2 R C) = rowOf (m (c, Proc.tc.devRef main_arg0)) R C := by
  unfold V hostOps0; after_results
  pointwise
theorem V_g (C : Fin 2048) : (V m c main_v1 : S1x2048.Idx → EReal) (ix2 0 C) = (m (c, Proc.tc.devRef main_arg1) : S2048.Idx → EReal) (ix1 C) := by
  unfold V hostOps0; after_results
  pointwise

theorem idxs : ∀ t : Fin grid0.N, win0_0.index t = ![t.val, 0] ∧ win0_1.index t = ![0, 0] ∧ win0_2.index t = ![t.val, 0] := by decide +kernel
theorem t_lt (t : Fin cfg0.N) : t.val < 32 := lt_of_lt_of_eq t.isLt N_0

/-- The blocks of a point. -/
theorem blk_x (t : Fin cfg0.N) (r : Fin 512) (d : Fin 2048) : (iblk m c 0 t : S512x2048.Idx → EReal) (ix2 r d)
    = (V m c main_v0 : S16384x2048.Idx → EReal) (ix2 ⟨512 * t.val + r.val, by have := t_lt t; omega⟩ d) := by
  have e : (cfg0.win 0).index t = _ := (idxs t).1
  blk_ext [iblk, e]
theorem blk_g (t : Fin cfg0.N) (C : Fin 2048) : (iblk m c 1 t : S1x2048.Idx → EReal) (ix2 0 C) = (V m c main_v1 : S1x2048.Idx → EReal) (ix2 0 C) := by
  have e : (cfg0.win 1).index t = _ := (idxs t).2.1
  blk_ext [iblk, e]

/-- The stored block at an element. -/
theorem pay_at (x : S512x2048.Idx → EReal) (g : S1x2048.Idx → EReal) (r : Fin 512) (C : Fin 2048) :
    (k0_pay1 (F := 𝕀) x g : S512x2048.Idx → EReal) (ix2 r C) = nrm (fun d => x (ix2 r d)) (fun d => g (ix2 0 d)) C := by
  unfold nrm
  pointwise [k0_pay1]

theorem covers : (cfg0.win 2).Covers :=
  (cfg0.win 2).covers_of_index_surj rfl (by decide) fun β => by
    have h0 : (β 0).val < 32 := (β 0).isLt
    have h1 : (β 1).val < 1 := (β 1).isLt
    have ht : (β 0).val < cfg0.N := lt_of_lt_of_eq h0 N_0.symm
    refine ⟨⟨_, ht⟩, fun a => ?_⟩
    rw [show (cfg0.win 2).index ⟨_, ht⟩ = _ from (idxs ⟨_, ht⟩).2.2]
    match a with
    | ⟨0, _⟩ => rfl
    | ⟨1, _⟩ => show 0 = (β 1).val; omega

/-- The block a point stores, at an element. -/
theorem block_at (t : Fin cfg0.N) (r : Fin 512) (C : Fin 2048) : (out0_2 (F := 𝕀) (iblk m c 0 t) (iblk m c 1 t) : S512x2048.Idx → EReal) (ix2 r C)
    = nrm (rowOf (m (c, Proc.tc.devRef main_arg0)) ⟨512 * t.val + r.val, by have := t_lt t; omega⟩) (fun d => (m (c, Proc.tc.devRef main_arg1) : S2048.Idx → EReal) (ix1 d)) C := by
  unfold out0_2
  rw [View.canon_unit_zero (funext fun a => by fin_cases a <;> rfl), View.ld_unit_zero (funext fun a => by fin_cases a <;> rfl), View.ld_unit_zero (funext fun a => by fin_cases a <;> rfl)]
  refine (pay_at _ _ r C).trans (congrArg₂ (fun a b => nrm a b C) (funext fun d => ?_) (funext fun d => ?_))
  · rw [blk_x, V_x]
  · rw [blk_g, V_g]

/-- The array after the run. -/
theorem out_array : (dats m 0 c).arrAt 2 cfg0.N
    = (fun i : S16384x2048.Idx => nrm (rowOf (m (c, Proc.tc.devRef main_arg0)) (i 0)) (fun d => (m (c, Proc.tc.devRef main_arg1) : S2048.Idx → EReal) (ix1 d)) (i 1)) := by
  refine (dats m 0 c).arrAt_eq_of_covers 2 _ covers fun t hf y => ?_
  have e : (cfg0.win 2).index t = _ := (idxs t).2.2
  blk_simp
  rw [after0_2]
  refine (congrArg (out0_2 (F := 𝕀) (iblk m c 0 t) (iblk m c 1 t) : S512x2048.Idx → EReal) (eq_ix2 y)).trans ((block_at m c t (y 0) (y 1)).trans ?_)
  refine congrArg₂ (fun R C => nrm (rowOf (m (c, Proc.tc.devRef main_arg0)) R) (fun d => (m (c, Proc.tc.devRef main_arg1) : S2048.Idx → EReal) (ix1 d)) C) (Fin.ext ?_) (Fin.ext ?_) <;> blk_simp [e]
  exact congrArg (· + (y 0).val) (Nat.mul_comm 512 t.val)

end Cert.FinalKernelIdeal.Val

namespace Cert.FinalReferenceIdeal.Val

open Cert.FinalReferenceIdeal Cert.FinalReferenceIdeal.Gen Cert.FinalKernelIdeal.Val
open Idealize.ShloMosaic Idealize.ShloMosaic.TcCoe Idealize.ShloMosaic.Tactic
open Idealize.SL.Sem

local notation "𝕀" => Idealize.ShloMosaic.Ideal

/-- The rows normalised and scaled, batch by batch. -/
def normed (x : S2x8192x2048.Idx → EReal) (g : S2048.Idx → EReal) : S2x8192x2048.Idx → EReal :=
  mulf (F := 𝕀) (φ := .f32) (mulf (F := 𝕀) (φ := .f32) x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

theorem ref_at (x : S2x8192x2048.Idx → EReal) (g : S2048.Idx → EReal) (R : Fin 16384) (C : Fin 2048) :
    (shapeCast S16384x2048 (normed x g) shapeCasts_S2x8192x2048_S16384x2048 : S16384x2048.Idx → EReal) (ix2 R C) = nrm (rowOf x R) (fun d => g (ix1 d)) C := by
  unfold nrm
  pointwise [normed]

/-- The reference's array. -/
theorem ref_array (x : S2x8192x2048.Idx → EReal) (g : S2048.Idx → EReal) :
    (shapeCast S16384x2048 (normed x g) shapeCasts_S2x8192x2048_S16384x2048 : S16384x2048.Idx → EReal)
      = fun i => nrm (rowOf x (i 0)) (fun d => g (ix1 d)) (i 1) := by
  funext i
  rw [eq_ix2 i]
  exact ref_at x g (i 0) (i 1)

end Cert.FinalReferenceIdeal.Val

namespace Cert.Proof

open Idealize.ShloMosaic Idealize.SL.Sem

/-- The call and the reference return the same array. -/
theorem algebraic_final : algebraic_FinalKernelIdeal_FinalReferenceIdeal (hFinalKernelIdeal := Cert.FinalKernelIdeal.Gen.facts) (hFinalReferenceIdeal := Cert.FinalReferenceIdeal.Gen.facts) := by
  intro m g m' g' _ ha
  refine ⟨_, Cert.FinalKernelIdeal.Value.run_blocks m g, ?_⟩
  refine (θ_run _ _ _).mono (fun r h c => ⟨(h c).1.trans ?_, (h c).2⟩) (Cert.FinalReferenceIdeal.Value.run m' g')
  obtain ⟨a0, a1⟩ := ha c
  rw [a0, a1]
  exact (Cert.FinalReferenceIdeal.Val.ref_array _ _).trans (Cert.FinalKernelIdeal.Val.out_array m c).symm

end Cert.Proof

end
-- ==== Proof.InForms.lean ====
module

public import proofs.«01_k».proof.Proof.Gen.InKernelIdeal.Value
public import Idealize.ShloMosaic.Lib.VecWindow

@[expose] public section

/-! What a point of the normalised projection stores: eight chunks of 128 rows in the carried scratch, eight heads in the output's block. -/

set_option maxRecDepth 16384

noncomputable section

namespace Cert.InKernelIdeal.Val

open Cert.InKernelIdeal Cert.InKernelIdeal.Gen
open Idealize.ShloMosaic Idealize.ShloMosaic.TcCoe Idealize.ShloMosaic.Tactic
open Idealize.SL.Sem

variable {F : FTy → Type} [FloatOps F]

/-- The first `n` of eight pieces, the last first. -/
def pcs {α : Type} (f : Fin 8 → α) : (n : ℕ) → n ≤ 8 → List α
  | 0, _ => []
  | n + 1, h => f ⟨n, h⟩ :: pcs f n (Nat.le_of_lt h)

theorem pcs_mem {α : Type} (f : Fin 8 → α) (p : α) : ∀ (n : ℕ) (h : n ≤ 8), p ∈ pcs f n h → ∃ k, p = f k
  | 0, _, hp => absurd hp List.not_mem_nil
  | n + 1, h, hp => (List.mem_cons.mp hp).elim (fun e => ⟨_, e⟩) (pcs_mem f p n _)

theorem inbR : ∀ (k : Fin 8) (a : Fin 2), (![128 * k.val, 0] : Fin 2 → ℕ) a + S128x2048.size a ≤ S1024x2048.size a := by decide
theorem inbT : ∀ (k : Fin 8) (a : Fin 3), (![k.val, 0, 0] : Fin 3 → ℕ) a + S1x1024x128.size a ≤ S8x1024x128.size a := by decide
theorem slc : ∀ k : Fin 8, S1024x1024.Slices ![0, 128 * k.val] S1024x128 := by decide

/-- The rectangle of a chunk of rows, and of a head. -/
abbrev rR (k : Fin 8) : Rect S1024x2048 := Rect.unit (s := S1024x2048) ![128 * k.val, 0] S128x2048.size (inbR k)
abbrev rT (k : Fin 8) : Rect S8x1024x128 := Rect.unit (s := S8x1024x128) ![k.val, 0, 0] S1x1024x128.size (inbT k)

section
variable {sg : RefSig} {a2 : Memref sg .tc .vmem S1024x2048 .f32} {a3 : Memref sg .tc .vmem S1x2048 .f32} {a4 a5 : Memref sg .tc .vmem S1x1x2048 .f32}
  {a6 : Memref sg .tc .vmem S2048x1024 .bf16} {a8 : Memref sg .tc .vmem S1024x2048 .bf16}
  (h2 : a2.IsWhole) (h3 : a3.IsWhole) (h4 : a4.IsWhole) (h5 : a5.IsWhole) (h6 : a6.IsWhole) (h8 : a8.IsWhole)
  (x0 : Vec F S1024x2048 .f32) (x1 : Vec F S1x2048 .f32) (x2 x3 : Vec F S1x1x2048 .f32) (x4 : Vec F S2048x1024 .bf16)

/-- A chunk's normalised and modulated rows. -/
abbrev chunk (k : Fin 8) : FVec F S128x2048 .bf16 :=
  k0_pay8 (View.readAt (Elt F) a3.view (Rect.unit (s := S1x2048) ![0, 0] S1x2048.size inb_S1x2048_S1x2048_0_0).toLoadRect (h3.unread x1))
    (View.readAt (Elt F) a4.view (Rect.unit (s := S1x1x2048) ![0, 0, 0] S1x1x2048.size inb_S1x1x2048_S1x1x2048_0_0_0).toLoadRect (h4.unread x2))
    (View.readAt (Elt F) a5.view (Rect.unit (s := S1x1x2048) ![0, 0, 0] S1x1x2048.size inb_S1x1x2048_S1x1x2048_0_0_0).toLoadRect (h5.unread x3))
    (View.readAt (Elt F) a2.view (rR k).toLoadRect (h2.unread x0))

/-- The pieces of the scratch. -/
abbrev rows : List (View.Piece (Elt F) S1024x2048 .bf16) := pcs (fun k => ⟨rR k, chunk h2 h3 h4 h5 x0 x1 x2 x3 k⟩) 8 le_rfl

/-- A head's columns of the product. -/
abbrev head (h : Vec F S1024x2048 .bf16) (w : Vec F S2048x1024 .bf16) (k : Fin 8) : FVec F S1x1024x128 .bf16 :=
  shapeCast S1x1024x128 (truncf .bf16 (extractStridedSlice S1024x128 ![0, 128 * k.val] (k0_pay28 h w) (slc k)) bitsLt_bf16_f32) shapeCasts_S1024x128_S1x1024x128

abbrev wBlk : Vec F S2048x1024 .bf16 := View.readAt (Elt F) a6.view (Rect.unit (s := S2048x1024) ![0, 0] S2048x1024.size inb_S2048x1024_S2048x1024_0_0).toLoadRect (h6.unread x4)

/-- The pieces of the output's block, from the scratch as loaded. -/
abbrev heads (h : Vec F S1024x2048 .bf16) (w : Vec F S2048x1024 .bf16) : List (View.Piece (Elt F) S8x1024x128 .bf16) := pcs (fun k => ⟨rT k, head h w k⟩) 8 le_rfl

abbrev rAll : LoadRect S1024x2048 := (Rect.unit (s := S1024x2048) ![0, 0] S1024x2048.size inb_S1024x2048_S1024x2048_0_0).toLoadRect

end

variable {a2 : Memref sig .tc .vmem S1024x2048 .f32} {a3 : Memref sig .tc .vmem S1x2048 .f32} {a4 a5 : Memref sig .tc .vmem S1x1x2048 .f32}
  {a6 : Memref sig .tc .vmem S2048x1024 .bf16} {a7 : Memref sig .tc .vmem S8x1024x128 .bf16} {a8 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole)
  (x0 : Vec F S1024x2048 .f32) (x1 : Vec F S1x2048 .f32) (x2 x3 : Vec F S1x1x2048 .f32) (x4 : Vec F S2048x1024 .bf16)
  (c : Dev nD) (i : grid0.Coords)

theorem first_rows (hc0) : (kernelRun0_A c i a2 h2 a3 h3 a4 h4 a5 h5 a6 h6 a7 h7 a8 h8 hc0 x0 x1 x2 x3 x4).2.1 = rows h2 h3 h4 h5 x0 x1 x2 x3 := by sl_kernel_rfl

theorem first_heads (hc0) : (kernelRun0_A c i a2 h2 a3 h3 a4 h4 a5 h5 a6 h6 a7 h7 a8 h8 hc0 x0 x1 x2 x3 x4).1
    = heads (View.readCov a8.view (rows h2 h3 h4 h5 x0 x1 x2 x3) rAll) (wBlk h6 x4) := by sl_kernel_rfl

theorem later_heads (hc0) (s : Vec F S1024x2048 .bf16) : (kernelRun0_B c i a2 h2 a3 h3 a4 h4 a5 h5 a6 h6 a7 h7 a8 h8 hc0 x0 x1 x2 x3 x4 s).1
    = heads (View.readAt (Elt F) a8.view rAll (h8.unread s)) (wBlk h6 x4) := by sl_kernel_rfl

end Cert.InKernelIdeal.Val

end
-- ==== Proof.InValue.lean ====
module

public import proofs.«01_k».proof.Defs
public import proofs.«01_k».proof.Proof.InForms
public import Idealize.ShloMosaic.Lib.WholeRead
public import proofs.«01_k».proof.Proof.FinalValue
public import proofs.«01_k».proof.Proof.Gen.InReferenceIdeal
public import proofs.«01_k».proof.Proof.Gen.InReferenceIdeal.Run

@[expose] public section

/-! The normalised, modulated and projected rows, head by head: the array the call leaves, and the reference's, are one function of the arguments. -/

set_option maxRecDepth 16384

noncomputable section

namespace Cert.InKernelIdeal.Val

open Cert.InKernelIdeal Cert.InKernelIdeal.Gen Cert.FinalKernelIdeal.Val
open Idealize.ShloMosaic Idealize.ShloMosaic.TcCoe Idealize.ShloMosaic.Tactic
open Idealize.SL.Sem

local notation "𝕀" => Idealize.ShloMosaic.Ideal

/-- An entry of a row normalised, scaled by the layer's gain and the batch's scale, and shifted. -/
def modu (row g sh sc : Fin 2048 → EReal) (d : Fin 2048) : EReal :=
  nrm row g d * (Idealize.ShloMosaic.Ideal.ofBits .f32 0x3F800000#32 + sc d) + sh d

/-- A chunk of rows at an element. -/
theorem pay_at (g : S1x2048.Idx → EReal) (sh sc : S1x1x2048.Idx → EReal) (x : S128x2048.Idx → EReal) (r : Fin 128) (d : Fin 2048) :
    (k0_pay8 (F := 𝕀) g sh sc x : S128x2048.Idx → EReal) (ix2 r d)
      = modu (fun e => x (ix2 r e)) (fun e => g (ix2 0 e)) (fun e => sh (ix3 0 0 e)) (fun e => sc (ix3 0 0 e)) d := by
  unfold modu nrm
  pointwise [k0_pay8, k0_pay5, k0_pay6, k0_pay7]

/-- A head at an element. -/
theorem head_at (h : S1024x2048.Idx → EReal) (w : S2048x1024.Idx → EReal) (k : Fin 8) (r : Fin 1024) (l : Fin 128) :
    (head (F := 𝕀) h w k : S1x1024x128.Idx → EReal) (ix3 0 r l) = ∑ d : Fin 2048, h (ix2 r d) * w (ix2 d ⟨128 * k.val + l.val, by omega⟩) := by
  pointwise [head, k0_pay28]

/-- A load of a whole memref's whole block. -/
theorem readAt_all {sg : RefSig} {s : Shape} {e : EltTy} {a : Memref sg .tc .vmem s e} (h : a.IsWhole) (x : s.Idx → Elt 𝕀 e) {off : Fin s.rank → ℕ} (inb : ∀ a, off a + s.size a ≤ s.size a) :
    View.readAt (Elt 𝕀) a.view (Rect.unit off s.size inb).toLoadRect (h.unread x) = x := by
  rw [View.readAt_full, h.read_unread]

section
variable {sg : RefSig} {a2 : Memref sg .tc .vmem S1024x2048 .f32} {a3 : Memref sg .tc .vmem S1x2048 .f32} {a4 a5 : Memref sg .tc .vmem S1x1x2048 .f32}
  {a6 : Memref sg .tc .vmem S2048x1024 .bf16} {a8 : Memref sg .tc .vmem S1024x2048 .bf16}
  (h2 : a2.IsWhole) (h3 : a3.IsWhole) (h4 : a4.IsWhole) (h5 : a5.IsWhole) (h6 : a6.IsWhole) (h8 : a8.IsWhole)
  (x0 : S1024x2048.Idx → EReal) (x1 : S1x2048.Idx → EReal) (x2 x3 : S1x1x2048.Idx → EReal) (x4 : S2048x1024.Idx → EReal)

/-- The rows of a block, normalised and modulated. -/
abbrev hRow (i : S1024x2048.Idx) : EReal :=
  modu (fun e => x0 (ix2 (i 0) e)) (fun e => x1 (ix2 0 e)) (fun e => x2 (ix3 0 0 e)) (fun e => x3 (ix3 0 0 e)) (i 1)

theorem chunk_at (k : Fin 8) (x : (rR k).shape.Idx) : (chunk (F := 𝕀) h2 h3 h4 h5 x0 x1 x2 x3 k : S128x2048.Idx → EReal) x = hRow x0 x1 x2 x3 ((rR k).emb x) := by
  have hx : x = (ix2 (x 0) (x 1) : S128x2048.Idx) := eq_ix2 x
  rw [hx]
  refine (pay_at _ _ _ _ (x 0) (x 1)).trans ?_
  rw [readAt_all h3, readAt_all h4, readAt_all h5]
  have e1 : ((rR k).emb (ix2 (x 0) (x 1) : S128x2048.Idx)) 1 = x 1 := Fin.ext (by blk_simp)
  have e0 : (((rR k).emb (ix2 (x 0) (x 1) : S128x2048.Idx)) 0).val = 128 * k.val + (x 0).val := by blk_simp
  refine congrArg₂ (fun f d => modu f (fun e => x1 (ix2 0 e)) (fun e => x2 (ix3 0 0 e)) (fun e => x3 (ix3 0 0 e)) d) (funext fun e => ?_) e1.symm
  refine (congrFun (View.readAt_unit (Val := Elt 𝕀) a2.view (h2.unread (x0 : S1024x2048.Idx → Elt 𝕀 .f32)) (inbR k) rfl (inbR k)) (ix2 (x 0) e : S128x2048.Idx)).trans ?_
  rw [h2.read_unread]
  unfold VecWindow.window
  blk_ext

theorem rows_agree (p : View.Piece (Elt 𝕀) S1024x2048 .bf16) (hp : p ∈ rows (F := 𝕀) h2 h3 h4 h5 x0 x1 x2 x3) (x : p.1.shape.Idx) : p.2 x = hRow x0 x1 x2 x3 (p.1.emb x) := by
  obtain ⟨k, rfl⟩ := pcs_mem _ p 8 le_rfl hp
  exact chunk_at h2 h3 h4 h5 x0 x1 x2 x3 k x

/-- The block of heads at an element. -/
abbrev outAt (h : S1024x2048.Idx → EReal) (w : S2048x1024.Idx → EReal) (i : S8x1024x128.Idx) : EReal :=
  ∑ d : Fin 2048, h (ix2 (i 1) d) * w (ix2 d ⟨128 * (i 0).val + (i 2).val, by have h0 : (i 0).val < 8 := (i 0).isLt; have h2 : (i 2).val < 128 := (i 2).isLt; omega⟩)

theorem heads_agree (h : S1024x2048.Idx → EReal) (w : S2048x1024.Idx → EReal) (p : View.Piece (Elt 𝕀) S8x1024x128 .bf16) (hp : p ∈ heads (F := 𝕀) h w) (x : p.1.shape.Idx) : p.2 x = outAt h w (p.1.emb x) := by
  obtain ⟨k, rfl⟩ := pcs_mem _ p 8 le_rfl hp
  have hx : x = (ix3 0 (x 1) (x 2) : S1x1024x128.Idx) := by
    refine (eq_ix3 x).trans (congrArg (fun a => (ix3 a (x 1) (x 2) : S1x1024x128.Idx)) (Subsingleton.elim (α := Fin 1) _ _))
  rw [hx]
  refine (head_at h w k (x 1) (x 2)).trans (Finset.sum_congr rfl fun d _ => ?_)
  refine congrArg₂ (fun a b => h a * w b) ?_ ?_ <;> blk_ext

/-- Pieces that are the chunks of rows, and cover, read as the rows. -/
theorem read_rows (v : View sg .tc .vmem S1024x2048 .bf16) (f) (L : List (View.Piece (Elt 𝕀) S1024x2048 .bf16)) (e : L = rows (F := 𝕀) h2 h3 h4 h5 x0 x1 x2 x3)
    (hL : ∀ y : S1024x2048.Idx, ∃ p ∈ L, y ∈ p.1.set) : (v.read (Elt 𝕀) (v.writes (Elt 𝕀) f L) : S1024x2048.Idx → EReal) = hRow x0 x1 x2 x3 := by
  subst e
  exact funext fun y => View.read_writes_apply_of_pieces _ _ (hRow x0 x1 x2 x3) _ (rows_agree h2 h3 h4 h5 x0 x1 x2 x3) y (hL y)

/-- Pieces that are the heads, and cover, read as the heads. -/
theorem read_heads (v : View sg .tc .vmem S8x1024x128 .bf16) (f) (L : List (View.Piece (Elt 𝕀) S8x1024x128 .bf16)) (h : S1024x2048.Idx → EReal) (w : S2048x1024.Idx → EReal)
    (e : L = heads (F := 𝕀) h w) (hL : ∀ y : S8x1024x128.Idx, ∃ p ∈ L, y ∈ p.1.set) : (v.read (Elt 𝕀) (v.writes (Elt 𝕀) f L) : S8x1024x128.Idx → EReal) = outAt h w := by
  subst e
  exact funext fun y => View.read_writes_apply_of_pieces _ _ (outAt h w) _ (heads_agree h w) y (hL y)

theorem wBlk_eq : (wBlk (F := 𝕀) h6 x4 : S2048x1024.Idx → EReal) = x4 := readAt_all h6 x4 _

end

attribute [local irreducible] kernelRun0_A kernelRun0_B outsAt0

section
variable {a2 : Memref sig .tc .vmem S1024x2048 .f32} {a3 : Memref sig .tc .vmem S1x2048 .f32} {a4 a5 : Memref sig .tc .vmem S1x1x2048 .f32}
  {a6 : Memref sig .tc .vmem S2048x1024 .bf16} {a7 : Memref sig .tc .vmem S8x1024x128 .bf16} {a8 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole)
  (x0 : S1024x2048.Idx → EReal) (x1 : S1x2048.Idx → EReal) (x2 x3 : S1x1x2048.Idx → EReal) (x4 : S2048x1024.Idx → EReal)
  (c : Dev nD) (i : grid0.Coords)

/-- What a block's first point leaves in the scratch. -/
theorem sout_first (hc0) : (sout0_A_0 (F := 𝕀) c i a2 h2 a3 h3 a4 h4 a5 h5 a6 h6 a7 h7 a8 h8 hc0 x0 x1 x2 x3 x4 : S1024x2048.Idx → EReal) = hRow x0 x1 x2 x3 := by
  unfold sout0_A_0
  exact read_rows h2 h3 h4 h5 x0 x1 x2 x3 _ _ _ (first_rows ..) (scover0_A_0 (F := 𝕀) c i a2 h2 a3 h3 a4 h4 a5 h5 a6 h6 a7 h7 a8 h8 hc0 x0 x1 x2 x3 x4)

include h6 h7 x4 c in
/-- The scratch read back at the point that fills it. -/
theorem readCov_rows (h8 : a8.IsWhole) (hc0 : cond0_0 i) : (View.readCov (Val := Elt 𝕀) a8.view (rows (F := 𝕀) h2 h3 h4 h5 x0 x1 x2 x3) rAll : S1024x2048.Idx → EReal) = hRow x0 x1 x2 x3 := by
  refine (View.readAt_full (Val := Elt 𝕀) a8.view _ _).trans (read_rows h2 h3 h4 h5 x0 x1 x2 x3 _ _ _ rfl ?_)
  have hy := scover0_A_0 (F := 𝕀) c i a2 h2 a3 h3 a4 h4 a5 h5 a6 h6 a7 h7 a8 h8 hc0 x0 x1 x2 x3 x4
  exact first_rows (F := 𝕀) h2 h3 h4 h5 h6 h7 h8 x0 x1 x2 x3 x4 c i hc0 ▸ hy

/-- The block of heads a block's first point stores. -/
theorem out_first (hc0) : (out0_A_5 (F := 𝕀) c i a2 h2 a3 h3 a4 h4 a5 h5 a6 h6 a7 h7 a8 h8 hc0 x0 x1 x2 x3 x4 : S8x1024x128.Idx → EReal) = outAt (hRow x0 x1 x2 x3) x4 := by
  unfold out0_A_5
  refine read_heads _ _ _ _ _ ((first_heads ..).trans ?_) (cover0_A_5 (F := 𝕀) c i a2 h2 a3 h3 a4 h4 a5 h5 a6 h6 a7 h7 a8 h8 hc0 x0 x1 x2 x3 x4)
  exact congrArg₂ (heads (F := 𝕀)) (readCov_rows h2 h3 h4 h5 h6 h7 x0 x1 x2 x3 x4 c i h8 hc0) (wBlk_eq h6 x4)

/-- The block of heads a later point stores. -/
theorem out_later (hc0) (s : S1024x2048.Idx → EReal) : (out0_B_5 (F := 𝕀) c i a2 h2 a3 h3 a4 h4 a5 h5 a6 h6 a7 h7 a8 h8 hc0 x0 x1 x2 x3 x4 s : S8x1024x128.Idx → EReal) = outAt s x4 := by
  unfold out0_B_5
  refine read_heads _ _ _ _ _ ((later_heads ..).trans ?_) (cover0_B_5 (F := 𝕀) c i a2 h2 a3 h3 a4 h4 a5 h5 a6 h6 a7 h7 a8 h8 hc0 x0 x1 x2 x3 x4 s)
  exact congrArg₂ (heads (F := 𝕀)) (readAt_all h8 s _) (wBlk_eq h6 x4)

end

variable (m : (ℓ : Loc nD τ sig) → Buf (Elt 𝕀) ℓ) (c : Dev nD)

/-- The arrays the call reads. -/
theorem V_x (R : Fin 16384) (C : Fin 2048) : (V m c main_v0 : S16384x2048.Idx → EReal) (ix2 R C) = rowOf (m (c, Proc.tc.devRef main_arg0)) R C := by
  unfold V hostOps0; after_results
  pointwise
theorem V_g (C : Fin 2048) : (V m c main_v1 : S1x2048.Idx → EReal) (ix2 0 C) = (m (c, Proc.tc.devRef main_arg1) : S2048.Idx → EReal) (ix1 C) := by
  unfold V hostOps0; after_results
  pointwise
theorem V_sh (b : Fin 2) (C : Fin 2048) : (V m c main_v2 : S2x1x2048.Idx → EReal) (ix3 b 0 C) = (m (c, Proc.tc.devRef main_arg2) : S2x2048.Idx → EReal) (ix2 b C) := by
  unfold V hostOps0; after_results
  pointwise
theorem V_sc (b : Fin 2) (C : Fin 2048) : (V m c main_v3 : S2x1x2048.Idx → EReal) (ix3 b 0 C) = (m (c, Proc.tc.devRef main_arg3) : S2x2048.Idx → EReal) (ix2 b C) := by
  unfold V hostOps0; after_results
  pointwise
theorem V_w (k : Fin 2048) (C : Fin 8224) : (V m c main_v4 : S2048x8224.Idx → EReal) (ix2 k C) = (m (c, Proc.tc.devRef main_arg4) : S2048x8224.Idx → EReal) (ix2 k C) := by
  unfold V hostOps0; after_results
  pointwise

theorem idxs : ∀ t : Fin grid0.N, win0_0.index t = ![t.val / 8, 0] ∧ win0_1.index t = ![0, 0] ∧ win0_2.index t = ![t.val / 64, 0, 0]
    ∧ win0_3.index t = ![t.val / 64, 0, 0] ∧ win0_4.index t = ![0, t.val % 8] ∧ win0_5.index t = ![t.val % 8, t.val / 8, 0] := by decide +kernel
theorem t_lt (t : Fin cfg0.N) : t.val < 128 := lt_of_lt_of_eq t.isLt N_0

/-- The blocks of a point. -/
theorem blk_x (t : Fin cfg0.N) (r : Fin 1024) (d : Fin 2048) : (iblk m c 0 t : S1024x2048.Idx → EReal) (ix2 r d)
    = (V m c main_v0 : S16384x2048.Idx → EReal) (ix2 ⟨1024 * (t.val / 8) + r.val, by have := t_lt t; omega⟩ d) := by
  have e : (cfg0.win 0).index t = _ := (idxs t).1
  blk_ext [iblk, e]
theorem blk_g (t : Fin cfg0.N) (C : Fin 2048) : (iblk m c 1 t : S1x2048.Idx → EReal) (ix2 0 C) = (V m c main_v1 : S1x2048.Idx → EReal) (ix2 0 C) := by
  have e : (cfg0.win 1).index t = _ := (idxs t).2.1
  blk_ext [iblk, e]
theorem blk_sh (t : Fin cfg0.N) (C : Fin 2048) : (iblk m c 2 t : S1x1x2048.Idx → EReal) (ix3 0 0 C) = (V m c main_v2 : S2x1x2048.Idx → EReal) (ix3 ⟨t.val / 64, by have := t_lt t; omega⟩ 0 C) := by
  have e : (cfg0.win 2).index t = _ := (idxs t).2.2.1
  blk_ext [iblk, e]
theorem blk_sc (t : Fin cfg0.N) (C : Fin 2048) : (iblk m c 3 t : S1x1x2048.Idx → EReal) (ix3 0 0 C) = (V m c main_v3 : S2x1x2048.Idx → EReal) (ix3 ⟨t.val / 64, by have := t_lt t; omega⟩ 0 C) := by
  have e : (cfg0.win 3).index t = _ := (idxs t).2.2.2.1
  blk_ext [iblk, e]
theorem blk_w (t : Fin cfg0.N) (d : Fin 2048) (C : Fin 1024) : (X0_4 m c t : S2048x1024.Idx → EReal) (ix2 d C)
    = (V m c main_v4 : S2048x8224.Idx → EReal) (ix2 d ⟨1024 * (t.val % 8) + C.val, by omega⟩) := by
  have e : (cfg0.win 4).index t = _ := (idxs t).2.2.2.2.1
  unfold X0_4 Pipeline.Window.fill
  rw [dif_pos (moved0_4 t _)]
  blk_ext [iblk, e]

/-- A row of the arguments, normalised and modulated with its batch's shift and scale. -/
def hOf (x : (⟨3, ![2, 8192, 2048]⟩ : Shape).Idx → EReal) (g : (⟨1, ![2048]⟩ : Shape).Idx → EReal) (sh sc : (⟨2, ![2, 2048]⟩ : Shape).Idx → EReal) (R : Fin 16384) (d : Fin 2048) : EReal :=
  modu (rowOf x R) (fun e => g (ix1 e)) (fun e => sh (ix2 ⟨R.val / 8192, by omega⟩ e)) (fun e => sc (ix2 ⟨R.val / 8192, by omega⟩ e)) d

/-- The rows the arguments hold. -/
abbrev hRows : Fin 16384 → Fin 2048 → EReal :=
  hOf (m (c, Proc.tc.devRef main_arg0)) (m (c, Proc.tc.devRef main_arg1)) (m (c, Proc.tc.devRef main_arg2)) (m (c, Proc.tc.devRef main_arg3))

/-- A point's rows. -/
theorem hRow_blk (t : Fin cfg0.N) : hRow (iblk m c 0 t) (iblk m c 1 t) (iblk m c 2 t) (iblk m c 3 t)
    = fun i : S1024x2048.Idx => hRows m c ⟨1024 * (t.val / 8) + (i 0).val, by have := t_lt t; have h0 : (i 0).val < 1024 := (i 0).isLt; omega⟩ (i 1) := by
  funext i
  have ht := t_lt t
  have h0 : (i 0).val < 1024 := (i 0).isLt
  have hb : (⟨(1024 * (t.val / 8) + (i 0).val) / 8192, by omega⟩ : Fin 2) = ⟨t.val / 64, by omega⟩ := Fin.ext (by show _ / 8192 = _ / 64; omega)
  unfold hRows hOf hRow
  congr 1
  · exact funext fun e => (blk_x m c t (i 0) e).trans (V_x m c _ e)
  · exact funext fun e => (blk_g m c t e).trans (V_g m c e)
  · exact funext fun e => ((blk_sh m c t e).trans (V_sh m c _ e)).trans (by rw [hb])
  · exact funext fun e => ((blk_sc m c t e).trans (V_sc m c _ e)).trans (by rw [hb])

/-- The rows of the block a point belongs to. -/
abbrev rowsAt (n : ℕ) (hn : n < 128) (i : S1024x2048.Idx) : EReal :=
  hRows m c ⟨1024 * (n / 8) + (i 0).val, by have h0 : (i 0).val < 1024 := (i 0).isLt; omega⟩ (i 1)

theorem scratch_A (t : Fin cfg0.N) (h0 : t.val % 8 = 0) : ((outsAt0 m c t.val t.isLt).2 : S1024x2048.Idx → EReal) = rowsAt m c t.val (t_lt t) :=
  (congrArg Prod.snd (outsAt0_A m c t h0)).trans ((sout_first (hs0_0 t) (hs0_1 t) (hs0_2 t) (hs0_3 t) (hs0_4 t) (hs0_5 t) (Memref.isWhole_whole cc0_scratch0) _ _ _ _ _ c (grid0.coords t) _).trans (hRow_blk m c t))

theorem scratch_B (t : Fin cfg0.N) (h0 : ¬t.val % 8 = 0) : ((outsAt0 m c t.val t.isLt).2 : S1024x2048.Idx → EReal) = (outsAt0 m c (t.val - 1) (Nat.lt_of_le_of_lt (Nat.sub_le _ _) t.isLt)).2 :=
  (congrArg Prod.snd (outsAt0_B m c t h0)).trans rfl

/-- The scratch holds the rows of the point's block. -/
theorem scratch_eq (n : ℕ) : ∀ hn : n < cfg0.N, ((outsAt0 m c n hn).2 : S1024x2048.Idx → EReal) = rowsAt m c n (t_lt ⟨n, hn⟩) := by
  induction n using Nat.strong_induction_on with
  | _ n ih =>
    intro hn
    by_cases h0 : n % 8 = 0
    · exact scratch_A m c ⟨n, hn⟩ h0
    · refine (scratch_B m c ⟨n, hn⟩ h0).trans ((ih (n - 1) (by omega) _).trans (funext fun i => ?_))
      refine congrArg (fun R => hRows m c R (i 1)) (Fin.ext ?_)
      show 1024 * ((n - 1) / 8) + _ = 1024 * (n / 8) + _
      rw [show (n - 1) / 8 = n / 8 by omega]

/-- An entry of a head: the row's product with a column of the weights. -/
def elem (h : Fin 16384 → Fin 2048 → EReal) (w : (⟨2, ![2048, 8224]⟩ : Shape).Idx → EReal) (k : Fin 64) (R : Fin 16384) (l : Fin 128) : EReal :=
  ∑ d : Fin 2048, h R d * w (ix2 d ⟨128 * k.val + l.val, by omega⟩)

/-- The block a point stores. -/
theorem block_eq (t : Fin cfg0.N) : ((outsAt0 m c t.val t.isLt).1 : S8x1024x128.Idx → EReal) = outAt (rowsAt m c t.val (t_lt t)) (X0_4 m c t) := by
  by_cases h0 : t.val % 8 = 0
  · refine (congrArg Prod.fst (outsAt0_A m c t h0)).trans ((out_first (hs0_0 t) (hs0_1 t) (hs0_2 t) (hs0_3 t) (hs0_4 t) (hs0_5 t) (Memref.isWhole_whole cc0_scratch0) _ _ _ _ _ c (grid0.coords t) _).trans ?_)
    exact congrArg (fun h => outAt h (X0_4 m c t)) (hRow_blk m c t)
  · refine (congrArg Prod.fst (outsAt0_B m c t h0)).trans ((out_later (hs0_0 t) (hs0_1 t) (hs0_2 t) (hs0_3 t) (hs0_4 t) (hs0_5 t) (Memref.isWhole_whole cc0_scratch0) _ _ _ _ _ c (grid0.coords t) _ _).trans ?_)
    exact congrArg (fun h => outAt h (X0_4 m c t)) ((scratch_B m c t h0).symm.trans (scratch_eq m c t.val t.isLt))

/-- The block a point stores, at an element. -/
theorem block_at (t : Fin cfg0.N) (y : S8x1024x128.Idx) : ((outsAt0 m c t.val t.isLt).1 : S8x1024x128.Idx → EReal) y
    = elem (hRows m c) (m (c, Proc.tc.devRef main_arg4)) ⟨8 * (t.val % 8) + (y 0).val, by have h : (y 0).val < 8 := (y 0).isLt; omega⟩
        ⟨1024 * (t.val / 8) + (y 1).val, by have := t_lt t; have h : (y 1).val < 1024 := (y 1).isLt; omega⟩ (y 2) := by
  have h0 : (y 0).val < 8 := (y 0).isLt
  have h2 : (y 2).val < 128 := (y 2).isLt
  refine (congrFun (block_eq m c t) y).trans ?_
  refine Finset.sum_congr rfl fun d _ => congrArg₂ (· * ·) rfl ?_
  refine (blk_w m c t d _).trans ((V_w m c d _).trans (congrArg (fun C => (m (c, Proc.tc.devRef main_arg4) : S2048x8224.Idx → EReal) (ix2 d C)) (Fin.ext ?_)))
  show 1024 * (t.val % 8) + (128 * (y 0).val + (y 2).val) = 128 * (8 * (t.val % 8) + (y 0).val) + (y 2).val
  omega

theorem elem_congr (h : Fin 16384 → Fin 2048 → EReal) (w : (⟨2, ![2048, 8224]⟩ : Shape).Idx → EReal) {k k' : Fin 64} {R R' : Fin 16384} {l l' : Fin 128}
    (hk : k = k') (hR : R = R') (hl : l = l') : elem h w k R l = elem h w k' R' l' := by
  rw [hk, hR, hl]

theorem covers : (cfg0.win 5).Covers :=
  (cfg0.win 5).covers_of_index_surj rfl (by decide) fun β => by
    have h0 : (β 0).val < 8 := (β 0).isLt
    have h1 : (β 1).val < 16 := (β 1).isLt
    have h2 : (β 2).val < 1 := (β 2).isLt
    have ht : 8 * (β 1).val + (β 0).val < cfg0.N := lt_of_lt_of_eq (by omega) N_0.symm
    refine ⟨⟨_, ht⟩, fun a => ?_⟩
    rw [show (cfg0.win 5).index ⟨_, ht⟩ = _ from (idxs ⟨_, ht⟩).2.2.2.2.2]
    match a with
    | ⟨0, _⟩ => show (8 * (β 1).val + (β 0).val) % 8 = (β 0).val; omega
    | ⟨1, _⟩ => show (8 * (β 1).val + (β 0).val) / 8 = (β 1).val; omega
    | ⟨2, _⟩ => show 0 = (β 2).val; omega

/-- The array after the run. -/
theorem out_array : (dats m 0 c).arrAt 5 cfg0.N
    = (fun i : S64x16384x128.Idx => elem (hRows m c) (m (c, Proc.tc.devRef main_arg4)) (i 0) (i 1) (i 2)) := by
  refine (dats m 0 c).arrAt_eq_of_covers 5 _ covers fun t hf y => ?_
  have e : (cfg0.win 5).index t = _ := (idxs t).2.2.2.2.2
  blk_simp
  rw [after0_5]
  refine (block_at m c t y).trans (elem_congr _ _ (Fin.ext ?_) (Fin.ext ?_) (Fin.ext ?_)) <;> blk_simp [e]
  · exact congrArg (· + (y 0).val) (Nat.mul_comm 8 (t.val % 8))
  · exact congrArg (· + (y 1).val) (Nat.mul_comm 1024 (t.val / 8))

end Cert.InKernelIdeal.Val

namespace Cert.InReferenceIdeal.Val

open Cert.InReferenceIdeal Cert.InReferenceIdeal.Gen Cert.FinalKernelIdeal.Val Cert.InKernelIdeal.Val
open Idealize.ShloMosaic Idealize.ShloMosaic.TcCoe Idealize.ShloMosaic.Tactic
open Idealize.SL.Sem

local notation "𝕀" => Idealize.ShloMosaic.Ideal

/-- The rows normalised and modulated, batch by batch. -/
def modded (x : S2x8192x2048.Idx → EReal) (g : S2048.Idx → EReal) (sh sc : S2x2048.Idx → EReal) : S2x8192x2048.Idx → EReal :=
  addf (F := 𝕀) (φ := .f32) (mulf (F := 𝕀) (φ := .f32) (mulf (F := 𝕀) (φ := .f32) (mulf (F := 𝕀) (φ := .f32) x (broadcastInDim S2x8192x2048 ![0, 1, 2] bcast_S2x8192x1_S2x8192x2048_0_1_2 (Host.rsqrt (addf (F := 𝕀) (φ := .f32) (Host.divf (broadcastInDim S2x8192x1 ![0, 1] bcast_S2x8192_S2x8192x1_0_1 (Host.reduceAdd (mulf (F := 𝕀) (φ := .f32) x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) (broadcastInDim S2x8192x2048 ![0, 1, 2] bcast_S2x1x2048_S2x8192x2048_0_1_2 (addf (F := 𝕀) (φ := .f32) (broadcastInDim S2x1x2048 ![] bcast_S_S2x1x2048 (constant S_ .f32 0x3F800000#32)) (broadcastInDim S2x1x2048 ![0, 2] bcast_S2x2048_S2x1x2048_0_2 sc)))) (broadcastInDim S2x8192x2048 ![0, 1, 2] bcast_S2x1x2048_S2x8192x2048_0_1_2 (broadcastInDim S2x1x2048 ![0, 2] bcast_S2x2048_S2x1x2048_0_2 sh))

/-- The projection, head by head. -/
def proj (h : S2x8192x2048.Idx → EReal) (w : S2048x8224.Idx → EReal) : S64x16384x128.Idx → EReal :=
  truncf (F := 𝕀) (φ := .f32) .bf16 (transpose S64x16384x128 [1, 0, 2] (shapeCast S16384x64x128 (extractStridedSlice S2x8192x8192 ![0, 0, 0] (Host.dotGeneral (F := 𝕀) (φ₁ := .f32) (φ₂ := .f32) dot_S2x8192x2048_S2048x8224_S2x8192x8224_2_0_01_1_n_n none h w) slices_S2x8192x8224_S2x8192x8192_0_0_0) shapeCasts_S2x8192x8192_S16384x64x128) transposes_S16384x64x128_S64x16384x128_1_0_2) bitsLt_bf16_f32

theorem modded_at (x : S2x8192x2048.Idx → EReal) (g : S2048.Idx → EReal) (sh sc : S2x2048.Idx → EReal) (R : Fin 16384) (d : Fin 2048) :
    rowOf (modded x g sh sc) R d = hOf x g sh sc R d := by
  unfold hOf modu nrm rowOf
  pointwise [modded]

theorem proj_at (h : S2x8192x2048.Idx → EReal) (w : S2048x8224.Idx → EReal) (k : Fin 64) (R : Fin 16384) (l : Fin 128) :
    proj h w (ix3 k R l) = elem (rowOf h) w k R l := by
  unfold elem rowOf
  pointwise [proj]
  simp only [Nat.mul_comm k.val 128]

/-- The reference's array. -/
theorem ref_array (x : S2x8192x2048.Idx → EReal) (g : S2048.Idx → EReal) (sh sc : S2x2048.Idx → EReal) (w : S2048x8224.Idx → EReal) :
    proj (modded x g sh sc) w = fun i => elem (hOf x g sh sc) w (i 0) (i 1) (i 2) := by
  funext i
  rw [eq_ix3 i]
  refine (proj_at _ w (i 0) (i 1) (i 2)).trans ?_
  exact congrArg (fun h => elem h w (i 0) (i 1) (i 2)) (funext fun R => funext fun d => modded_at x g sh sc R d)

end Cert.InReferenceIdeal.Val

namespace Cert.Proof

open Idealize.ShloMosaic Idealize.SL.Sem

/-- The call and the reference return the same array. -/
theorem algebraic_in : algebraic_InKernelIdeal_InReferenceIdeal (hInKernelIdeal := Cert.InKernelIdeal.Gen.facts) (hInReferenceIdeal := Cert.InReferenceIdeal.Gen.facts) := by
  intro m g m' g' _ ha
  refine ⟨_, Cert.InKernelIdeal.Value.run_blocks m g, ?_⟩
  refine (θ_run _ _ _).mono (fun r h c => ⟨(h c).1.trans ?_, (h c).2⟩) (Cert.InReferenceIdeal.Value.run m' g')
  obtain ⟨a0, a1, a2, a3, a4⟩ := ha c
  rw [a0, a1, a2, a3, a4]
  exact (Cert.InReferenceIdeal.Val.ref_array _ _ _ _ _).trans (Cert.InKernelIdeal.Val.out_array m c).symm

end Cert.Proof

end
-- ==== Proof.ProjForms.lean ====
module

public import proofs.«01_k».proof.Proof.InForms
public import proofs.«01_k».proof.Proof.Gen.QueryKernelIdeal.Value

@[expose] public section

/-! The pieces a point of a rotated projection stores in the output's block: eight heads, each rotated and multiplied by a constant. -/

set_option maxRecDepth 16384

noncomputable section

namespace Cert.Proj

open Cert.QueryKernelIdeal Cert.QueryKernelIdeal.Gen
open Cert.InKernelIdeal.Val (pcs)
open Idealize.ShloMosaic Idealize.ShloMosaic.TcCoe Idealize.ShloMosaic.Tactic
open Idealize.SL.Sem

variable {F : FTy → Type} [FloatOps F]

theorem inbC : ∀ (k : Fin 8) (a : Fin 2), (![0, 128 * k.val] : Fin 2 → ℕ) a + S1024x128.size a ≤ S1024x1024.size a := by decide

/-- The rectangle of a head's columns. -/
abbrev rC (k : Fin 8) : Rect S1024x1024 := Rect.unit (s := S1024x1024) ![0, 128 * k.val] S1024x128.size (inbC k)

/-- A head's columns of the product. -/
abbrev cols (h : Vec F S1024x2048 .bf16) (w : Vec F S2048x1024 .bf16) (k : Fin 8) : FVec F S1024x128 .f32 :=
  extractStridedSlice S1024x128 ![0, 128 * k.val] (k0_pay25 h w) (Cert.InKernelIdeal.Val.slc k)

/-- A head rotated and multiplied by a constant. -/
abbrev turned (z : F .f32) (h : Vec F S1024x2048 .bf16) (w : Vec F S2048x1024 .bf16) (cs sn : Vec F S1024x128 .f32) (k : Fin 8) : FVec F S1024x128 .bf16 :=
  truncf .bf16 (mulf (addf (mulf (cols h w k) (k0_pay26 cs)) (mulf (dynamicRotate 1 64#32 none (cols h w k) rotates_S1024x128_d1) (k0_pay27 sn)))
    (broadcast S1024x128 z)) bitsLt_bf16_f32

/-- The pieces of the output's block, from the scratch as loaded. -/
abbrev turns (z : F .f32) (h : Vec F S1024x2048 .bf16) (w : Vec F S2048x1024 .bf16) (cs sn : Vec F S1024x128 .f32) : List (View.Piece (Elt F) S1024x1024 .bf16) :=
  pcs (fun k => ⟨rC k, turned z h w cs sn k⟩) 8 le_rfl

/-- A point's block of a table. -/
abbrev tBlk {sg : RefSig} {a : Memref sg .tc .vmem S1024x128 .f32} (h : a.IsWhole) (x : Vec F S1024x128 .f32) : Vec F S1024x128 .f32 :=
  View.readAt (Elt F) a.view (Rect.unit (s := S1024x128) ![0, 0] S1024x128.size inb_S1024x128_S1024x128_0_0).toLoadRect (h.unread x)

end Cert.Proj

end
-- ==== Proof.QueryForms.lean ====
module

public import proofs.«01_k».proof.Proof.ProjForms
public import proofs.«01_k».proof.Proof.Gen.QueryKernelIdeal.Value

@[expose] public section

/-! What a point of the projection to the queries stores: the chunks of rows of InForms in the scratch, eight rotated heads in the output's block. -/

set_option maxRecDepth 16384

noncomputable section

namespace Cert.QueryKernelIdeal.Val

open Cert.QueryKernelIdeal Cert.QueryKernelIdeal.Gen
open Cert.InKernelIdeal.Val (rows rAll wBlk)
open Cert.Proj (turns tBlk)
open Idealize.ShloMosaic Idealize.ShloMosaic.TcCoe Idealize.ShloMosaic.Tactic
open Idealize.SL.Sem

variable {F : FTy → Type} [FloatOps F] [Named F]

/-- The constant a head is multiplied by. -/
abbrev qs : F .f32 := Named.named κ "s" 0x3E0293EE#32

variable {a2 : Memref sig .tc .vmem S1024x2048 .f32} {a3 : Memref sig .tc .vmem S1x2048 .f32} {a4 a5 : Memref sig .tc .vmem S1x1x2048 .f32}
  {a6 : Memref sig .tc .vmem S2048x1024 .bf16} {a7 a8 : Memref sig .tc .vmem S1024x128 .f32} {a9 : Memref sig .tc .vmem S1024x1024 .bf16}
  {a10 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec F S1024x2048 .f32) (x1 : Vec F S1x2048 .f32) (x2 x3 : Vec F S1x1x2048 .f32) (x4 : Vec F S2048x1024 .bf16) (x5 x6 : Vec F S1024x128 .f32)

variable (c : Dev nD) (i : grid0.Coords)

theorem first_rows (hc0) : (kernelRun0_A c i a2 h2 a3 h3 a4 h4 a5 h5 a6 h6 a7 h7 a8 h8 a9 h9 a10 h10 hc0 x0 x1 x2 x3 x4 x5 x6).2.1
    = rows h2 h3 h4 h5 x0 x1 x2 x3 := by sl_kernel_rfl

theorem first_turns (hc0) : (kernelRun0_A c i a2 h2 a3 h3 a4 h4 a5 h5 a6 h6 a7 h7 a8 h8 a9 h9 a10 h10 hc0 x0 x1 x2 x3 x4 x5 x6).1
    = turns qs (View.readCov a10.view (rows h2 h3 h4 h5 x0 x1 x2 x3) rAll) (wBlk h6 x4) (tBlk h7 x5) (tBlk h8 x6) := by sl_kernel_rfl

theorem later_turns (hc0) (s : Vec F S1024x2048 .bf16) : (kernelRun0_B c i a2 h2 a3 h3 a4 h4 a5 h5 a6 h6 a7 h7 a8 h8 a9 h9 a10 h10 hc0 x0 x1 x2 x3 x4 x5 x6 s).1
    = turns qs (View.readAt (Elt F) a10.view rAll (h10.unread s)) (wBlk h6 x4) (tBlk h7 x5) (tBlk h8 x6) := by sl_kernel_rfl

end Cert.QueryKernelIdeal.Val

end
-- ==== Proof.ProjValue.lean ====
module

public import proofs.«01_k».proof.Defs
public import proofs.«01_k».proof.Proof.ProjForms
public import proofs.«01_k».proof.Proof.InValue
public import proofs.«01_k».proof.Proof.Gen.QueryReferenceIdeal

@[expose] public section

/-! The rotated projections: an element of the block a point stores, and of the reference's array, as one function of the rows, the weights and the tables. -/

set_option maxRecDepth 16384

noncomputable section

namespace Cert.Proj

open Cert.QueryKernelIdeal Cert.QueryKernelIdeal.Gen Cert.FinalKernelIdeal.Val
open Cert.InKernelIdeal.Val (pcs_mem hRow hOf modu)
open Idealize.ShloMosaic Idealize.ShloMosaic.TcCoe Idealize.ShloMosaic.Tactic
open Idealize.SL.Sem

local notation "𝕀" => Idealize.ShloMosaic.Ideal

/-- A column turned against its partner. -/
def mix (a b c s : EReal) : EReal := a * c + b * s

theorem mix_congr {a a' b b' c c' s s' : EReal} (ha : a = a') (hb : b = b') (hc : c = c') (hs : s = s') : mix a b c s = mix a' b' c' s' := by rw [ha, hb, hc, hs]

/-- A column's place in its head, and its partner's column. -/
abbrev lane {n : ℕ} (C : Fin n) : Fin 128 := ⟨C.val % 128, Nat.mod_lt _ (by decide)⟩
abbrev mate (C : ℕ) : ℕ := 128 * (C / 128) + (C % 128 + 64) % 128

theorem mate_lt {n C : ℕ} (h : C < 128 * n) : mate C < 128 * n := by unfold mate; omega

theorem turned_at (z : EReal) (h : S1024x2048.Idx → EReal) (w : S2048x1024.Idx → EReal) (cs sn : S1024x128.Idx → EReal) (k : Fin 8) (r : Fin 1024) (l : Fin 128) :
    (turned (F := 𝕀) z h w cs sn k : S1024x128.Idx → EReal) (ix2 r l)
      = mix (∑ d : Fin 2048, h (ix2 r d) * w (ix2 d ⟨128 * k.val + l.val, by omega⟩))
          (∑ d : Fin 2048, h (ix2 r d) * w (ix2 d ⟨128 * k.val + (l.val + 64) % 128, by omega⟩)) (cs (ix2 r l)) (sn (ix2 r l)) * z := by
  have e : (l.val + 64) % 128 = (l.val + 128 - 64) % 128 := by omega
  unfold mix
  simp only [e]
  pointwise [turned, cols, k0_pay25, k0_pay26, k0_pay27]

/-- The block of heads at an element. -/
abbrev outAt (z : EReal) (h : S1024x2048.Idx → EReal) (w : S2048x1024.Idx → EReal) (cs sn : S1024x128.Idx → EReal) (i : S1024x1024.Idx) : EReal :=
  mix (∑ d : Fin 2048, h (ix2 (i 0) d) * w (ix2 d (i 1)))
    (∑ d : Fin 2048, h (ix2 (i 0) d) * w (ix2 d ⟨mate (i 1).val, mate_lt (n := 8) (i 1).isLt⟩)) (cs (ix2 (i 0) (lane (i 1)))) (sn (ix2 (i 0) (lane (i 1)))) * z

theorem turns_agree (z : EReal) (h : S1024x2048.Idx → EReal) (w : S2048x1024.Idx → EReal) (cs sn : S1024x128.Idx → EReal) (p : View.Piece (Elt 𝕀) S1024x1024 .bf16)
    (hp : p ∈ turns (F := 𝕀) z h w cs sn) (x : p.1.shape.Idx) : p.2 x = outAt z h w cs sn (p.1.emb x) := by
  obtain ⟨k, rfl⟩ := pcs_mem _ p 8 le_rfl hp
  have hx : x = (ix2 (x 0) (x 1) : S1024x128.Idx) := eq_ix2 x
  have hl : (x 1).val < 128 := (x 1).isLt
  have e0 : ((rC k).emb x) 0 = x 0 := Fin.ext (by blk_simp)
  have e1 : (((rC k).emb x) 1).val = 128 * k.val + (x 1).val := by blk_simp
  have e2 : ((rC k).emb x) 1 = (⟨128 * k.val + (x 1).val, by omega⟩ : Fin 1024) := Fin.ext e1
  have hm : mate (128 * k.val + (x 1).val) = 128 * k.val + ((x 1).val + 64) % 128 := by unfold mate; omega
  have hn : (lane ((rC k).emb x 1)) = x 1 := Fin.ext (by show _ % 128 = _; rw [e1]; omega)
  refine (congrArg (turned (F := 𝕀) z h w cs sn k) hx).trans ((turned_at z h w cs sn k (x 0) (x 1)).trans ?_)
  show _ = outAt z h w cs sn ((rC k).emb x)
  unfold outAt
  rw [hn, e0]
  refine congrArg (· * z) (mix_congr ?_ ?_ rfl rfl)
  · exact Finset.sum_congr rfl fun d _ => congrArg (fun a => h (ix2 (x 0) d) * w (ix2 d a)) e2.symm
  · exact Finset.sum_congr rfl fun d _ => congrArg (fun a => h (ix2 (x 0) d) * w (ix2 d a)) (Fin.ext (by show _ = mate _; rw [e1, hm]))

/-- Pieces that are the rotated heads, and cover, read as the rotated heads. -/
theorem read_turns {sg : RefSig} (z : EReal) (v : View sg .tc .vmem S1024x1024 .bf16) (f) (L : List (View.Piece (Elt 𝕀) S1024x1024 .bf16)) (h : S1024x2048.Idx → EReal) (w : S2048x1024.Idx → EReal)
    (cs sn : S1024x128.Idx → EReal) (e : L = turns (F := 𝕀) z h w cs sn) (hL : ∀ y : S1024x1024.Idx, ∃ p ∈ L, y ∈ p.1.set) :
    (v.read (Elt 𝕀) (v.writes (Elt 𝕀) f L) : S1024x1024.Idx → EReal) = outAt z h w cs sn := by
  subst e
  exact funext fun y => View.read_writes_apply_of_pieces _ _ (outAt z h w cs sn) _ (turns_agree z h w cs sn) y (hL y)

theorem turns_congr (z : EReal) {h h' : S1024x2048.Idx → EReal} {w w' : S2048x1024.Idx → EReal} {cs cs' sn sn' : S1024x128.Idx → EReal} (e1 : h = h') (e2 : w = w') (e3 : cs = cs') (e4 : sn = sn') :
    turns (F := 𝕀) z h w cs sn = turns (F := 𝕀) z h' w' cs' sn' := by rw [e1, e2, e3, e4]

/-- Half a row of cosines twice; half a row of sines, the first time negated. -/
def ctab (t : (⟨3, ![2, 8192, 64]⟩ : Shape).Idx → EReal) (R : Fin 16384) (l : Fin 128) : EReal :=
  if h : l.val < 64 then t (ix3 ⟨R.val / 8192, by omega⟩ ⟨R.val % 8192, Nat.mod_lt _ (by decide)⟩ ⟨l.val, h⟩)
  else t (ix3 ⟨R.val / 8192, by omega⟩ ⟨R.val % 8192, Nat.mod_lt _ (by decide)⟩ ⟨l.val - 64, by omega⟩)
def stab (t : (⟨3, ![2, 8192, 64]⟩ : Shape).Idx → EReal) (R : Fin 16384) (l : Fin 128) : EReal :=
  if h : l.val < 64 then -t (ix3 ⟨R.val / 8192, by omega⟩ ⟨R.val % 8192, Nat.mod_lt _ (by decide)⟩ ⟨l.val, h⟩)
  else t (ix3 ⟨R.val / 8192, by omega⟩ ⟨R.val % 8192, Nat.mod_lt _ (by decide)⟩ ⟨l.val - 64, by omega⟩)

/-- An entry of a rotated projection: the row's product with a column of the weights, turned against the product with the column's partner. -/
def el (H : Fin 16384 → Fin 2048 → EReal) (W : Fin 2048 → Fin 2048 → EReal) (cs sn : (⟨3, ![2, 8192, 64]⟩ : Shape).Idx → EReal) (R : Fin 16384) (C : Fin 2048) : EReal :=
  mix (∑ d : Fin 2048, H R d * W d C) (∑ d : Fin 2048, H R d * W d ⟨mate C.val, mate_lt (n := 16) C.isLt⟩) (ctab cs R (lane C)) (stab sn R (lane C))

theorem el_congr (H : Fin 16384 → Fin 2048 → EReal) (W : Fin 2048 → Fin 2048 → EReal) (cs sn : (⟨3, ![2, 8192, 64]⟩ : Shape).Idx → EReal) {R R' : Fin 16384} {C C' : Fin 2048}
    (hR : R = R') (hC : C = C') : el H W cs sn R C = el H W cs sn R' C' := by
  rw [hR, hC]

/-- A point's rows, from its blocks' entries. -/
theorem hRow_tile (x0 : S1024x2048.Idx → EReal) (x1 : S1x2048.Idx → EReal) (x2 x3 : S1x1x2048.Idx → EReal)
    (x : (⟨3, ![2, 8192, 2048]⟩ : Shape).Idx → EReal) (g : (⟨1, ![2048]⟩ : Shape).Idx → EReal) (sh sc : (⟨2, ![2, 2048]⟩ : Shape).Idx → EReal)
    (R : Fin 1024 → Fin 16384) (b : Fin 2) (hb : ∀ r, (R r).val / 8192 = b.val)
    (e0 : ∀ r d, x0 (ix2 r d) = rowOf x (R r) d) (e1 : ∀ d, x1 (ix2 0 d) = g (ix1 d)) (e2 : ∀ d, x2 (ix3 0 0 d) = sh (ix2 b d)) (e3 : ∀ d, x3 (ix3 0 0 d) = sc (ix2 b d)) :
    hRow x0 x1 x2 x3 = fun i => hOf x g sh sc (R (i 0)) (i 1) := by
  funext i
  have h : (⟨(R (i 0)).val / 8192, by omega⟩ : Fin 2) = b := Fin.ext (hb (i 0))
  unfold hOf hRow
  congr 1
  · exact funext fun e => e0 (i 0) e
  · exact funext fun e => e1 e
  · exact funext fun e => (e2 e).trans (congrArg (fun b => sh (ix2 b e)) h.symm)
  · exact funext fun e => (e3 e).trans (congrArg (fun b => sc (ix2 b e)) h.symm)

/-- The block of a point in the array: rows `R`, columns from 1024 j on. -/
theorem outAt_tile (z : EReal) (h : S1024x2048.Idx → EReal) (w : S2048x1024.Idx → EReal) (c s : S1024x128.Idx → EReal)
    (H : Fin 16384 → Fin 2048 → EReal) (W : Fin 2048 → Fin 2048 → EReal) (cs sn : (⟨3, ![2, 8192, 64]⟩ : Shape).Idx → EReal) (R : Fin 1024 → Fin 16384) (j : ℕ) (hj : j < 2)
    (eh : ∀ r d, h (ix2 r d) = H (R r) d) (ew : ∀ d (C : Fin 1024), w (ix2 d C) = W d ⟨1024 * j + C.val, by omega⟩)
    (ec : ∀ r l, c (ix2 r l) = ctab cs (R r) l) (es : ∀ r l, s (ix2 r l) = stab sn (R r) l) (y : S1024x1024.Idx) :
    outAt z h w c s y = el H W cs sn (R (y 0)) ⟨1024 * j + (y 1).val, by have h : (y 1).val < 1024 := (y 1).isLt; omega⟩ * z := by
  have h1 : (y 1).val < 1024 := (y 1).isLt
  have hl : lane (y 1) = lane (⟨1024 * j + (y 1).val, by omega⟩ : Fin 2048) := Fin.ext (by show (y 1).val % 128 = (1024 * j + (y 1).val) % 128; omega)
  refine congrArg (· * z) (mix_congr ?_ ?_ ?_ ?_)
  · exact Finset.sum_congr rfl fun d _ => congrArg₂ (· * ·) (eh (y 0) d) (ew d (y 1))
  · refine Finset.sum_congr rfl fun d _ => congrArg₂ (· * ·) (eh (y 0) d) ((ew d _).trans (congrArg (W d) (Fin.ext ?_)))
    show 1024 * j + mate (y 1).val = mate (1024 * j + (y 1).val)
    unfold mate; omega
  · exact (ec (y 0) _).trans (congrArg (ctab cs (R (y 0))) hl)
  · exact (es (y 0) _).trans (congrArg (stab sn (R (y 0))) hl)

end Cert.Proj

namespace Cert.ProjRef

open Cert.QueryReferenceIdeal Cert.QueryReferenceIdeal.Gen Cert.FinalKernelIdeal.Val Cert.Proj
open Idealize.ShloMosaic Idealize.ShloMosaic.TcCoe Idealize.ShloMosaic.Tactic
open Idealize.SL.Sem

local notation "𝕀" => Idealize.ShloMosaic.Ideal

/-- Columns as heads, and back. -/
abbrev split (q : S2x8192x2048.Idx → EReal) : S2x8192x8x2x128.Idx → EReal := shapeCast S2x8192x8x2x128 q shapeCasts_S2x8192x2048_S2x8192x8x2x128

abbrev half₁ (q : S2x8192x8x2x128.Idx → EReal) : S2x8192x8x2x64.Idx → EReal := extractStridedSlice S2x8192x8x2x64 ![0, 0, 0, 0, 0] q slices_S2x8192x8x2x128_S2x8192x8x2x64_0_0_0_0_0
abbrev half₂ (q : S2x8192x8x2x128.Idx → EReal) : S2x8192x8x2x64.Idx → EReal := extractStridedSlice S2x8192x8x2x64 ![0, 0, 0, 0, 64] q slices_S2x8192x8x2x128_S2x8192x8x2x64_0_0_0_0_64
abbrev table (t : S2x8192x64.Idx → EReal) : S2x8192x8x2x64.Idx → EReal :=
  broadcastInDim S2x8192x8x2x64 ![0, 1, 2, 3, 4] bcast_S2x8192x1x1x64_S2x8192x8x2x64_0_1_2_3_4 (broadcastInDim S2x8192x1x1x64 ![0, 1, 4] bcast_S2x8192x64_S2x8192x1x1x64_0_1_4 t)

/-- The heads rotated as the reference writes it, half by half. -/
def rot (q : S2x8192x8x2x128.Idx → EReal) (cs sn : S2x8192x64.Idx → EReal) : S2x8192x8x2x128.Idx → EReal :=
  concatenate S2x8192x8x2x128 4 [
      ⟨S2x8192x8x2x64, subf (F := 𝕀) (φ := .f32) (mulf (F := 𝕀) (φ := .f32) (half₁ q) (table cs)) (mulf (F := 𝕀) (φ := .f32) (half₂ q) (table sn))⟩,
      ⟨S2x8192x8x2x64, addf (F := 𝕀) (φ := .f32) (mulf (F := 𝕀) (φ := .f32) (half₂ q) (table cs)) (mulf (F := 𝕀) (φ := .f32) (half₁ q) (table sn))⟩]
    concatenates_S2x8192x8x2x64_S2x8192x8x2x64_S2x8192x8x2x128_d4

theorem rot_at (q : S2x8192x2048.Idx → EReal) (cs sn : S2x8192x64.Idx → EReal) (R : Fin 16384) (C : Fin 2048) :
    shapeCast S16384x2048 (rot (split q) cs sn) shapeCasts_S2x8192x8x2x128_S16384x2048 (ix2 R C)
      = mix (rowOf q R C) (rowOf q R ⟨mate C.val, mate_lt (n := 16) C.isLt⟩) (ctab cs R (lane C)) (stab sn R (lane C)) := by
  unfold mix rowOf ctab stab
  by_cases hC : C.val % 128 < 64
  · have e : C.val / 256 * 256 + C.val / 128 % 2 * 128 + (64 + C.val % 128) = mate C.val := by unfold mate; omega
    pointwise [rot, split, half₁, half₂, table]
    simp only [dif_pos hC, e, mul_neg, sub_eq_add_neg]
  · have e : C.val / 256 * 256 + C.val / 128 % 2 * 128 + (64 + (C.val % 128 - 64)) = C.val := by omega
    have e' : C.val / 256 * 256 + C.val / 128 % 2 * 128 + (C.val % 128 - 64) = mate C.val := by unfold mate; omega
    pointwise [rot, split, half₁, half₂, table]
    simp only [dif_neg hC, e, e']

/-- The rotated projection of rows that are `H`, with weights `W`. -/
theorem rot_el (q : S2x8192x2048.Idx → EReal) (cs sn : S2x8192x64.Idx → EReal) (H : Fin 16384 → Fin 2048 → EReal) (W : Fin 2048 → Fin 2048 → EReal)
    (hq : ∀ R C, rowOf q R C = ∑ d : Fin 2048, H R d * W d C) (R : Fin 16384) (C : Fin 2048) :
    shapeCast S16384x2048 (rot (split q) cs sn) shapeCasts_S2x8192x8x2x128_S16384x2048 (ix2 R C) = el H W cs sn R C :=
  (rot_at q cs sn R C).trans (mix_congr (hq R C) (hq R _) rfl rfl)

end Cert.ProjRef

end
-- ==== Proof.QueryValue.lean ====
module

public import proofs.«01_k».proof.Defs
public import proofs.«01_k».proof.Proof.QueryForms
public import proofs.«01_k».proof.Proof.ProjValue
public import proofs.«01_k».proof.Proof.AttnBlocks
public import proofs.«01_k».proof.Proof.Gen.QueryReferenceIdeal.Run

@[expose] public section

/-! The projection to the queries, rotated: the array the call leaves, and the reference's, are one function of the arguments. -/

set_option maxRecDepth 16384

noncomputable section

namespace Cert.QueryKernelIdeal.Val

open Cert.QueryKernelIdeal Cert.QueryKernelIdeal.Gen Cert.FinalKernelIdeal.Val Cert.Proj
open Cert.InKernelIdeal.Val (rows rAll hRow hOf readAt_all read_rows)
open Idealize.ShloMosaic Idealize.ShloMosaic.TcCoe Idealize.ShloMosaic.Tactic
open Idealize.SL.Sem

local notation "𝕀" => Idealize.ShloMosaic.Ideal

/-- The constant's value: one over the root of 128 and the logarithm of 2. -/
def scl : EReal := (((Real.sqrt 128 * Real.log 2)⁻¹ : ℝ) : EReal)

theorem qs_eq : qs (F := 𝕀) = scl := IdealRules.named_const.ideal_named_scalar _ _ _ _ rfl

attribute [local irreducible] kernelRun0_A kernelRun0_B outsAt0

section
variable {a2 : Memref sig .tc .vmem S1024x2048 .f32} {a3 : Memref sig .tc .vmem S1x2048 .f32} {a4 a5 : Memref sig .tc .vmem S1x1x2048 .f32}
  {a6 : Memref sig .tc .vmem S2048x1024 .bf16} {a7 a8 : Memref sig .tc .vmem S1024x128 .f32} {a9 : Memref sig .tc .vmem S1024x1024 .bf16}
  {a10 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : S1024x2048.Idx → EReal) (x1 : S1x2048.Idx → EReal) (x2 x3 : S1x1x2048.Idx → EReal) (x4 : S2048x1024.Idx → EReal) (x5 x6 : S1024x128.Idx → EReal)
  (c : Dev nD) (i : grid0.Coords)

/-- What a block's first point leaves in the scratch. -/
theorem sout_first (hc0) : (sout0_A_0 (F := 𝕀) c i a2 h2 a3 h3 a4 h4 a5 h5 a6 h6 a7 h7 a8 h8 a9 h9 a10 h10 hc0 x0 x1 x2 x3 x4 x5 x6 : S1024x2048.Idx → EReal) = hRow x0 x1 x2 x3 := by
  unfold sout0_A_0
  exact read_rows h2 h3 h4 h5 x0 x1 x2 x3 _ _ _ (first_rows ..) (scover0_A_0 (F := 𝕀) c i a2 h2 a3 h3 a4 h4 a5 h5 a6 h6 a7 h7 a8 h8 a9 h9 a10 h10 hc0 x0 x1 x2 x3 x4 x5 x6)

include h6 h7 h8 h9 x4 x5 x6 c in
/-- The scratch read back at the point that fills it. -/
theorem readCov_rows (h10 : a10.IsWhole) (hc0 : cond0_0 i) : (View.readCov (Val := Elt 𝕀) a10.view (rows (F := 𝕀) h2 h3 h4 h5 x0 x1 x2 x3) rAll : S1024x2048.Idx → EReal) = hRow x0 x1 x2 x3 := by
  refine (View.readAt_full (Val := Elt 𝕀) a10.view _ _).trans (read_rows h2 h3 h4 h5 x0 x1 x2 x3 _ _ _ rfl ?_)
  have hy := scover0_A_0 (F := 𝕀) c i a2 h2 a3 h3 a4 h4 a5 h5 a6 h6 a7 h7 a8 h8 a9 h9 a10 h10 hc0 x0 x1 x2 x3 x4 x5 x6
  exact first_rows (F := 𝕀) h2 h3 h4 h5 h6 h7 h8 h9 h10 x0 x1 x2 x3 x4 x5 x6 c i hc0 ▸ hy

/-- The block a block's first point stores. -/
theorem out_first (hc0) : (out0_A_7 (F := 𝕀) c i a2 h2 a3 h3 a4 h4 a5 h5 a6 h6 a7 h7 a8 h8 a9 h9 a10 h10 hc0 x0 x1 x2 x3 x4 x5 x6 : S1024x1024.Idx → EReal)
    = outAt (qs (F := 𝕀)) (hRow x0 x1 x2 x3) x4 x5 x6 := by
  unfold out0_A_7
  refine read_turns (qs (F := 𝕀)) _ _ _ _ _ _ _ ((first_turns ..).trans ?_) (cover0_A_7 (F := 𝕀) c i a2 h2 a3 h3 a4 h4 a5 h5 a6 h6 a7 h7 a8 h8 a9 h9 a10 h10 hc0 x0 x1 x2 x3 x4 x5 x6)
  exact turns_congr (qs (F := 𝕀)) (readCov_rows h2 h3 h4 h5 h6 h7 h8 h9 x0 x1 x2 x3 x4 x5 x6 c i h10 hc0) (readAt_all h6 x4 _) (readAt_all h7 x5 _) (readAt_all h8 x6 _)

/-- The block a later point stores. -/
theorem out_later (hc0) (s : S1024x2048.Idx → EReal) : (out0_B_7 (F := 𝕀) c i a2 h2 a3 h3 a4 h4 a5 h5 a6 h6 a7 h7 a8 h8 a9 h9 a10 h10 hc0 x0 x1 x2 x3 x4 x5 x6 s : S1024x1024.Idx → EReal)
    = outAt (qs (F := 𝕀)) s x4 x5 x6 := by
  unfold out0_B_7
  refine read_turns (qs (F := 𝕀)) _ _ _ _ _ _ _ ((later_turns ..).trans ?_) (cover0_B_7 (F := 𝕀) c i a2 h2 a3 h3 a4 h4 a5 h5 a6 h6 a7 h7 a8 h8 a9 h9 a10 h10 hc0 x0 x1 x2 x3 x4 x5 x6 s)
  exact turns_congr (qs (F := 𝕀)) (readAt_all h10 s _) (readAt_all h6 x4 _) (readAt_all h7 x5 _) (readAt_all h8 x6 _)

end

variable (m : (ℓ : Loc nD τ sig) → Buf (Elt 𝕀) ℓ) (c : Dev nD)

/-- The arrays the call reads. -/
theorem V_x (R : Fin 16384) (C : Fin 2048) : (V m c main_v5 : S16384x2048.Idx → EReal) (ix2 R C) = rowOf (m (c, Proc.tc.devRef main_arg0)) R C := by
  unfold V hostOps0; after_results
  pointwise
theorem V_g (C : Fin 2048) : (V m c main_v6 : S1x2048.Idx → EReal) (ix2 0 C) = (m (c, Proc.tc.devRef main_arg1) : S2048.Idx → EReal) (ix1 C) := by
  unfold V hostOps0; after_results
  pointwise
theorem V_sh (b : Fin 2) (C : Fin 2048) : (V m c main_v7 : S2x1x2048.Idx → EReal) (ix3 b 0 C) = (m (c, Proc.tc.devRef main_arg2) : S2x2048.Idx → EReal) (ix2 b C) := by
  unfold V hostOps0; after_results
  pointwise
theorem V_sc (b : Fin 2) (C : Fin 2048) : (V m c main_v8 : S2x1x2048.Idx → EReal) (ix3 b 0 C) = (m (c, Proc.tc.devRef main_arg3) : S2x2048.Idx → EReal) (ix2 b C) := by
  unfold V hostOps0; after_results
  pointwise
theorem V_w (k : Fin 2048) (C : Fin 2048) : (V m c main_v9 : S2048x2048.Idx → EReal) (ix2 k C) = (m (c, Proc.tc.devRef main_arg4) : S2048x2048.Idx → EReal) (ix2 k C) := by
  unfold V hostOps0; after_results
  pointwise
theorem V_cos (R : Fin 16384) (l : Fin 128) : (V m c main_v1 : S16384x128.Idx → EReal) (ix2 R l) = ctab (m (c, Proc.tc.devRef main_arg5)) R l := by
  unfold V hostOps0 ctab; after_results
  pointwise
theorem V_sin (R : Fin 16384) (l : Fin 128) : (V m c main_v4 : S16384x128.Idx → EReal) (ix2 R l) = stab (m (c, Proc.tc.devRef main_arg6)) R l := by
  unfold V hostOps0 stab; after_results
  pointwise

theorem idxs : ∀ t : Fin grid0.N, win0_0.index t = ![t.val / 2, 0] ∧ win0_1.index t = ![0, 0] ∧ win0_2.index t = ![t.val / 16, 0, 0]
    ∧ win0_3.index t = ![t.val / 16, 0, 0] ∧ win0_4.index t = ![0, t.val % 2] ∧ win0_5.index t = ![t.val / 2, 0] ∧ win0_6.index t = ![t.val / 2, 0]
    ∧ win0_7.index t = ![t.val / 2, t.val % 2] := by decide +kernel
theorem t_lt (t : Fin cfg0.N) : t.val < 32 := lt_of_lt_of_eq t.isLt N_0

/-- A row of a point's block of rows. -/
abbrev row (n : ℕ) (hn : n < 32) (r : Fin 1024) : Fin 16384 := ⟨1024 * (n / 2) + r.val, by omega⟩

/-- The blocks of a point. -/
theorem blk_x (t : Fin cfg0.N) (r : Fin 1024) (d : Fin 2048) : (iblk m c 0 t : S1024x2048.Idx → EReal) (ix2 r d)
    = (V m c main_v5 : S16384x2048.Idx → EReal) (ix2 (row t.val (t_lt t) r) d) := by
  have e : (cfg0.win 0).index t = _ := (idxs t).1
  blk_ext [iblk, e]
theorem blk_g (t : Fin cfg0.N) (C : Fin 2048) : (iblk m c 1 t : S1x2048.Idx → EReal) (ix2 0 C) = (V m c main_v6 : S1x2048.Idx → EReal) (ix2 0 C) := by
  have e : (cfg0.win 1).index t = _ := (idxs t).2.1
  blk_ext [iblk, e]
theorem blk_sh (t : Fin cfg0.N) (C : Fin 2048) : (iblk m c 2 t : S1x1x2048.Idx → EReal) (ix3 0 0 C) = (V m c main_v7 : S2x1x2048.Idx → EReal) (ix3 ⟨t.val / 16, by have := t_lt t; omega⟩ 0 C) := by
  have e : (cfg0.win 2).index t = _ := (idxs t).2.2.1
  blk_ext [iblk, e]
theorem blk_sc (t : Fin cfg0.N) (C : Fin 2048) : (iblk m c 3 t : S1x1x2048.Idx → EReal) (ix3 0 0 C) = (V m c main_v8 : S2x1x2048.Idx → EReal) (ix3 ⟨t.val / 16, by have := t_lt t; omega⟩ 0 C) := by
  have e : (cfg0.win 3).index t = _ := (idxs t).2.2.2.1
  blk_ext [iblk, e]
theorem blk_w (t : Fin cfg0.N) (d : Fin 2048) (C : Fin 1024) : (iblk m c 4 t : S2048x1024.Idx → EReal) (ix2 d C)
    = (V m c main_v9 : S2048x2048.Idx → EReal) (ix2 d ⟨1024 * (t.val % 2) + C.val, by omega⟩) := by
  have e : (cfg0.win 4).index t = _ := (idxs t).2.2.2.2.1
  blk_ext [iblk, e]
theorem blk_cos (t : Fin cfg0.N) (r : Fin 1024) (l : Fin 128) : (iblk m c 5 t : S1024x128.Idx → EReal) (ix2 r l)
    = (V m c main_v1 : S16384x128.Idx → EReal) (ix2 (row t.val (t_lt t) r) l) := by
  have e : (cfg0.win 5).index t = _ := (idxs t).2.2.2.2.2.1
  blk_ext [iblk, e]
theorem blk_sin (t : Fin cfg0.N) (r : Fin 1024) (l : Fin 128) : (iblk m c 6 t : S1024x128.Idx → EReal) (ix2 r l)
    = (V m c main_v4 : S16384x128.Idx → EReal) (ix2 (row t.val (t_lt t) r) l) := by
  have e : (cfg0.win 6).index t = _ := (idxs t).2.2.2.2.2.2.1
  blk_ext [iblk, e]

/-- The weights the arguments hold. -/
abbrev wOf (d C : Fin 2048) : EReal := (m (c, Proc.tc.devRef main_arg4) : S2048x2048.Idx → EReal) (ix2 d C)

/-- The rows the arguments hold. -/
abbrev hRows : Fin 16384 → Fin 2048 → EReal :=
  hOf (m (c, Proc.tc.devRef main_arg0)) (m (c, Proc.tc.devRef main_arg1)) (m (c, Proc.tc.devRef main_arg2)) (m (c, Proc.tc.devRef main_arg3))

/-- The rows of the block a point belongs to. -/
abbrev rowsAt (n : ℕ) (hn : n < 32) (i : S1024x2048.Idx) : EReal := hRows m c (row n hn (i 0)) (i 1)

theorem hRow_blk (t : Fin cfg0.N) : hRow (iblk m c 0 t) (iblk m c 1 t) (iblk m c 2 t) (iblk m c 3 t) = rowsAt m c t.val (t_lt t) :=
  hRow_tile _ _ _ _ _ _ _ _ (row t.val (t_lt t)) ⟨t.val / 16, by have := t_lt t; omega⟩ (fun r => by show (1024 * (t.val / 2) + r.val) / 8192 = t.val / 16; omega)
    (fun r d => (blk_x m c t r d).trans (V_x m c _ d)) (fun d => (blk_g m c t d).trans (V_g m c d)) (fun d => (blk_sh m c t d).trans (V_sh m c _ d)) (fun d => (blk_sc m c t d).trans (V_sc m c _ d))

theorem scratch_A (t : Fin cfg0.N) (h0 : t.val % 2 = 0) : ((outsAt0 m c t.val t.isLt).2 : S1024x2048.Idx → EReal) = rowsAt m c t.val (t_lt t) :=
  (congrArg Prod.snd (outsAt0_A m c t h0)).trans ((sout_first (hs0_0 t) (hs0_1 t) (hs0_2 t) (hs0_3 t) (hs0_4 t) (hs0_5 t) (hs0_6 t) (hs0_7 t) (Memref.isWhole_whole cc0_scratch0) _ _ _ _ _ _ _ c (grid0.coords t) _).trans (hRow_blk m c t))

/-- A block's second point finds the rows its first left. -/
theorem scratch_B (t : Fin cfg0.N) (h0 : ¬t.val % 2 = 0) : ((outsAt0 m c (t.val - 1) (Nat.lt_of_le_of_lt (Nat.sub_le _ _) t.isLt)).2 : S1024x2048.Idx → EReal) = rowsAt m c t.val (t_lt t) := by
  have ht := t_lt t
  refine (scratch_A m c ⟨t.val - 1, Nat.lt_of_le_of_lt (Nat.sub_le _ _) t.isLt⟩ (by show (t.val - 1) % 2 = 0; omega)).trans (funext fun i => ?_)
  refine congrArg (fun R => hRows m c R (i 1)) (Fin.ext ?_)
  show 1024 * ((t.val - 1) / 2) + _ = 1024 * (t.val / 2) + _
  rw [show (t.val - 1) / 2 = t.val / 2 by omega]

/-- The block a point stores. -/
theorem block_eq (t : Fin cfg0.N) : ((outsAt0 m c t.val t.isLt).1 : S1024x1024.Idx → EReal)
    = outAt (qs (F := 𝕀)) (rowsAt m c t.val (t_lt t)) (iblk m c 4 t) (iblk m c 5 t) (iblk m c 6 t) := by
  by_cases h0 : t.val % 2 = 0
  · refine (congrArg Prod.fst (outsAt0_A m c t h0)).trans ((out_first (hs0_0 t) (hs0_1 t) (hs0_2 t) (hs0_3 t) (hs0_4 t) (hs0_5 t) (hs0_6 t) (hs0_7 t) (Memref.isWhole_whole cc0_scratch0) _ _ _ _ _ _ _ c (grid0.coords t) _).trans ?_)
    exact congrArg (fun h => outAt (qs (F := 𝕀)) h (iblk m c 4 t) (iblk m c 5 t) (iblk m c 6 t)) (hRow_blk m c t)
  · refine (congrArg Prod.fst (outsAt0_B m c t h0)).trans ((out_later (hs0_0 t) (hs0_1 t) (hs0_2 t) (hs0_3 t) (hs0_4 t) (hs0_5 t) (hs0_6 t) (hs0_7 t) (Memref.isWhole_whole cc0_scratch0) _ _ _ _ _ _ _ c (grid0.coords t) _ _).trans ?_)
    exact congrArg (fun h => outAt (qs (F := 𝕀)) h (iblk m c 4 t) (iblk m c 5 t) (iblk m c 6 t)) (scratch_B m c t h0)

/-- The block a point stores, at an element. -/
theorem block_at (t : Fin cfg0.N) (y : S1024x1024.Idx) : ((outsAt0 m c t.val t.isLt).1 : S1024x1024.Idx → EReal) y
    = el (hRows m c) (wOf m c) (m (c, Proc.tc.devRef main_arg5)) (m (c, Proc.tc.devRef main_arg6))
        (row t.val (t_lt t) (y 0)) ⟨1024 * (t.val % 2) + (y 1).val, by have h : (y 1).val < 1024 := (y 1).isLt; omega⟩ * (qs (F := 𝕀)) :=
  (congrFun (block_eq m c t) y).trans (outAt_tile (qs (F := 𝕀)) _ _ _ _ (hRows m c) (wOf m c) _ _ (row t.val (t_lt t)) (t.val % 2) (Nat.mod_lt _ (by decide)) (fun _ _ => rfl)
    (fun d C => (blk_w m c t d C).trans (V_w m c d _)) (fun r l => (blk_cos m c t r l).trans (V_cos m c _ l)) (fun r l => (blk_sin m c t r l).trans (V_sin m c _ l)) y)

theorem covers : (cfg0.win 7).Covers :=
  (cfg0.win 7).covers_of_index_surj rfl (by decide) fun β => by
    have h0 : (β 0).val < 16 := (β 0).isLt
    have h1 : (β 1).val < 2 := (β 1).isLt
    have ht : 2 * (β 0).val + (β 1).val < cfg0.N := lt_of_lt_of_eq (by omega) N_0.symm
    refine ⟨⟨_, ht⟩, fun a => ?_⟩
    rw [show (cfg0.win 7).index ⟨_, ht⟩ = _ from (idxs ⟨_, ht⟩).2.2.2.2.2.2.2]
    match a with
    | ⟨0, _⟩ => show (2 * (β 0).val + (β 1).val) / 2 = (β 0).val; omega
    | ⟨1, _⟩ => show (2 * (β 0).val + (β 1).val) % 2 = (β 1).val; omega

/-- The array after the run. -/
theorem out_array : (dats m 0 c).arrAt 7 cfg0.N
    = (fun i : S16384x2048.Idx => el (hRows m c) (wOf m c) (m (c, Proc.tc.devRef main_arg5)) (m (c, Proc.tc.devRef main_arg6)) (i 0) (i 1) * (qs (F := 𝕀))) := by
  refine (dats m 0 c).arrAt_eq_of_covers 7 _ covers fun t hf y => ?_
  have e : (cfg0.win 7).index t = _ := (idxs t).2.2.2.2.2.2.2
  blk_simp
  rw [after0_7]
  refine (block_at m c t y).trans (congrArg (· * (qs (F := 𝕀))) (el_congr _ _ _ _ (Fin.ext ?_) (Fin.ext ?_))) <;> blk_simp [e]
  · exact congrArg (· + (y 0).val) (Nat.mul_comm 1024 (t.val / 2))
  · exact congrArg (· + (y 1).val) (Nat.mul_comm 1024 (t.val % 2))

end Cert.QueryKernelIdeal.Val

namespace Cert.QueryReferenceIdeal.Val

open Cert.QueryReferenceIdeal Cert.QueryReferenceIdeal.Gen Cert.FinalKernelIdeal.Val Cert.QueryKernelIdeal.Val Cert.Proj Cert.ProjRef
open Cert.InKernelIdeal.Val (hOf)
open Cert.InReferenceIdeal.Val (modded modded_at)
open Idealize.ShloMosaic Idealize.ShloMosaic.TcCoe Idealize.ShloMosaic.Tactic
open Idealize.SL.Sem

local notation "𝕀" => Idealize.ShloMosaic.Ideal

/-- The rows' product with the weights. -/
def dotted (h : S2x8192x2048.Idx → EReal) (w : S2048x2048.Idx → EReal) : S2x8192x2048.Idx → EReal :=
  Host.dotGeneral (F := 𝕀) (φ₁ := .f32) (φ₂ := .f32) dot_S2x8192x2048_S2048x2048_S2x8192x2048_2_0_01_1_n_n none h w

/-- The heads divided by the root and the logarithm, and laid side by side. -/
def flat (q : S2x8192x8x2x128.Idx → EReal) : S16384x2048.Idx → EReal :=
  truncf (F := 𝕀) (φ := .f32) .bf16 (shapeCast S16384x2048 (Host.divf (F := 𝕀) (φ := .f32) q
    (broadcastInDim S2x8192x8x2x128 ![] bcast_S_S2x8192x8x2x128 (mulf (F := 𝕀) (φ := .f32) (Host.sqrt (constant S_ .f32 0x43000000#32)) (Host.log (constant S_ .f32 0x40000000#32))))) shapeCasts_S2x8192x8x2x128_S16384x2048) bitsLt_bf16_f32

theorem div_scl (x : EReal) : Ideal.div x (Ideal.sqrt (Idealize.ShloMosaic.Ideal.ofBits .f32 0x43000000#32) * Ideal.log (Idealize.ShloMosaic.Ideal.ofBits .f32 0x40000000#32)) = x * scl := by
  have hl : Ideal.log ((2 : ℝ) : EReal) = ((Real.log 2 : ℝ) : EReal) := by
    show (if (2 : ℝ) ≤ 0 then (⊥ : EReal) else ((Real.log 2 : ℝ) : EReal)) = _
    exact if_neg (by norm_num)
  have hp : Real.sqrt 128 * Real.log 2 ≠ 0 := (mul_pos Cert.KernelIdeal.Attn.sqrt128_pos (Real.log_pos one_lt_two)).ne'
  rw [Cert.KernelIdeal.Attn.sqrt128, Cert.KernelIdeal.Attn.bits2, hl, ← EReal.coe_mul, Ideal.div_coe hp, one_div]
  rfl

theorem flat_at (q : S2x8192x8x2x128.Idx → EReal) (R : Fin 16384) (C : Fin 2048) :
    flat q (ix2 R C) = shapeCast S16384x2048 q shapeCasts_S2x8192x8x2x128_S16384x2048 (ix2 R C) * scl := by
  rw [← div_scl]
  pointwise [flat]

theorem dotted_at (h : S2x8192x2048.Idx → EReal) (w : S2048x2048.Idx → EReal) (R : Fin 16384) (C : Fin 2048) :
    rowOf (dotted h w) R C = ∑ d : Fin 2048, rowOf h R d * w (ix2 d C) := by
  unfold rowOf
  pointwise [dotted]

/-- The reference's array. -/
theorem ref_array (x : S2x8192x2048.Idx → EReal) (g : S2048.Idx → EReal) (sh sc : S2x2048.Idx → EReal) (w : S2048x2048.Idx → EReal) (cs sn : S2x8192x64.Idx → EReal) :
    flat (rot (split (dotted (modded x g sh sc) w)) cs sn) = fun i => el (hOf x g sh sc) (fun d C => w (ix2 d C)) cs sn (i 0) (i 1) * scl := by
  funext i
  rw [eq_ix2 i]
  refine (flat_at _ (i 0) (i 1)).trans (congrArg (· * scl) (rot_el _ cs sn _ _ (fun R C => (dotted_at _ w R C).trans ?_) (i 0) (i 1)))
  exact Finset.sum_congr rfl fun d _ => congrArg (· * w (ix2 d C)) (modded_at x g sh sc R d)

end Cert.QueryReferenceIdeal.Val

namespace Cert.Proof

open Idealize.ShloMosaic Idealize.SL.Sem

/-- The one constant the ideal form names has the printed bits and the named value. -/
theorem preserves_query : preserves_QueryKernel_QueryKernelIdeal :=
  IdealRules.named_const.statement Cert.QueryKernelIdeal.κ "s" .f32 0x3E0293EE#32 (((Real.sqrt 128 * Real.log 2)⁻¹ : ℝ) : EReal) rfl

/-- The call and the reference return the same array. -/
theorem algebraic_query : algebraic_QueryKernelIdeal_QueryReferenceIdeal (hQueryKernelIdeal := Cert.QueryKernelIdeal.Gen.facts) (hQueryReferenceIdeal := Cert.QueryReferenceIdeal.Gen.facts) := by
  intro m g m' g' _ ha
  refine ⟨_, Cert.QueryKernelIdeal.Value.run_blocks m g, ?_⟩
  refine (θ_run _ _ _).mono (fun r h c => ⟨(h c).1.trans ?_, (h c).2⟩) (Cert.QueryReferenceIdeal.Value.run m' g')
  obtain ⟨a0, a1, a2, a3, a4, a5, a6⟩ := ha c
  unfold Cert.QueryReferenceIdeal.Value.res_main_v44
  rw [a0, a1, a2, a3, a4, a5, a6]
  refine (Cert.QueryReferenceIdeal.Val.ref_array _ _ _ _ _ _ _).trans (Eq.trans ?_ (Cert.QueryKernelIdeal.Val.out_array m c).symm)
  rw [Cert.QueryKernelIdeal.Val.qs_eq]

end Cert.Proof

end
-- ==== Proof.KeyForms.lean ====
module

public import proofs.«01_k».proof.Proof.ProjForms
public import proofs.«01_k».proof.Proof.Gen.KeyKernelIdeal.Value

@[expose] public section

/-! What a point of the projection to the keys stores: the chunks of rows of InForms in the scratch, eight rotated heads in the output's block. -/

set_option maxRecDepth 16384

noncomputable section

namespace Cert.KeyKernelIdeal.Val

open Cert.KeyKernelIdeal Cert.KeyKernelIdeal.Gen
open Cert.InKernelIdeal.Val (rows rAll wBlk)
open Cert.Proj (turns tBlk)
open Idealize.ShloMosaic Idealize.ShloMosaic.TcCoe Idealize.ShloMosaic.Tactic
open Idealize.SL.Sem

variable {F : FTy → Type} [FloatOps F]

/-- The constant a head is multiplied by. -/
abbrev one : F .f32 := Scalar.ofBits .f32 0x3F800000#32

variable {a2 : Memref sig .tc .vmem S1024x2048 .f32} {a3 : Memref sig .tc .vmem S1x2048 .f32} {a4 a5 : Memref sig .tc .vmem S1x1x2048 .f32}
  {a6 : Memref sig .tc .vmem S2048x1024 .bf16} {a7 a8 : Memref sig .tc .vmem S1024x128 .f32} {a9 : Memref sig .tc .vmem S1024x1024 .bf16}
  {a10 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : Vec F S1024x2048 .f32) (x1 : Vec F S1x2048 .f32) (x2 x3 : Vec F S1x1x2048 .f32) (x4 : Vec F S2048x1024 .bf16) (x5 x6 : Vec F S1024x128 .f32)

variable (c : Dev nD) (i : grid0.Coords)

theorem first_rows (hc0) : (kernelRun0_A c i a2 h2 a3 h3 a4 h4 a5 h5 a6 h6 a7 h7 a8 h8 a9 h9 a10 h10 hc0 x0 x1 x2 x3 x4 x5 x6).2.1
    = rows h2 h3 h4 h5 x0 x1 x2 x3 := by sl_kernel_rfl

theorem first_turns (hc0) : (kernelRun0_A c i a2 h2 a3 h3 a4 h4 a5 h5 a6 h6 a7 h7 a8 h8 a9 h9 a10 h10 hc0 x0 x1 x2 x3 x4 x5 x6).1
    = turns one (View.readCov a10.view (rows h2 h3 h4 h5 x0 x1 x2 x3) rAll) (wBlk h6 x4) (tBlk h7 x5) (tBlk h8 x6) := by sl_kernel_rfl

theorem later_turns (hc0) (s : Vec F S1024x2048 .bf16) : (kernelRun0_B c i a2 h2 a3 h3 a4 h4 a5 h5 a6 h6 a7 h7 a8 h8 a9 h9 a10 h10 hc0 x0 x1 x2 x3 x4 x5 x6 s).1
    = turns one (View.readAt (Elt F) a10.view rAll (h10.unread s)) (wBlk h6 x4) (tBlk h7 x5) (tBlk h8 x6) := by sl_kernel_rfl

end Cert.KeyKernelIdeal.Val

end
-- ==== Proof.KeyValue.lean ====
module

public import proofs.«01_k».proof.Defs
public import proofs.«01_k».proof.Proof.KeyForms
public import proofs.«01_k».proof.Proof.ProjValue
public import proofs.«01_k».proof.Proof.Gen.KeyReferenceIdeal.Run

@[expose] public section

/-! The projection to the keys, rotated: the array the call leaves, and the reference's, are one function of the arguments. -/

set_option maxRecDepth 16384

noncomputable section

namespace Cert.KeyKernelIdeal.Val

open Cert.KeyKernelIdeal Cert.KeyKernelIdeal.Gen Cert.FinalKernelIdeal.Val Cert.Proj
open Cert.InKernelIdeal.Val (rows rAll hRow hOf readAt_all read_rows)
open Idealize.ShloMosaic Idealize.ShloMosaic.TcCoe Idealize.ShloMosaic.Tactic
open Idealize.SL.Sem

local notation "𝕀" => Idealize.ShloMosaic.Ideal

theorem one_eq : one (F := 𝕀) = 1 := Ideal.ofBits_one_f32

attribute [local irreducible] kernelRun0_A kernelRun0_B outsAt0

section
variable {a2 : Memref sig .tc .vmem S1024x2048 .f32} {a3 : Memref sig .tc .vmem S1x2048 .f32} {a4 a5 : Memref sig .tc .vmem S1x1x2048 .f32}
  {a6 : Memref sig .tc .vmem S2048x1024 .bf16} {a7 a8 : Memref sig .tc .vmem S1024x128 .f32} {a9 : Memref sig .tc .vmem S1024x1024 .bf16}
  {a10 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
  (x0 : S1024x2048.Idx → EReal) (x1 : S1x2048.Idx → EReal) (x2 x3 : S1x1x2048.Idx → EReal) (x4 : S2048x1024.Idx → EReal) (x5 x6 : S1024x128.Idx → EReal)
  (c : Dev nD) (i : grid0.Coords)

/-- What a block's first point leaves in the scratch. -/
theorem sout_first (hc0) : (sout0_A_0 (F := 𝕀) c i a2 h2 a3 h3 a4 h4 a5 h5 a6 h6 a7 h7 a8 h8 a9 h9 a10 h10 hc0 x0 x1 x2 x3 x4 x5 x6 : S1024x2048.Idx → EReal) = hRow x0 x1 x2 x3 := by
  unfold sout0_A_0
  exact read_rows h2 h3 h4 h5 x0 x1 x2 x3 _ _ _ (first_rows ..) (scover0_A_0 (F := 𝕀) c i a2 h2 a3 h3 a4 h4 a5 h5 a6 h6 a7 h7 a8 h8 a9 h9 a10 h10 hc0 x0 x1 x2 x3 x4 x5 x6)

include h6 h7 h8 h9 x4 x5 x6 c in
/-- The scratch read back at the point that fills it. -/
theorem readCov_rows (h10 : a10.IsWhole) (hc0 : cond0_0 i) : (View.readCov (Val := Elt 𝕀) a10.view (rows (F := 𝕀) h2 h3 h4 h5 x0 x1 x2 x3) rAll : S1024x2048.Idx → EReal) = hRow x0 x1 x2 x3 := by
  refine (View.readAt_full (Val := Elt 𝕀) a10.view _ _).trans (read_rows h2 h3 h4 h5 x0 x1 x2 x3 _ _ _ rfl ?_)
  have hy := scover0_A_0 (F := 𝕀) c i a2 h2 a3 h3 a4 h4 a5 h5 a6 h6 a7 h7 a8 h8 a9 h9 a10 h10 hc0 x0 x1 x2 x3 x4 x5 x6
  exact first_rows (F := 𝕀) h2 h3 h4 h5 h6 h7 h8 h9 h10 x0 x1 x2 x3 x4 x5 x6 c i hc0 ▸ hy

/-- The block a block's first point stores. -/
theorem out_first (hc0) : (out0_A_7 (F := 𝕀) c i a2 h2 a3 h3 a4 h4 a5 h5 a6 h6 a7 h7 a8 h8 a9 h9 a10 h10 hc0 x0 x1 x2 x3 x4 x5 x6 : S1024x1024.Idx → EReal)
    = outAt (one (F := 𝕀)) (hRow x0 x1 x2 x3) x4 x5 x6 := by
  unfold out0_A_7
  refine read_turns (one (F := 𝕀)) _ _ _ _ _ _ _ ((first_turns ..).trans ?_) (cover0_A_7 (F := 𝕀) c i a2 h2 a3 h3 a4 h4 a5 h5 a6 h6 a7 h7 a8 h8 a9 h9 a10 h10 hc0 x0 x1 x2 x3 x4 x5 x6)
  exact turns_congr (one (F := 𝕀)) (readCov_rows h2 h3 h4 h5 h6 h7 h8 h9 x0 x1 x2 x3 x4 x5 x6 c i h10 hc0) (readAt_all h6 x4 _) (readAt_all h7 x5 _) (readAt_all h8 x6 _)

/-- The block a later point stores. -/
theorem out_later (hc0) (s : S1024x2048.Idx → EReal) : (out0_B_7 (F := 𝕀) c i a2 h2 a3 h3 a4 h4 a5 h5 a6 h6 a7 h7 a8 h8 a9 h9 a10 h10 hc0 x0 x1 x2 x3 x4 x5 x6 s : S1024x1024.Idx → EReal)
    = outAt (one (F := 𝕀)) s x4 x5 x6 := by
  unfold out0_B_7
  refine read_turns (one (F := 𝕀)) _ _ _ _ _ _ _ ((later_turns ..).trans ?_) (cover0_B_7 (F := 𝕀) c i a2 h2 a3 h3 a4 h4 a5 h5 a6 h6 a7 h7 a8 h8 a9 h9 a10 h10 hc0 x0 x1 x2 x3 x4 x5 x6 s)
  exact turns_congr (one (F := 𝕀)) (readAt_all h10 s _) (readAt_all h6 x4 _) (readAt_all h7 x5 _) (readAt_all h8 x6 _)

end

variable (m : (ℓ : Loc nD τ sig) → Buf (Elt 𝕀) ℓ) (c : Dev nD)

/-- The arrays the call reads. -/
theorem V_x (R : Fin 16384) (C : Fin 2048) : (V m c main_v5 : S16384x2048.Idx → EReal) (ix2 R C) = rowOf (m (c, Proc.tc.devRef main_arg0)) R C := by
  unfold V hostOps0; after_results
  pointwise
theorem V_g (C : Fin 2048) : (V m c main_v6 : S1x2048.Idx → EReal) (ix2 0 C) = (m (c, Proc.tc.devRef main_arg1) : S2048.Idx → EReal) (ix1 C) := by
  unfold V hostOps0; after_results
  pointwise
theorem V_sh (b : Fin 2) (C : Fin 2048) : (V m c main_v7 : S2x1x2048.Idx → EReal) (ix3 b 0 C) = (m (c, Proc.tc.devRef main_arg2) : S2x2048.Idx → EReal) (ix2 b C) := by
  unfold V hostOps0; after_results
  pointwise
theorem V_sc (b : Fin 2) (C : Fin 2048) : (V m c main_v8 : S2x1x2048.Idx → EReal) (ix3 b 0 C) = (m (c, Proc.tc.devRef main_arg3) : S2x2048.Idx → EReal) (ix2 b C) := by
  unfold V hostOps0; after_results
  pointwise
theorem V_w (k : Fin 2048) (C : Fin 4096) : (V m c main_v9 : S2048x4096.Idx → EReal) (ix2 k C) = (m (c, Proc.tc.devRef main_arg4) : S2048x4096.Idx → EReal) (ix2 k C) := by
  unfold V hostOps0; after_results
  pointwise
theorem V_cos (R : Fin 16384) (l : Fin 128) : (V m c main_v1 : S16384x128.Idx → EReal) (ix2 R l) = ctab (m (c, Proc.tc.devRef main_arg5)) R l := by
  unfold V hostOps0 ctab; after_results
  pointwise
theorem V_sin (R : Fin 16384) (l : Fin 128) : (V m c main_v4 : S16384x128.Idx → EReal) (ix2 R l) = stab (m (c, Proc.tc.devRef main_arg6)) R l := by
  unfold V hostOps0 stab; after_results
  pointwise

theorem idxs : ∀ t : Fin grid0.N, win0_0.index t = ![t.val / 2, 0] ∧ win0_1.index t = ![0, 0] ∧ win0_2.index t = ![t.val / 16, 0, 0]
    ∧ win0_3.index t = ![t.val / 16, 0, 0] ∧ win0_4.index t = ![0, t.val % 2] ∧ win0_5.index t = ![t.val / 2, 0] ∧ win0_6.index t = ![t.val / 2, 0]
    ∧ win0_7.index t = ![t.val / 2, t.val % 2] := by decide +kernel
theorem t_lt (t : Fin cfg0.N) : t.val < 32 := lt_of_lt_of_eq t.isLt N_0

/-- A row of a point's block of rows. -/
abbrev row (n : ℕ) (hn : n < 32) (r : Fin 1024) : Fin 16384 := ⟨1024 * (n / 2) + r.val, by omega⟩

/-- The blocks of a point. -/
theorem blk_x (t : Fin cfg0.N) (r : Fin 1024) (d : Fin 2048) : (iblk m c 0 t : S1024x2048.Idx → EReal) (ix2 r d)
    = (V m c main_v5 : S16384x2048.Idx → EReal) (ix2 (row t.val (t_lt t) r) d) := by
  have e : (cfg0.win 0).index t = _ := (idxs t).1
  blk_ext [iblk, e]
theorem blk_g (t : Fin cfg0.N) (C : Fin 2048) : (iblk m c 1 t : S1x2048.Idx → EReal) (ix2 0 C) = (V m c main_v6 : S1x2048.Idx → EReal) (ix2 0 C) := by
  have e : (cfg0.win 1).index t = _ := (idxs t).2.1
  blk_ext [iblk, e]
theorem blk_sh (t : Fin cfg0.N) (C : Fin 2048) : (iblk m c 2 t : S1x1x2048.Idx → EReal) (ix3 0 0 C) = (V m c main_v7 : S2x1x2048.Idx → EReal) (ix3 ⟨t.val / 16, by have := t_lt t; omega⟩ 0 C) := by
  have e : (cfg0.win 2).index t = _ := (idxs t).2.2.1
  blk_ext [iblk, e]
theorem blk_sc (t : Fin cfg0.N) (C : Fin 2048) : (iblk m c 3 t : S1x1x2048.Idx → EReal) (ix3 0 0 C) = (V m c main_v8 : S2x1x2048.Idx → EReal) (ix3 ⟨t.val / 16, by have := t_lt t; omega⟩ 0 C) := by
  have e : (cfg0.win 3).index t = _ := (idxs t).2.2.2.1
  blk_ext [iblk, e]
theorem blk_w (t : Fin cfg0.N) (d : Fin 2048) (C : Fin 1024) : (iblk m c 4 t : S2048x1024.Idx → EReal) (ix2 d C)
    = (V m c main_v9 : S2048x4096.Idx → EReal) (ix2 d ⟨1024 * (t.val % 2) + C.val, by omega⟩) := by
  have e : (cfg0.win 4).index t = _ := (idxs t).2.2.2.2.1
  blk_ext [iblk, e]
theorem blk_cos (t : Fin cfg0.N) (r : Fin 1024) (l : Fin 128) : (iblk m c 5 t : S1024x128.Idx → EReal) (ix2 r l)
    = (V m c main_v1 : S16384x128.Idx → EReal) (ix2 (row t.val (t_lt t) r) l) := by
  have e : (cfg0.win 5).index t = _ := (idxs t).2.2.2.2.2.1
  blk_ext [iblk, e]
theorem blk_sin (t : Fin cfg0.N) (r : Fin 1024) (l : Fin 128) : (iblk m c 6 t : S1024x128.Idx → EReal) (ix2 r l)
    = (V m c main_v4 : S16384x128.Idx → EReal) (ix2 (row t.val (t_lt t) r) l) := by
  have e : (cfg0.win 6).index t = _ := (idxs t).2.2.2.2.2.2.1
  blk_ext [iblk, e]

/-- The weights the arguments hold. -/
abbrev wOf (d C : Fin 2048) : EReal := (m (c, Proc.tc.devRef main_arg4) : S2048x4096.Idx → EReal) (ix2 d ⟨C.val, by omega⟩)

/-- The rows the arguments hold. -/
abbrev hRows : Fin 16384 → Fin 2048 → EReal :=
  hOf (m (c, Proc.tc.devRef main_arg0)) (m (c, Proc.tc.devRef main_arg1)) (m (c, Proc.tc.devRef main_arg2)) (m (c, Proc.tc.devRef main_arg3))

/-- The rows of the block a point belongs to. -/
abbrev rowsAt (n : ℕ) (hn : n < 32) (i : S1024x2048.Idx) : EReal := hRows m c (row n hn (i 0)) (i 1)

theorem hRow_blk (t : Fin cfg0.N) : hRow (iblk m c 0 t) (iblk m c 1 t) (iblk m c 2 t) (iblk m c 3 t) = rowsAt m c t.val (t_lt t) :=
  hRow_tile _ _ _ _ _ _ _ _ (row t.val (t_lt t)) ⟨t.val / 16, by have := t_lt t; omega⟩ (fun r => by show (1024 * (t.val / 2) + r.val) / 8192 = t.val / 16; omega)
    (fun r d => (blk_x m c t r d).trans (V_x m c _ d)) (fun d => (blk_g m c t d).trans (V_g m c d)) (fun d => (blk_sh m c t d).trans (V_sh m c _ d)) (fun d => (blk_sc m c t d).trans (V_sc m c _ d))

theorem scratch_A (t : Fin cfg0.N) (h0 : t.val % 2 = 0) : ((outsAt0 m c t.val t.isLt).2 : S1024x2048.Idx → EReal) = rowsAt m c t.val (t_lt t) :=
  (congrArg Prod.snd (outsAt0_A m c t h0)).trans ((sout_first (hs0_0 t) (hs0_1 t) (hs0_2 t) (hs0_3 t) (hs0_4 t) (hs0_5 t) (hs0_6 t) (hs0_7 t) (Memref.isWhole_whole cc0_scratch0) _ _ _ _ _ _ _ c (grid0.coords t) _).trans (hRow_blk m c t))

/-- A block's second point finds the rows its first left. -/
theorem scratch_B (t : Fin cfg0.N) (h0 : ¬t.val % 2 = 0) : ((outsAt0 m c (t.val - 1) (Nat.lt_of_le_of_lt (Nat.sub_le _ _) t.isLt)).2 : S1024x2048.Idx → EReal) = rowsAt m c t.val (t_lt t) := by
  have ht := t_lt t
  refine (scratch_A m c ⟨t.val - 1, Nat.lt_of_le_of_lt (Nat.sub_le _ _) t.isLt⟩ (by show (t.val - 1) % 2 = 0; omega)).trans (funext fun i => ?_)
  refine congrArg (fun R => hRows m c R (i 1)) (Fin.ext ?_)
  show 1024 * ((t.val - 1) / 2) + _ = 1024 * (t.val / 2) + _
  rw [show (t.val - 1) / 2 = t.val / 2 by omega]

/-- The block a point stores. -/
theorem block_eq (t : Fin cfg0.N) : ((outsAt0 m c t.val t.isLt).1 : S1024x1024.Idx → EReal)
    = outAt (one (F := 𝕀)) (rowsAt m c t.val (t_lt t)) (iblk m c 4 t) (iblk m c 5 t) (iblk m c 6 t) := by
  by_cases h0 : t.val % 2 = 0
  · refine (congrArg Prod.fst (outsAt0_A m c t h0)).trans ((out_first (hs0_0 t) (hs0_1 t) (hs0_2 t) (hs0_3 t) (hs0_4 t) (hs0_5 t) (hs0_6 t) (hs0_7 t) (Memref.isWhole_whole cc0_scratch0) _ _ _ _ _ _ _ c (grid0.coords t) _).trans ?_)
    exact congrArg (fun h => outAt (one (F := 𝕀)) h (iblk m c 4 t) (iblk m c 5 t) (iblk m c 6 t)) (hRow_blk m c t)
  · refine (congrArg Prod.fst (outsAt0_B m c t h0)).trans ((out_later (hs0_0 t) (hs0_1 t) (hs0_2 t) (hs0_3 t) (hs0_4 t) (hs0_5 t) (hs0_6 t) (hs0_7 t) (Memref.isWhole_whole cc0_scratch0) _ _ _ _ _ _ _ c (grid0.coords t) _ _).trans ?_)
    exact congrArg (fun h => outAt (one (F := 𝕀)) h (iblk m c 4 t) (iblk m c 5 t) (iblk m c 6 t)) (scratch_B m c t h0)

/-- The block a point stores, at an element. -/
theorem block_at (t : Fin cfg0.N) (y : S1024x1024.Idx) : ((outsAt0 m c t.val t.isLt).1 : S1024x1024.Idx → EReal) y
    = el (hRows m c) (wOf m c) (m (c, Proc.tc.devRef main_arg5)) (m (c, Proc.tc.devRef main_arg6))
        (row t.val (t_lt t) (y 0)) ⟨1024 * (t.val % 2) + (y 1).val, by have h : (y 1).val < 1024 := (y 1).isLt; omega⟩ := by
  refine (congrFun (block_eq m c t) y).trans ((outAt_tile (one (F := 𝕀)) _ _ _ _ (hRows m c) (wOf m c) _ _ (row t.val (t_lt t)) (t.val % 2) (Nat.mod_lt _ (by decide)) (fun _ _ => rfl)
    (fun d C => (blk_w m c t d C).trans (V_w m c d _)) (fun r l => (blk_cos m c t r l).trans (V_cos m c _ l)) (fun r l => (blk_sin m c t r l).trans (V_sin m c _ l)) y).trans ?_)
  rw [one_eq, mul_one]

theorem covers : (cfg0.win 7).Covers :=
  (cfg0.win 7).covers_of_index_surj rfl (by decide) fun β => by
    have h0 : (β 0).val < 16 := (β 0).isLt
    have h1 : (β 1).val < 2 := (β 1).isLt
    have ht : 2 * (β 0).val + (β 1).val < cfg0.N := lt_of_lt_of_eq (by omega) N_0.symm
    refine ⟨⟨_, ht⟩, fun a => ?_⟩
    rw [show (cfg0.win 7).index ⟨_, ht⟩ = _ from (idxs ⟨_, ht⟩).2.2.2.2.2.2.2]
    match a with
    | ⟨0, _⟩ => show (2 * (β 0).val + (β 1).val) / 2 = (β 0).val; omega
    | ⟨1, _⟩ => show (2 * (β 0).val + (β 1).val) % 2 = (β 1).val; omega

/-- The array after the run. -/
theorem out_array : (dats m 0 c).arrAt 7 cfg0.N
    = (fun i : S16384x2048.Idx => el (hRows m c) (wOf m c) (m (c, Proc.tc.devRef main_arg5)) (m (c, Proc.tc.devRef main_arg6)) (i 0) (i 1)) := by
  refine (dats m 0 c).arrAt_eq_of_covers 7 _ covers fun t hf y => ?_
  have e : (cfg0.win 7).index t = _ := (idxs t).2.2.2.2.2.2.2
  blk_simp
  rw [after0_7]
  refine (block_at m c t y).trans (el_congr _ _ _ _ (Fin.ext ?_) (Fin.ext ?_)) <;> blk_simp [e]
  · exact congrArg (· + (y 0).val) (Nat.mul_comm 1024 (t.val / 2))
  · exact congrArg (· + (y 1).val) (Nat.mul_comm 1024 (t.val % 2))

end Cert.KeyKernelIdeal.Val

namespace Cert.KeyReferenceIdeal.Val

open Cert.KeyReferenceIdeal Cert.KeyReferenceIdeal.Gen Cert.FinalKernelIdeal.Val Cert.Proj Cert.ProjRef
open Cert.InKernelIdeal.Val (hOf)
open Cert.InReferenceIdeal.Val (modded modded_at)
open Idealize.ShloMosaic Idealize.ShloMosaic.TcCoe Idealize.ShloMosaic.Tactic
open Idealize.SL.Sem

local notation "𝕀" => Idealize.ShloMosaic.Ideal

/-- The rows' product with the weights' first half. -/
def dotted (h : S2x8192x2048.Idx → EReal) (w : S2048x4096.Idx → EReal) : S2x8192x2048.Idx → EReal :=
  extractStridedSlice S2x8192x2048 ![0, 0, 0] (Host.dotGeneral (F := 𝕀) (φ₁ := .f32) (φ₂ := .f32) dot_S2x8192x2048_S2048x4096_S2x8192x4096_2_0_01_1_n_n none h w) slices_S2x8192x4096_S2x8192x2048_0_0_0

/-- The heads laid side by side. -/
def flat (q : S2x8192x8x2x128.Idx → EReal) : S16384x2048.Idx → EReal :=
  truncf (F := 𝕀) (φ := .f32) .bf16 (shapeCast S16384x2048 q shapeCasts_S2x8192x8x2x128_S16384x2048) bitsLt_bf16_f32

theorem dotted_at (h : S2x8192x2048.Idx → EReal) (w : S2048x4096.Idx → EReal) (R : Fin 16384) (C : Fin 2048) :
    rowOf (dotted h w) R C = ∑ d : Fin 2048, rowOf h R d * w (ix2 d ⟨C.val, by omega⟩) := by
  unfold rowOf
  pointwise [dotted]

/-- The reference's array. -/
theorem ref_array (x : S2x8192x2048.Idx → EReal) (g : S2048.Idx → EReal) (sh sc : S2x2048.Idx → EReal) (w : S2048x4096.Idx → EReal) (cs sn : S2x8192x64.Idx → EReal) :
    flat (rot (split (dotted (modded x g sh sc) w)) cs sn) = fun i => el (hOf x g sh sc) (fun d C => w (ix2 d ⟨C.val, by omega⟩)) cs sn (i 0) (i 1) := by
  funext i
  rw [eq_ix2 i]
  refine rot_el _ cs sn _ _ (fun R C => (dotted_at _ w R C).trans ?_) (i 0) (i 1)
  exact Finset.sum_congr rfl fun d _ => congrArg (· * w (ix2 d ⟨C.val, _⟩)) (modded_at x g sh sc R d)

end Cert.KeyReferenceIdeal.Val

namespace Cert.Proof

open Idealize.ShloMosaic Idealize.SL.Sem

/-- The call and the reference return the same array. -/
theorem algebraic_key : algebraic_KeyKernelIdeal_KeyReferenceIdeal (hKeyKernelIdeal := Cert.KeyKernelIdeal.Gen.facts) (hKeyReferenceIdeal := Cert.KeyReferenceIdeal.Gen.facts) := by
  intro m g m' g' _ ha
  refine ⟨_, Cert.KeyKernelIdeal.Value.run_blocks m g, ?_⟩
  refine (θ_run _ _ _).mono (fun r h c => ⟨(h c).1.trans ?_, (h c).2⟩) (Cert.KeyReferenceIdeal.Value.run m' g')
  obtain ⟨a0, a1, a2, a3, a4, a5, a6⟩ := ha c
  unfold Cert.KeyReferenceIdeal.Value.res_main_v40
  rw [a0, a1, a2, a3, a4, a5, a6]
  exact (Cert.KeyReferenceIdeal.Val.ref_array _ _ _ _ _ _ _).trans (Cert.KeyKernelIdeal.Val.out_array m c).symm

end Cert.Proof

end
-- ==== Proof.ValValue.lean ====
module

public import proofs.«01_k».proof.Defs
public import proofs.«01_k».proof.Proof.ProjValue
public import proofs.«01_k».proof.Proof.Gen.ValKernelIdeal.Value
public import proofs.«01_k».proof.Proof.Gen.ValReferenceIdeal
public import proofs.«01_k».proof.Proof.Gen.ValReferenceIdeal.Run

@[expose] public section

/-! The projection to the values: the array the call leaves, and the reference's, are one function of the arguments. -/

set_option maxRecDepth 16384

noncomputable section

namespace Cert.ValKernelIdeal.Val

open Cert.ValKernelIdeal Cert.ValKernelIdeal.Gen Cert.FinalKernelIdeal.Val Cert.Proj
open Cert.InKernelIdeal.Val (rows rAll wBlk hRow hOf readAt_all read_rows)
open Idealize.ShloMosaic Idealize.ShloMosaic.TcCoe Idealize.ShloMosaic.Tactic
open Idealize.SL.Sem

local notation "𝕀" => Idealize.ShloMosaic.Ideal

section
variable {F : FTy → Type} [FloatOps F]

/-- The one piece of the output's block: the product of the scratch, as loaded, with the weights. -/
abbrev whole (h : Vec F S1024x2048 .bf16) (w : Vec F S2048x1024 .bf16) : List (View.Piece (Elt F) S1024x1024 .bf16) :=
  [⟨Rect.unit (s := S1024x1024) ![0, 0] S1024x1024.size inb_S1024x1024_S1024x1024_0_0, k0_pay2 h w⟩]

variable {a2 : Memref sig .tc .vmem S1024x2048 .f32} {a3 : Memref sig .tc .vmem S1x2048 .f32} {a4 a5 : Memref sig .tc .vmem S1x1x2048 .f32}
  {a6 : Memref sig .tc .vmem S2048x1024 .bf16} {a7 : Memref sig .tc .vmem S1024x1024 .bf16} {a8 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole)
  (x0 : Vec F S1024x2048 .f32) (x1 : Vec F S1x2048 .f32) (x2 x3 : Vec F S1x1x2048 .f32) (x4 : Vec F S2048x1024 .bf16) (c : Dev nD) (i : grid0.Coords)

theorem first_rows (hc0) : (kernelRun0_A c i a2 h2 a3 h3 a4 h4 a5 h5 a6 h6 a7 h7 a8 h8 hc0 x0 x1 x2 x3 x4).2.1
    = rows h2 h3 h4 h5 x0 x1 x2 x3 := by sl_kernel_rfl

theorem first_whole (hc0) : (kernelRun0_A c i a2 h2 a3 h3 a4 h4 a5 h5 a6 h6 a7 h7 a8 h8 hc0 x0 x1 x2 x3 x4).1
    = whole (View.readCov a8.view (rows h2 h3 h4 h5 x0 x1 x2 x3) rAll) (wBlk h6 x4) := by sl_kernel_rfl

theorem later_whole (hc0) (s : Vec F S1024x2048 .bf16) : (kernelRun0_B c i a2 h2 a3 h3 a4 h4 a5 h5 a6 h6 a7 h7 a8 h8 hc0 x0 x1 x2 x3 x4 s).1
    = whole (View.readAt (Elt F) a8.view rAll (h8.unread s)) (wBlk h6 x4) := by sl_kernel_rfl

end

/-- The block of products at an element. -/
abbrev dotAt (h : S1024x2048.Idx → EReal) (w : S2048x1024.Idx → EReal) (i : S1024x1024.Idx) : EReal :=
  ∑ d : Fin 2048, h (ix2 (i 0) d) * w (ix2 d (i 1))

theorem pay_at (h : S1024x2048.Idx → EReal) (w : S2048x1024.Idx → EReal) (i : S1024x1024.Idx) : (k0_pay2 (F := 𝕀) h w : S1024x1024.Idx → EReal) i = dotAt h w i := by
  rw [eq_ix2 i]
  pointwise [k0_pay2]

/-- The one piece reads as the products. -/
theorem read_whole (v : View sig .tc .vmem S1024x1024 .bf16) (f) (L : List (View.Piece (Elt 𝕀) S1024x1024 .bf16)) (h : S1024x2048.Idx → EReal) (w : S2048x1024.Idx → EReal)
    (e : L = whole (F := 𝕀) h w) (hL : ∀ y : S1024x1024.Idx, ∃ p ∈ L, y ∈ p.1.set) : (v.read (Elt 𝕀) (v.writes (Elt 𝕀) f L) : S1024x1024.Idx → EReal) = dotAt h w := by
  subst e
  refine funext fun y => View.read_writes_apply_of_pieces _ _ (dotAt h w) _ (fun p hp x => ?_) y (hL y)
  obtain rfl := List.mem_singleton.mp hp
  refine (pay_at h w x).trans (congrArg (dotAt h w) ?_)
  blk_ext

attribute [local irreducible] kernelRun0_A kernelRun0_B outsAt0

section
variable {a2 : Memref sig .tc .vmem S1024x2048 .f32} {a3 : Memref sig .tc .vmem S1x2048 .f32} {a4 a5 : Memref sig .tc .vmem S1x1x2048 .f32}
  {a6 : Memref sig .tc .vmem S2048x1024 .bf16} {a7 : Memref sig .tc .vmem S1024x1024 .bf16} {a8 : Memref sig .tc .vmem S1024x2048 .bf16}
  (h2 : a2.IsWhole) (h3 : a3.IsWhole) (h4 : a4.IsWhole) (h5 : a5.IsWhole) (h6 : a6.IsWhole) (h7 : a7.IsWhole) (h8 : a8.IsWhole)
  (x0 : S1024x2048.Idx → EReal) (x1 : S1x2048.Idx → EReal) (x2 x3 : S1x1x2048.Idx → EReal) (x4 : S2048x1024.Idx → EReal)
  (c : Dev nD) (i : grid0.Coords)

/-- What a block's first point leaves in the scratch. -/
theorem sout_first (hc0) : (sout0_A_0 (F := 𝕀) c i a2 h2 a3 h3 a4 h4 a5 h5 a6 h6 a7 h7 a8 h8 hc0 x0 x1 x2 x3 x4 : S1024x2048.Idx → EReal) = hRow x0 x1 x2 x3 := by
  unfold sout0_A_0
  exact read_rows h2 h3 h4 h5 x0 x1 x2 x3 _ _ _ (first_rows ..) (scover0_A_0 (F := 𝕀) c i a2 h2 a3 h3 a4 h4 a5 h5 a6 h6 a7 h7 a8 h8 hc0 x0 x1 x2 x3 x4)

include h6 h7 x4 c in
/-- The scratch read back at the point that fills it. -/
theorem readCov_rows (h8 : a8.IsWhole) (hc0 : cond0_0 i) : (View.readCov (Val := Elt 𝕀) a8.view (rows (F := 𝕀) h2 h3 h4 h5 x0 x1 x2 x3) rAll : S1024x2048.Idx → EReal) = hRow x0 x1 x2 x3 := by
  refine (View.readAt_full (Val := Elt 𝕀) a8.view _ _).trans (read_rows h2 h3 h4 h5 x0 x1 x2 x3 _ _ _ rfl ?_)
  have hy := scover0_A_0 (F := 𝕀) c i a2 h2 a3 h3 a4 h4 a5 h5 a6 h6 a7 h7 a8 h8 hc0 x0 x1 x2 x3 x4
  exact first_rows (F := 𝕀) h2 h3 h4 h5 h6 h7 h8 x0 x1 x2 x3 x4 c i hc0 ▸ hy

/-- The block a block's first point stores. -/
theorem out_first (hc0) : (out0_A_5 (F := 𝕀) c i a2 h2 a3 h3 a4 h4 a5 h5 a6 h6 a7 h7 a8 h8 hc0 x0 x1 x2 x3 x4 : S1024x1024.Idx → EReal) = dotAt (hRow x0 x1 x2 x3) x4 := by
  unfold out0_A_5
  refine read_whole _ _ _ _ _ ((first_whole ..).trans ?_) (cover0_A_5 (F := 𝕀) c i a2 h2 a3 h3 a4 h4 a5 h5 a6 h6 a7 h7 a8 h8 hc0 x0 x1 x2 x3 x4)
  exact congrArg₂ (whole (F := 𝕀)) (readCov_rows h2 h3 h4 h5 h6 h7 x0 x1 x2 x3 x4 c i h8 hc0) (readAt_all h6 x4 _)

/-- The block a later point stores. -/
theorem out_later (hc0) (s : S1024x2048.Idx → EReal) : (out0_B_5 (F := 𝕀) c i a2 h2 a3 h3 a4 h4 a5 h5 a6 h6 a7 h7 a8 h8 hc0 x0 x1 x2 x3 x4 s : S1024x1024.Idx → EReal) = dotAt s x4 := by
  unfold out0_B_5
  refine read_whole _ _ _ _ _ ((later_whole ..).trans ?_) (cover0_B_5 (F := 𝕀) c i a2 h2 a3 h3 a4 h4 a5 h5 a6 h6 a7 h7 a8 h8 hc0 x0 x1 x2 x3 x4 s)
  exact congrArg₂ (whole (F := 𝕀)) (readAt_all h8 s _) (readAt_all h6 x4 _)

end

variable (m : (ℓ : Loc nD τ sig) → Buf (Elt 𝕀) ℓ) (c : Dev nD)

/-- The arrays the call reads. -/
theorem V_x (R : Fin 16384) (C : Fin 2048) : (V m c main_v0 : S16384x2048.Idx → EReal) (ix2 R C) = rowOf (m (c, Proc.tc.devRef main_arg0)) R C := by
  unfold V hostOps0; after_results
  pointwise
theorem V_g (C : Fin 2048) : (V m c main_v1 : S1x2048.Idx → EReal) (ix2 0 C) = (m (c, Proc.tc.devRef main_arg1) : S2048.Idx → EReal) (ix1 C) := by
  unfold V hostOps0; after_results
  pointwise
theorem V_sh (b : Fin 2) (C : Fin 2048) : (V m c main_v2 : S2x1x2048.Idx → EReal) (ix3 b 0 C) = (m (c, Proc.tc.devRef main_arg2) : S2x2048.Idx → EReal) (ix2 b C) := by
  unfold V hostOps0; after_results
  pointwise
theorem V_sc (b : Fin 2) (C : Fin 2048) : (V m c main_v3 : S2x1x2048.Idx → EReal) (ix3 b 0 C) = (m (c, Proc.tc.devRef main_arg3) : S2x2048.Idx → EReal) (ix2 b C) := by
  unfold V hostOps0; after_results
  pointwise
theorem V_w (k : Fin 2048) (C : Fin 4096) : (V m c main_v4 : S2048x4096.Idx → EReal) (ix2 k C) = (m (c, Proc.tc.devRef main_arg4) : S2048x4096.Idx → EReal) (ix2 k C) := by
  unfold V hostOps0; after_results
  pointwise
theorem idxs : ∀ t : Fin grid0.N, win0_0.index t = ![t.val / 2, 0] ∧ win0_1.index t = ![0, 0] ∧ win0_2.index t = ![t.val / 16, 0, 0]
    ∧ win0_3.index t = ![t.val / 16, 0, 0] ∧ win0_4.index t = ![0, t.val % 2 + 2] ∧ win0_5.index t = ![t.val / 2, t.val % 2] := by decide +kernel
theorem t_lt (t : Fin cfg0.N) : t.val < 32 := lt_of_lt_of_eq t.isLt N_0

/-- A row of a point's block of rows. -/
abbrev row (n : ℕ) (hn : n < 32) (r : Fin 1024) : Fin 16384 := ⟨1024 * (n / 2) + r.val, by omega⟩

/-- The blocks of a point. -/
theorem blk_x (t : Fin cfg0.N) (r : Fin 1024) (d : Fin 2048) : (iblk m c 0 t : S1024x2048.Idx → EReal) (ix2 r d)
    = (V m c main_v0 : S16384x2048.Idx → EReal) (ix2 (row t.val (t_lt t) r) d) := by
  have e : (cfg0.win 0).index t = _ := (idxs t).1
  blk_ext [iblk, e]
theorem blk_g (t : Fin cfg0.N) (C : Fin 2048) : (iblk m c 1 t : S1x2048.Idx → EReal) (ix2 0 C) = (V m c main_v1 : S1x2048.Idx → EReal) (ix2 0 C) := by
  have e : (cfg0.win 1).index t = _ := (idxs t).2.1
  blk_ext [iblk, e]
theorem blk_sh (t : Fin cfg0.N) (C : Fin 2048) : (iblk m c 2 t : S1x1x2048.Idx → EReal) (ix3 0 0 C) = (V m c main_v2 : S2x1x2048.Idx → EReal) (ix3 ⟨t.val / 16, by have := t_lt t; omega⟩ 0 C) := by
  have e : (cfg0.win 2).index t = _ := (idxs t).2.2.1
  blk_ext [iblk, e]
theorem blk_sc (t : Fin cfg0.N) (C : Fin 2048) : (iblk m c 3 t : S1x1x2048.Idx → EReal) (ix3 0 0 C) = (V m c main_v3 : S2x1x2048.Idx → EReal) (ix3 ⟨t.val / 16, by have := t_lt t; omega⟩ 0 C) := by
  have e : (cfg0.win 3).index t = _ := (idxs t).2.2.2.1
  blk_ext [iblk, e]
theorem blk_w (t : Fin cfg0.N) (d : Fin 2048) (C : Fin 1024) : (iblk m c 4 t : S2048x1024.Idx → EReal) (ix2 d C)
    = (V m c main_v4 : S2048x4096.Idx → EReal) (ix2 d ⟨1024 * (t.val % 2 + 2) + C.val, by omega⟩) := by
  have e : (cfg0.win 4).index t = _ := (idxs t).2.2.2.2.1
  blk_ext [iblk, e]
/-- The rows the arguments hold. -/
abbrev hRows : Fin 16384 → Fin 2048 → EReal :=
  hOf (m (c, Proc.tc.devRef main_arg0)) (m (c, Proc.tc.devRef main_arg1)) (m (c, Proc.tc.devRef main_arg2)) (m (c, Proc.tc.devRef main_arg3))

/-- The rows of the block a point belongs to. -/
abbrev rowsAt (n : ℕ) (hn : n < 32) (i : S1024x2048.Idx) : EReal := hRows m c (row n hn (i 0)) (i 1)

theorem hRow_blk (t : Fin cfg0.N) : hRow (iblk m c 0 t) (iblk m c 1 t) (iblk m c 2 t) (iblk m c 3 t) = rowsAt m c t.val (t_lt t) :=
  hRow_tile _ _ _ _ _ _ _ _ (row t.val (t_lt t)) ⟨t.val / 16, by have := t_lt t; omega⟩ (fun r => by show (1024 * (t.val / 2) + r.val) / 8192 = t.val / 16; omega)
    (fun r d => (blk_x m c t r d).trans (V_x m c _ d)) (fun d => (blk_g m c t d).trans (V_g m c d)) (fun d => (blk_sh m c t d).trans (V_sh m c _ d)) (fun d => (blk_sc m c t d).trans (V_sc m c _ d))

theorem scratch_A (t : Fin cfg0.N) (h0 : t.val % 2 = 0) : ((outsAt0 m c t.val t.isLt).2 : S1024x2048.Idx → EReal) = rowsAt m c t.val (t_lt t) :=
  (congrArg Prod.snd (outsAt0_A m c t h0)).trans ((sout_first (hs0_0 t) (hs0_1 t) (hs0_2 t) (hs0_3 t) (hs0_4 t) (hs0_5 t) (Memref.isWhole_whole cc0_scratch0) _ _ _ _ _ c (grid0.coords t) _).trans (hRow_blk m c t))

/-- A block's second point finds the rows its first left. -/
theorem scratch_B (t : Fin cfg0.N) (h0 : ¬t.val % 2 = 0) : ((outsAt0 m c (t.val - 1) (Nat.lt_of_le_of_lt (Nat.sub_le _ _) t.isLt)).2 : S1024x2048.Idx → EReal) = rowsAt m c t.val (t_lt t) := by
  have ht := t_lt t
  refine (scratch_A m c ⟨t.val - 1, Nat.lt_of_le_of_lt (Nat.sub_le _ _) t.isLt⟩ (by show (t.val - 1) % 2 = 0; omega)).trans (funext fun i => ?_)
  refine congrArg (fun R => hRows m c R (i 1)) (Fin.ext ?_)
  show 1024 * ((t.val - 1) / 2) + _ = 1024 * (t.val / 2) + _
  rw [show (t.val - 1) / 2 = t.val / 2 by omega]

/-- The block a point stores. -/
theorem block_eq (t : Fin cfg0.N) : ((outsAt0 m c t.val t.isLt).1 : S1024x1024.Idx → EReal) = dotAt (rowsAt m c t.val (t_lt t)) (iblk m c 4 t) := by
  by_cases h0 : t.val % 2 = 0
  · refine (congrArg Prod.fst (outsAt0_A m c t h0)).trans ((out_first (hs0_0 t) (hs0_1 t) (hs0_2 t) (hs0_3 t) (hs0_4 t) (hs0_5 t) (Memref.isWhole_whole cc0_scratch0) _ _ _ _ _ c (grid0.coords t) _).trans ?_)
    exact congrArg (fun h => dotAt h (iblk m c 4 t)) (hRow_blk m c t)
  · refine (congrArg Prod.fst (outsAt0_B m c t h0)).trans ((out_later (hs0_0 t) (hs0_1 t) (hs0_2 t) (hs0_3 t) (hs0_4 t) (hs0_5 t) (Memref.isWhole_whole cc0_scratch0) _ _ _ _ _ c (grid0.coords t) _ _).trans ?_)
    exact congrArg (fun h => dotAt h (iblk m c 4 t)) (scratch_B m c t h0)

/-- An entry of the values: the row's product with a column of the weights' second half. -/
def entry (h : Fin 16384 → Fin 2048 → EReal) (w : (⟨2, ![2048, 4096]⟩ : Shape).Idx → EReal) (R : Fin 16384) (C : Fin 2048) : EReal :=
  ∑ d : Fin 2048, h R d * w (ix2 d ⟨2048 + C.val, by omega⟩)

theorem entry_congr (h : Fin 16384 → Fin 2048 → EReal) (w : (⟨2, ![2048, 4096]⟩ : Shape).Idx → EReal) {R R' : Fin 16384} {C C' : Fin 2048} (hR : R = R') (hC : C = C') :
    entry h w R C = entry h w R' C' := by rw [hR, hC]

/-- The block a point stores, at an element. -/
theorem block_at (t : Fin cfg0.N) (y : S1024x1024.Idx) : ((outsAt0 m c t.val t.isLt).1 : S1024x1024.Idx → EReal) y
    = entry (hRows m c) (m (c, Proc.tc.devRef main_arg4)) (row t.val (t_lt t) (y 0)) ⟨1024 * (t.val % 2) + (y 1).val, by have h : (y 1).val < 1024 := (y 1).isLt; omega⟩ := by
  refine (congrFun (block_eq m c t) y).trans (Finset.sum_congr rfl fun d _ => congrArg₂ (· * ·) rfl ?_)
  refine (blk_w m c t d (y 1)).trans ((V_w m c d _).trans (congrArg (fun C => (m (c, Proc.tc.devRef main_arg4) : S2048x4096.Idx → EReal) (ix2 d C)) (Fin.ext ?_)))
  show 1024 * (t.val % 2 + 2) + (y 1).val = 2048 + (1024 * (t.val % 2) + (y 1).val)
  omega

theorem covers : (cfg0.win 5).Covers :=
  (cfg0.win 5).covers_of_index_surj rfl (by decide) fun β => by
    have h0 : (β 0).val < 16 := (β 0).isLt
    have h1 : (β 1).val < 2 := (β 1).isLt
    have ht : 2 * (β 0).val + (β 1).val < cfg0.N := lt_of_lt_of_eq (by omega) N_0.symm
    refine ⟨⟨_, ht⟩, fun a => ?_⟩
    rw [show (cfg0.win 5).index ⟨_, ht⟩ = _ from (idxs ⟨_, ht⟩).2.2.2.2.2]
    match a with
    | ⟨0, _⟩ => show (2 * (β 0).val + (β 1).val) / 2 = (β 0).val; omega
    | ⟨1, _⟩ => show (2 * (β 0).val + (β 1).val) % 2 = (β 1).val; omega

/-- The array after the run. -/
theorem out_array : (dats m 0 c).arrAt 5 cfg0.N
    = (fun i : S16384x2048.Idx => entry (hRows m c) (m (c, Proc.tc.devRef main_arg4)) (i 0) (i 1)) := by
  refine (dats m 0 c).arrAt_eq_of_covers 5 _ covers fun t hf y => ?_
  have e : (cfg0.win 5).index t = _ := (idxs t).2.2.2.2.2
  blk_simp
  rw [after0_5]
  refine (block_at m c t y).trans (entry_congr _ _ (Fin.ext ?_) (Fin.ext ?_)) <;> blk_simp [e]
  · exact congrArg (· + (y 0).val) (Nat.mul_comm 1024 (t.val / 2))
  · exact congrArg (· + (y 1).val) (Nat.mul_comm 1024 (t.val % 2))

end Cert.ValKernelIdeal.Val

namespace Cert.ValReferenceIdeal.Val

open Cert.ValReferenceIdeal Cert.ValReferenceIdeal.Gen Cert.FinalKernelIdeal.Val Cert.ValKernelIdeal.Val
open Cert.InKernelIdeal.Val (hOf)
open Cert.InReferenceIdeal.Val (modded modded_at)
open Idealize.ShloMosaic Idealize.ShloMosaic.TcCoe Idealize.ShloMosaic.Tactic
open Idealize.SL.Sem

local notation "𝕀" => Idealize.ShloMosaic.Ideal

/-- The rows' product with the weights' second half. -/
def proj (h : S2x8192x2048.Idx → EReal) (w : S2048x4096.Idx → EReal) : S16384x2048.Idx → EReal :=
  truncf (F := 𝕀) (φ := .f32) .bf16 (shapeCast S16384x2048 (extractStridedSlice S2x8192x2048 ![0, 0, 2048] (Host.dotGeneral (F := 𝕀) (φ₁ := .f32) (φ₂ := .f32) dot_S2x8192x2048_S2048x4096_S2x8192x4096_2_0_01_1_n_n none h w) slices_S2x8192x4096_S2x8192x2048_0_0_2048) shapeCasts_S2x8192x2048_S16384x2048) bitsLt_bf16_f32

theorem proj_at (h : S2x8192x2048.Idx → EReal) (w : S2048x4096.Idx → EReal) (R : Fin 16384) (C : Fin 2048) : proj h w (ix2 R C) = entry (rowOf h) w R C := by
  unfold entry rowOf
  pointwise [proj]

/-- The reference's array. -/
theorem ref_array (x : S2x8192x2048.Idx → EReal) (g : S2048.Idx → EReal) (sh sc : S2x2048.Idx → EReal) (w : S2048x4096.Idx → EReal) :
    proj (modded x g sh sc) w = fun i => entry (hOf x g sh sc) w (i 0) (i 1) := by
  funext i
  rw [eq_ix2 i]
  exact (proj_at _ w (i 0) (i 1)).trans (congrArg (fun h => entry h w (i 0) (i 1)) (funext fun R => funext fun d => modded_at x g sh sc R d))

end Cert.ValReferenceIdeal.Val

namespace Cert.Proof

open Idealize.ShloMosaic Idealize.SL.Sem

/-- The call and the reference return the same array. -/
theorem algebraic_val : algebraic_ValKernelIdeal_ValReferenceIdeal (hValKernelIdeal := Cert.ValKernelIdeal.Gen.facts) (hValReferenceIdeal := Cert.ValReferenceIdeal.Gen.facts) := by
  intro m g m' g' _ ha
  refine ⟨_, Cert.ValKernelIdeal.Value.run_blocks m g, ?_⟩
  refine (θ_run _ _ _).mono (fun r h c => ⟨(h c).1.trans ?_, (h c).2⟩) (Cert.ValReferenceIdeal.Value.run m' g')
  obtain ⟨a0, a1, a2, a3, a4⟩ := ha c
  rw [a0, a1, a2, a3, a4]
  exact (Cert.ValReferenceIdeal.Val.ref_array _ _ _ _ _).trans (Cert.ValKernelIdeal.Val.out_array m c).symm

end Cert.Proof

end
-- ==== Proof.RopeValue.lean ====
module

public import proofs.«01_k».proof.Defs
public import proofs.«01_k».proof.Proof.Gen.RopeKernelIdeal.Frame
public import proofs.«01_k».proof.Proof.Gen.RopeReferenceIdeal
public import proofs.«01_k».proof.Proof.Gen.RopeReferenceIdeal.Run
public import Idealize.ShloMosaic.Lib.Pointwise
public import Idealize.ShloMosaic.Lib.IdealHost
public import Idealize.ShloMosaic.Lib.Pipeline.ValueKit
public import Idealize.ShloMosaic.Lib.Pipeline.Covers

@[expose] public section

/-! The rotary tables: the two arrays the call leaves, and the reference's, are one function of the positions. -/

set_option maxRecDepth 16384

noncomputable section

namespace Cert.RopeKernelIdeal.Val

open Cert.RopeKernelIdeal Cert.RopeKernelIdeal.Gen
open Idealize.ShloMosaic Idealize.ShloMosaic.TcCoe Idealize.ShloMosaic.Tactic
open Idealize.SL.Sem

local notation "𝕀" => Idealize.ShloMosaic.Ideal

/-- The frequencies of the 64 pairs of lanes. -/
def freq : S64.Idx → EReal :=
  Host.powf (F := 𝕀) (φ := .f32) (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))

/-- The frequency of a lane: the second 64 lanes repeat the first. -/
def lane (f : S64.Idx → EReal) (C : Fin 128) : EReal := f (ix1 ⟨C.val % 64, Nat.mod_lt _ (by decide)⟩)

/-- The position of row `R` of the batches' rows one below the other. -/
abbrev posOf (p : S2x8192.Idx → BitVec 32) (R : Fin 16384) : BitVec 32 := p (ix2 ⟨R.val / 8192, by omega⟩ ⟨R.val % 8192, Nat.mod_lt _ (by decide)⟩)

/-- The entries of the two tables: the sine's are negated in the first 64 lanes. -/
def cosE (p : BitVec 32) (f : EReal) : EReal := Ideal.cos (FloatOps.sitofp (F := 𝕀) .f32 p * f)
def sinE (p : BitVec 32) (f : EReal) (C : Fin 128) : EReal :=
  if C.val < 64 then -Ideal.sin (FloatOps.sitofp (F := 𝕀) .f32 p * f) else Ideal.sin (FloatOps.sitofp (F := 𝕀) .f32 p * f)

variable (m : (ℓ : Loc nD τ sig) → Buf (Elt 𝕀) ℓ) (c : Dev nD)

/-- The arrays the call reads. -/
theorem V_p (R : Fin 16384) : (V m c main_v10 : S16384x1.Idx → BitVec 32) (ix2 R 0) = posOf (m (c, Proc.tc.devRef main_arg0)) R := by
  unfold V hostOps0; after_results
  pointwise

theorem twice_at (f : S64.Idx → EReal) (C : Fin 128) :
    (broadcastInDim S1x128 ![1] bcast_S128_S1x128_1 (concatenate S128 0 [⟨S64, f⟩, ⟨S64, f⟩] concatenates_S64_S64_S128_d0) : S1x128.Idx → EReal) (ix2 0 C) = lane f C := by
  unfold lane
  by_cases hC : C.val < 64
  · have e : C.val % 64 = C.val := by omega
    pointwise
    simp only [dif_pos hC, e]
  · have e : C.val % 64 = C.val - 64 := by omega
    pointwise
    simp only [dif_neg hC, e]

theorem V_f (C : Fin 128) : (V m c main_v12 : S1x128.Idx → EReal) (ix2 0 C) = lane freq C := by
  rw [← twice_at]
  unfold V hostOps0; after_results
  rfl

theorem idxs : ∀ t : Fin grid0.N, win0_0.index t = ![t.val, 0] ∧ win0_1.index t = ![0, 0] ∧ win0_2.index t = ![t.val, 0] ∧ win0_3.index t = ![t.val, 0] := by decide +kernel
theorem t_lt (t : Fin cfg0.N) : t.val < 16 := lt_of_lt_of_eq t.isLt N_0

/-- The blocks of a point. -/
theorem blk_p (t : Fin cfg0.N) (r : Fin 1024) : (iblk m c 0 t : S1024x1.Idx → BitVec 32) (ix2 r 0)
    = (V m c main_v10 : S16384x1.Idx → BitVec 32) (ix2 ⟨1024 * t.val + r.val, by have := t_lt t; omega⟩ 0) := by
  have e : (cfg0.win 0).index t = _ := (idxs t).1
  blk_ext [iblk, e]
theorem blk_f (t : Fin cfg0.N) (C : Fin 128) : (iblk m c 1 t : S1x128.Idx → EReal) (ix2 0 C) = (V m c main_v12 : S1x128.Idx → EReal) (ix2 0 C) := by
  have e : (cfg0.win 1).index t = _ := (idxs t).2.1
  blk_ext [iblk, e]

/-- Whether a lane's number is below 64, as a comparison of words. -/
theorem lt_word : ∀ C : Fin 128, IntOp.cmpi .slt (BitVec.ofNat 32 C.val) 64#32 = if C.val < 64 then 1#1 else 0#1 := by decide +kernel

/-- The stored blocks at an element. -/
theorem cos_at (p : S1024x1.Idx → BitVec 32) (f : S1x128.Idx → EReal) (r : Fin 1024) (C : Fin 128) :
    (k0_pay2 (F := 𝕀) p f : S1024x128.Idx → EReal) (ix2 r C) = cosE (p (ix2 r 0)) (f (ix2 0 C)) := by
  unfold cosE
  pointwise [k0_pay2, k0_pay1]
theorem sin_at (p : S1024x1.Idx → BitVec 32) (f : S1x128.Idx → EReal) (r : Fin 1024) (C : Fin 128) :
    (k0_pay3 (F := 𝕀) p f : S1024x128.Idx → EReal) (ix2 r C) = sinE (p (ix2 r 0)) (f (ix2 0 C)) C := by
  unfold sinE
  pointwise [k0_pay3, k0_pay1]
  rw [lt_word, zero_sub]
  by_cases hC : C.val < 64
  · rw [if_pos hC, if_pos hC]; rfl
  · rw [if_neg hC, if_neg hC]; rfl

theorem covers2 : (cfg0.win 2).Covers :=
  (cfg0.win 2).covers_of_index_surj rfl (by decide) fun β => by
    have h0 : (β 0).val < 16 := (β 0).isLt
    have h1 : (β 1).val < 1 := (β 1).isLt
    have ht : (β 0).val < cfg0.N := lt_of_lt_of_eq h0 N_0.symm
    refine ⟨⟨_, ht⟩, fun a => ?_⟩
    rw [show (cfg0.win 2).index ⟨_, ht⟩ = _ from (idxs ⟨_, ht⟩).2.2.1]
    match a with
    | ⟨0, _⟩ => rfl
    | ⟨1, _⟩ => show 0 = (β 1).val; omega
/-- The tables' blocks are indexed alike. -/
theorem covers3 : (cfg0.win 3).Covers := covers2

/-- The blocks a point stores, at an element. -/
theorem cosBlock_at (t : Fin cfg0.N) (r : Fin 1024) (C : Fin 128) : (out0_2 (F := 𝕀) (iblk m c 0 t) (iblk m c 1 t) : S1024x128.Idx → EReal) (ix2 r C)
    = cosE (posOf (m (c, Proc.tc.devRef main_arg0)) ⟨1024 * t.val + r.val, by have := t_lt t; omega⟩) (lane freq C) := by
  unfold out0_2
  rw [View.canon_unit_zero (funext fun a => by fin_cases a <;> rfl), View.ld_unit_zero (funext fun a => by fin_cases a <;> rfl), View.ld_unit_zero (funext fun a => by fin_cases a <;> rfl)]
  refine (cos_at _ _ r C).trans (congrArg₂ cosE ?_ ?_)
  · rw [blk_p, V_p]
  · rw [blk_f, V_f]
theorem sinBlock_at (t : Fin cfg0.N) (r : Fin 1024) (C : Fin 128) : (out0_3 (F := 𝕀) (iblk m c 0 t) (iblk m c 1 t) : S1024x128.Idx → EReal) (ix2 r C)
    = sinE (posOf (m (c, Proc.tc.devRef main_arg0)) ⟨1024 * t.val + r.val, by have := t_lt t; omega⟩) (lane freq C) C := by
  unfold out0_3
  rw [View.canon_unit_zero (funext fun a => by fin_cases a <;> rfl), View.ld_unit_zero (funext fun a => by fin_cases a <;> rfl), View.ld_unit_zero (funext fun a => by fin_cases a <;> rfl)]
  refine (sin_at _ _ r C).trans (congrArg₂ (fun a b => sinE a b C) ?_ ?_)
  · rw [blk_p, V_p]
  · rw [blk_f, V_f]

/-- The tables after the run. -/
theorem cos_array : (dats m 0 c).arrAt 2 cfg0.N
    = (fun i : S16384x128.Idx => cosE (posOf (m (c, Proc.tc.devRef main_arg0)) (i 0)) (lane freq (i 1))) := by
  refine (dats m 0 c).arrAt_eq_of_covers 2 _ covers2 fun t hf y => ?_
  have e : (cfg0.win 2).index t = _ := (idxs t).2.2.1
  blk_simp
  rw [after0_2]
  refine (congrArg (out0_2 (F := 𝕀) (iblk m c 0 t) (iblk m c 1 t) : S1024x128.Idx → EReal) (eq_ix2 y)).trans ((cosBlock_at m c t (y 0) (y 1)).trans ?_)
  refine congrArg₂ (fun R C => cosE (posOf (m (c, Proc.tc.devRef main_arg0)) R) (lane freq C)) (Fin.ext ?_) (Fin.ext ?_) <;> blk_simp [e]
  exact congrArg (· + (y 0).val) (Nat.mul_comm 1024 t.val)
theorem sin_array : (dats m 0 c).arrAt 3 cfg0.N
    = (fun i : S16384x128.Idx => sinE (posOf (m (c, Proc.tc.devRef main_arg0)) (i 0)) (lane freq (i 1)) (i 1)) := by
  refine (dats m 0 c).arrAt_eq_of_covers 3 _ covers3 fun t hf y => ?_
  have e : (cfg0.win 3).index t = _ := (idxs t).2.2.2
  blk_simp
  rw [after0_3]
  refine (congrArg (out0_3 (F := 𝕀) (iblk m c 0 t) (iblk m c 1 t) : S1024x128.Idx → EReal) (eq_ix2 y)).trans ((sinBlock_at m c t (y 0) (y 1)).trans ?_)
  refine congrArg₂ (fun R C => sinE (posOf (m (c, Proc.tc.devRef main_arg0)) R) (lane freq C) C) (Fin.ext ?_) (Fin.ext ?_) <;> blk_simp [e]
  exact congrArg (· + (y 0).val) (Nat.mul_comm 1024 t.val)

/-- The run, with the arrays it leaves. -/
theorem run_tables (g : Dev nD → PrngReg) : θ_run defs (onTc (τ := τ) (main (F := 𝕀))) ⟨m, fun _ => 0, g⟩ fun r => ∀ c : Dev nD,
      r.2.mem ((c.tc : Thread nD τ).loc main_v13_0) = (dats m 0 c).arrAt 2 cfg0.N
      ∧ r.2.mem ((c.tc : Thread nD τ).loc main_v13_1) = (dats m 0 c).arrAt 3 cfg0.N
      ∧ r.2.mem ((c.tc : Thread nD τ).loc main_arg0) = m ((c.tc : Thread nD τ).loc main_arg0) :=
  θ_run_and (run_main m g) (unchanged m g) |> (θ_run defs _ _).mono fun r h c => ⟨(h.1 c).1 2, (h.1 c).1 3, h.2 c⟩

end Cert.RopeKernelIdeal.Val

namespace Cert.RopeReferenceIdeal.Val

open Cert.RopeReferenceIdeal Cert.RopeReferenceIdeal.Gen Cert.RopeKernelIdeal.Val
open Idealize.ShloMosaic Idealize.ShloMosaic.TcCoe Idealize.ShloMosaic.Tactic
open Idealize.SL.Sem

local notation "𝕀" => Idealize.ShloMosaic.Ideal

/-- The angles, batch by batch. -/
def ang (p : S2x8192.Idx → BitVec 32) (f : S64.Idx → EReal) : S2x8192x64.Idx → EReal :=
  mulf (F := 𝕀) (φ := .f32) (broadcastInDim S2x8192x64 ![0, 1, 2] bcast_S2x8192x1_S2x8192x64_0_1_2 (broadcastInDim S2x8192x1 ![0, 1] bcast_S2x8192_S2x8192x1_0_1 (sitofp .f32 p))) (broadcastInDim S2x8192x64 ![0, 1, 2] bcast_S1x1x64_S2x8192x64_0_1_2 (broadcastInDim S1x1x64 ![2] bcast_S64_S1x1x64_2 f))

/-- Two halves of 64 lanes side by side, the batches' rows one below the other. -/
abbrev halves (a b : S2x8192x64.Idx → EReal) : S16384x128.Idx → EReal :=
  shapeCast S16384x128 (concatenate S2x8192x128 2 [⟨S2x8192x64, a⟩, ⟨S2x8192x64, b⟩] concatenates_S2x8192x64_S2x8192x64_S2x8192x128_d2) shapeCasts_S2x8192x128_S16384x128

theorem halves_at (a b : S2x8192x64.Idx → EReal) (R : Fin 16384) (C : Fin 128) :
    halves a b (ix2 R C) = (if C.val < 64 then a else b) (ix3 ⟨R.val / 8192, by omega⟩ ⟨R.val % 8192, Nat.mod_lt _ (by decide)⟩ ⟨C.val % 64, Nat.mod_lt _ (by decide)⟩) := by
  by_cases hC : C.val < 64
  · have e : C.val % 64 = C.val := by omega
    pointwise
    simp only [dif_pos hC, if_pos hC, e]
  · have e : C.val % 64 = C.val - 64 := by omega
    pointwise
    simp only [dif_neg hC, if_neg hC, e]

/-- The reference's tables at an element, -/
theorem cosRef_at (p : S2x8192.Idx → BitVec 32) (f : S64.Idx → EReal) (R : Fin 16384) (C : Fin 128) :
    halves (Host.cos (F := 𝕀) (φ := .f32) (ang p f)) (Host.cos (F := 𝕀) (φ := .f32) (ang p f)) (ix2 R C) = cosE (posOf p R) (lane f C) := by
  rw [halves_at, ite_self]
  unfold cosE lane
  pointwise [ang]
theorem sinRef_at (p : S2x8192.Idx → BitVec 32) (f : S64.Idx → EReal) (R : Fin 16384) (C : Fin 128) :
    halves (Host.negf (F := 𝕀) (φ := .f32) (Host.sin (F := 𝕀) (φ := .f32) (ang p f))) (Host.sin (F := 𝕀) (φ := .f32) (ang p f)) (ix2 R C) = sinE (posOf p R) (lane f C) C := by
  rw [halves_at]
  unfold sinE lane
  by_cases hC : C.val < 64
  · rw [if_pos hC, if_pos hC]
    pointwise [ang]
  · rw [if_neg hC, if_neg hC]
    pointwise [ang]

/-- and whole. -/
theorem ref_cos (p : S2x8192.Idx → BitVec 32) (f : S64.Idx → EReal) :
    halves (Host.cos (F := 𝕀) (φ := .f32) (ang p f)) (Host.cos (F := 𝕀) (φ := .f32) (ang p f)) = fun i => cosE (posOf p (i 0)) (lane f (i 1)) := by
  funext i
  rw [eq_ix2 i]
  exact cosRef_at p f (i 0) (i 1)
theorem ref_sin (p : S2x8192.Idx → BitVec 32) (f : S64.Idx → EReal) :
    halves (Host.negf (F := 𝕀) (φ := .f32) (Host.sin (F := 𝕀) (φ := .f32) (ang p f))) (Host.sin (F := 𝕀) (φ := .f32) (ang p f)) = fun i => sinE (posOf p (i 0)) (lane f (i 1)) (i 1) := by
  funext i
  rw [eq_ix2 i]
  exact sinRef_at p f (i 0) (i 1)

end Cert.RopeReferenceIdeal.Val

namespace Cert.Proof

open Idealize.ShloMosaic Idealize.SL.Sem

/-- The call and the reference return the same two arrays. -/
theorem algebraic_rope : algebraic_RopeKernelIdeal_RopeReferenceIdeal (hRopeKernelIdeal := Cert.RopeKernelIdeal.Gen.facts) (hRopeReferenceIdeal := Cert.RopeReferenceIdeal.Gen.facts) := by
  intro m g m' g' _ ha
  refine ⟨_, _, Cert.RopeKernelIdeal.Val.run_tables m g, ?_⟩
  refine (θ_run _ _ _).mono (fun r h c => ⟨(h c).1.trans ?_, (h c).2.1.trans ?_, (h c).2.2⟩) (Cert.RopeReferenceIdeal.Value.run m' g')
  · rw [ha c]
    exact (Cert.RopeReferenceIdeal.Val.ref_cos _ Cert.RopeKernelIdeal.Val.freq).trans (Cert.RopeKernelIdeal.Val.cos_array m c).symm
  · rw [ha c]
    exact (Cert.RopeReferenceIdeal.Val.ref_sin _ Cert.RopeKernelIdeal.Val.freq).trans (Cert.RopeKernelIdeal.Val.sin_array m c).symm

end Cert.Proof

end
-- ==== Proof.ModValue.lean ====
module

public import proofs.«01_k».proof.Defs
public import proofs.«01_k».proof.Proof.Finite
public import proofs.«01_k».proof.Proof.Gen.Pre_finite_mod
public import proofs.«01_k».proof.Proof.Gen.ModKernelIdeal.Frame
public import proofs.«01_k».proof.Proof.Gen.ModReferenceIdeal
public import proofs.«01_k».proof.Proof.Gen.ModReferenceIdeal.Run
public import Idealize.ShloMosaic.Lib.Pointwise
public import Idealize.ShloMosaic.Lib.IdealHost
public import Idealize.ShloMosaic.Lib.Pipeline.ValueKit
public import Idealize.ShloMosaic.Lib.Pipeline.Covers

@[expose] public section

/-! The modulation network: the array the program returns, and the reference's, are one function of the arguments. -/

set_option maxRecDepth 16384

noncomputable section

namespace Cert.ModKernelIdeal.Val

open Cert.ModKernelIdeal Cert.ModKernelIdeal.Gen
open Idealize.ShloMosaic Idealize.ShloMosaic.TcCoe Idealize.ShloMosaic.Tactic
open Idealize.SL.Sem

local notation "𝕀" => Idealize.ShloMosaic.Ideal

/-- The activation. -/
def sil (x : EReal) : EReal := x * Ideal.logistic x

/-- The sum of products as the kernel takes it: each factor split into itself and what is left of it. -/
def sum3 {n : ℕ} (a b : Fin n → EReal) : EReal := ∑ d, a d * b d + (∑ d, a d * (b d - b d) + ∑ d, (a d - a d) * b d)

/-- Of real numbers nothing is left. -/
theorem sum3_eq {n : ℕ} (a b : Fin n → EReal) (ha : ∀ d, a d = ((a d).toReal : EReal)) (hb : ∀ d, b d = ((b d).toReal : EReal)) : sum3 a b = ∑ d, a d * b d := by
  have z : ∀ x : EReal, x = (x.toReal : EReal) → x - x = 0 := fun x h => by rw [h, ← EReal.coe_sub, sub_self, EReal.coe_zero]
  unfold sum3
  simp only [fun d => z _ (ha d), fun d => z _ (hb d), mul_zero, zero_mul, Finset.sum_const_zero, add_zero]

/-- The activation of a real number is one. -/
theorem sil_real (x : EReal) (h : x = (x.toReal : EReal)) : sil x = ((sil x).toReal : EReal) := by
  rw [h]
  unfold sil
  rw [Ideal.logistic_coe, ← EReal.coe_mul, EReal.toReal_coe]

variable (m : (ℓ : Loc nD τ sig) → Buf (Elt 𝕀) ℓ) (c : Dev nD)

/-- The arrays the call reads. -/
theorem V_c (b : Fin 2) (d : Fin 2048) : (V m c main_v0 : S8x2048.Idx → EReal) (ix2 ⟨b.val, by omega⟩ d) = (m (c, Proc.tc.devRef main_arg0) : S2x2048.Idx → EReal) (ix2 b d) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise
theorem V_w (l : Fin 4) (d : Fin 2048) (C : Fin 12288) : (V m c main_arg1 : S4x2048x12288.Idx → EReal) (ix3 l d C) = (m (c, Proc.tc.devRef main_arg1) : S4x2048x12288.Idx → EReal) (ix3 l d C) :=
  congrFun (V_main_arg1 m c) _
theorem V_b (l : Fin 4) (C : Fin 12288) : (V m c main_v1 : S4x1x12288.Idx → EReal) (ix3 l 0 C) = (m (c, Proc.tc.devRef main_arg2) : S4x12288.Idx → EReal) (ix2 l C) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem idxs : ∀ t : Fin grid0.N, win0_0.index t = ![0, 0] ∧ win0_1.index t = ![t.val / 12, 0, t.val % 12] ∧ win0_2.index t = ![t.val / 12, 0, t.val % 12]
    ∧ win0_3.index t = ![t.val / 12, 0, t.val % 12] := by decide +kernel
theorem t_lt (t : Fin cfg0.N) : t.val < 48 := lt_of_lt_of_eq t.isLt N_0

/-- The layer and the first column of a point. -/
abbrev lay (t : Fin cfg0.N) : Fin 4 := ⟨t.val / 12, by have := t_lt t; omega⟩
abbrev col (t : Fin cfg0.N) (C : Fin 1024) : Fin 12288 := ⟨1024 * (t.val % 12) + C.val, by omega⟩

/-- The blocks of a point. -/
theorem blk_c (t : Fin cfg0.N) (r : Fin 8) (d : Fin 2048) : (iblk m c 0 t : S8x2048.Idx → EReal) (ix2 r d) = (V m c main_v0 : S8x2048.Idx → EReal) (ix2 r d) := by
  have e : (cfg0.win 0).index t = _ := (idxs t).1
  blk_ext [iblk, e]
theorem blk_w (t : Fin cfg0.N) (d : Fin 2048) (C : Fin 1024) : (iblk m c 1 t : S1x2048x1024.Idx → EReal) (ix3 0 d C)
    = (V m c main_arg1 : S4x2048x12288.Idx → EReal) (ix3 (lay t) d (col t C)) := by
  have e : (cfg0.win 1).index t = _ := (idxs t).2.1
  blk_ext [iblk, e]
theorem blk_b (t : Fin cfg0.N) (C : Fin 1024) : (iblk m c 2 t : S1x1x1024.Idx → EReal) (ix3 0 0 C)
    = (V m c main_v1 : S4x1x12288.Idx → EReal) (ix3 (lay t) 0 (col t C)) := by
  have e : (cfg0.win 2).index t = _ := (idxs t).2.2.1
  blk_ext [iblk, e]

/-- The stored block at an element. -/
theorem pay_at (p : S8x2048.Idx → EReal) (w : S1x2048x1024.Idx → EReal) (b : S1x1x1024.Idx → EReal) (r : Fin 8) (C : Fin 1024) :
    (k0_pay1 (F := 𝕀) p w b : S1x8x1024.Idx → EReal) (ix3 0 r C) = sum3 (fun d => sil (p (ix2 r d))) (fun d => w (ix3 0 d C)) + b (ix3 0 0 C) := by
  unfold sum3 sil Ideal.logistic
  pointwise [k0_pay1]
  simp only [zero_sub]

theorem covers : (cfg0.win 3).Covers :=
  (cfg0.win 3).covers_of_index_surj rfl (by decide) fun β => by
    have h0 : (β 0).val < 4 := (β 0).isLt
    have h1 : (β 1).val < 1 := (β 1).isLt
    have h2 : (β 2).val < 12 := (β 2).isLt
    have ht : 12 * (β 0).val + (β 2).val < cfg0.N := lt_of_lt_of_eq (by omega : _ < 48) N_0.symm
    refine ⟨⟨_, ht⟩, fun a => ?_⟩
    rw [show (cfg0.win 3).index ⟨_, ht⟩ = _ from (idxs ⟨_, ht⟩).2.2.2]
    match a with
    | ⟨0, _⟩ => show (12 * (β 0).val + (β 2).val) / 12 = (β 0).val; omega
    | ⟨1, _⟩ => show 0 = (β 1).val; omega
    | ⟨2, _⟩ => show (12 * (β 0).val + (β 2).val) % 12 = (β 2).val; omega

/-- An element of the array the call leaves, from the arrays it reads. -/
def elem (p : S8x2048.Idx → EReal) (w : S4x2048x12288.Idx → EReal) (b : S4x1x12288.Idx → EReal) (l : Fin 4) (r : Fin 8) (C : Fin 12288) : EReal :=
  sum3 (fun d => sil (p (ix2 r d))) (fun d => w (ix3 l d C)) + b (ix3 l 0 C)

/-- The block a point stores, at an element. -/
theorem block_at (t : Fin cfg0.N) (r : Fin 8) (C : Fin 1024) : (out0_3 (F := 𝕀) (iblk m c 0 t) (iblk m c 1 t) (iblk m c 2 t) : S1x8x1024.Idx → EReal) (ix3 0 r C)
    = elem (V m c main_v0) (V m c main_arg1) (V m c main_v1) (lay t) r (col t C) := by
  unfold out0_3 elem
  rw [View.canon_unit_zero (funext fun a => by fin_cases a <;> rfl), View.ld_unit_zero (funext fun a => by fin_cases a <;> rfl), View.ld_unit_zero (funext fun a => by fin_cases a <;> rfl),
    View.ld_unit_zero (funext fun a => by fin_cases a <;> rfl)]
  refine (pay_at _ _ _ r C).trans (congrArg₂ (· + ·) (congrArg₂ sum3 (funext fun d => ?_) (funext fun d => ?_)) ?_)
  · rw [blk_c]
  · rw [blk_w]
  · rw [blk_b]

/-- The array after the run. -/
theorem out_array : (dats m 0 c).arrAt 3 cfg0.N
    = (fun i : S4x8x12288.Idx => elem (V m c main_v0) (V m c main_arg1) (V m c main_v1) (i 0) (i 1) (i 2)) := by
  refine (dats m 0 c).arrAt_eq_of_covers 3 _ covers fun t hf y => ?_
  have e : (cfg0.win 3).index t = _ := (idxs t).2.2.2
  have y0 : (y 0).val = 0 := by have h : (y 0).val < 1 := (y 0).isLt; omega
  have ey : y = (ix3 0 (y 1) (y 2) : S1x8x1024.Idx) := funext fun a => by
    match a with
    | ⟨0, _⟩ => exact Fin.ext y0
    | ⟨1, _⟩ => rfl
    | ⟨2, _⟩ => rfl
  blk_simp
  rw [after0_3]
  refine (congrArg (out0_3 (F := 𝕀) (iblk m c 0 t) (iblk m c 1 t) (iblk m c 2 t) : S1x8x1024.Idx → EReal) ey).trans ((block_at m c t (y 1) (y 2)).trans ?_)
  have key : ∀ (l l' : Fin 4) (r r' : Fin 8) (C C' : Fin 12288), l = l' → r = r' → C = C' →
      elem (V m c main_v0) (V m c main_arg1) (V m c main_v1) l r C = elem (V m c main_v0) (V m c main_arg1) (V m c main_v1) l' r' C' := by
    rintro _ _ _ _ _ _ rfl rfl rfl; rfl
  refine key _ _ _ _ _ _ (Fin.ext ?_) (Fin.ext ?_) (Fin.ext ?_) <;> blk_simp [e]
  exact congrArg (· + (y 2).val) (Nat.mul_comm 1024 (t.val % 12))

/-- An element of the result: a batch's activations by a column of a layer's weights, and the bias. -/
def mods (x : S2x2048.Idx → EReal) (w : S4x2048x12288.Idx → EReal) (b : S4x12288.Idx → EReal) (l : Fin 4) (r : Fin 2) (C : Fin 12288) : EReal :=
  (∑ d : Fin 2048, sil (x (ix2 r d)) * w (ix3 l d C)) + b (ix2 l C)

/-- Of the array the call leaves, the first two rows of a layer, where the arguments are real. -/
theorem elem_real (hx : ∀ i, (m (c, Proc.tc.devRef main_arg0) : S2x2048.Idx → EReal) i = (((m (c, Proc.tc.devRef main_arg0) : S2x2048.Idx → EReal) i).toReal : EReal))
    (hw : ∀ i, (m (c, Proc.tc.devRef main_arg1) : S4x2048x12288.Idx → EReal) i = (((m (c, Proc.tc.devRef main_arg1) : S4x2048x12288.Idx → EReal) i).toReal : EReal))
    (l : Fin 4) (r : Fin 2) (C : Fin 12288) : elem (V m c main_v0) (V m c main_arg1) (V m c main_v1) l ⟨r.val, by omega⟩ C
      = mods (m (c, Proc.tc.devRef main_arg0)) (m (c, Proc.tc.devRef main_arg1)) (m (c, Proc.tc.devRef main_arg2)) l r C := by
  unfold elem mods
  rw [V_b, funext fun d => congrArg sil (V_c m c r d), funext fun d => V_w m c l d C, sum3_eq _ _ (fun d => sil_real _ (hx _)) fun d => hw _]

/-- The result: the first two rows of each layer of the array the call leaves. -/
theorem tail : Pipeline.afterTail₀ cfgs (dats m) 0 (V0 m) [hostOps1] c main_v3
    = extractStridedSlice S4x2x12288 ![0, 0, 0] ((dats m 0 c).arrAt 3 cfg0.N : S4x8x12288.Idx → EReal) slices_S4x8x12288_S4x2x12288_0_0_0 := by
  unfold Pipeline.afterTail₀
  simp only [hostOps1, List.flatten_cons, List.flatten_nil, List.append_nil]
  after_results
  exact congrArg (fun a : S4x8x12288.Idx → EReal => extractStridedSlice S4x2x12288 ![0, 0, 0] a slices_S4x8x12288_S4x2x12288_0_0_0)
    (Pipeline.withArrays_arr spec0 (by decide) c (V0 m c) (fun w => (dats m 0 c).arrAt w cfg0.N) 3)

/-- The run, with the array it returns. -/
theorem run_mods (g : Dev nD → PrngReg) : θ_run defs (onTc (τ := τ) (main (F := 𝕀))) ⟨m, fun _ => 0, g⟩ fun r => ∀ c : Dev nD,
      r.2.mem ((c.tc : Thread nD τ).loc main_v3) = extractStridedSlice S4x2x12288 ![0, 0, 0] ((dats m 0 c).arrAt 3 cfg0.N : S4x8x12288.Idx → EReal) slices_S4x8x12288_S4x2x12288_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_and (run_main m g) (unchanged m g) |> (θ_run defs _ _).mono fun r h c =>
    ⟨((h.1 c).2 main_v3 (Pipeline.mem_restRefs_of main_v3 (by decide) (by decide))).trans (tail m c), h.2 c⟩

/-- The array the program returns. -/
theorem result (hx : ∀ i, (m (c, Proc.tc.devRef main_arg0) : S2x2048.Idx → EReal) i = (((m (c, Proc.tc.devRef main_arg0) : S2x2048.Idx → EReal) i).toReal : EReal))
    (hw : ∀ i, (m (c, Proc.tc.devRef main_arg1) : S4x2048x12288.Idx → EReal) i = (((m (c, Proc.tc.devRef main_arg1) : S4x2048x12288.Idx → EReal) i).toReal : EReal)) :
    extractStridedSlice S4x2x12288 ![0, 0, 0] ((dats m 0 c).arrAt 3 cfg0.N : S4x8x12288.Idx → EReal) slices_S4x8x12288_S4x2x12288_0_0_0
      = fun i => mods (m (c, Proc.tc.devRef main_arg0)) (m (c, Proc.tc.devRef main_arg1)) (m (c, Proc.tc.devRef main_arg2)) (i 0) (i 1) (i 2) := by
  rw [out_array]
  have key : ∀ (l : Fin 4) (r : Fin 2) (C : Fin 12288), extractStridedSlice S4x2x12288 ![0, 0, 0] (fun i : S4x8x12288.Idx => elem (V m c main_v0) (V m c main_arg1) (V m c main_v1) (i 0) (i 1) (i 2))
      slices_S4x8x12288_S4x2x12288_0_0_0 (ix3 l r C) = elem (V m c main_v0) (V m c main_arg1) (V m c main_v1) l ⟨r.val, by omega⟩ C := fun l r C => by
    generalize V m c main_v0 = p
    generalize V m c main_arg1 = w
    generalize V m c main_v1 = b
    pointwise
  funext i
  rw [eq_ix3 i]
  exact (key (i 0) (i 1) (i 2)).trans (elem_real m c hx hw (i 0) (i 1) (i 2))

end Cert.ModKernelIdeal.Val

namespace Cert.ModReferenceIdeal.Val

open Cert.ModReferenceIdeal Cert.ModReferenceIdeal.Gen Cert.ModKernelIdeal.Val
open Idealize.ShloMosaic Idealize.ShloMosaic.TcCoe Idealize.ShloMosaic.Tactic
open Idealize.SL.Sem

local notation "𝕀" => Idealize.ShloMosaic.Ideal

/-- The reference's activations, -/
abbrev act (x : S2x2048.Idx → EReal) : S2x2048.Idx → EReal :=
  mulf (F := 𝕀) (φ := .f32) x (Host.divf (broadcastInDim S2x2048 ![] bcast_S_S2x2048 (constant S_ .f32 0x3F800000#32)) (addf (broadcastInDim S2x2048 ![] bcast_S_S2x2048 (constant S_ .f32 0x3F800000#32)) (Host.exp (Host.negf x))))

/-- and its array. -/
def ref (x : S2x2048.Idx → EReal) (w : S4x2048x12288.Idx → EReal) (b : S4x12288.Idx → EReal) : S4x2x12288.Idx → EReal :=
  addf (F := 𝕀) (φ := .f32) (transpose S4x2x12288 [0, 2, 1] (Host.dotGeneral (φ₁ := .f32) (φ₂ := .f32) dot_S4x2048x12288_S2x2048_S4x12288x2_1_1_02_0_n_n none w (act x)) transposes_S4x12288x2_S4x2x12288_0_2_1)
    (broadcastInDim S4x2x12288 ![0, 1, 2] bcast_S4x1x12288_S4x2x12288_0_1_2 (broadcastInDim S4x1x12288 ![0, 2] bcast_S4x12288_S4x1x12288_0_2 b))

theorem ref_at (x : S2x2048.Idx → EReal) (w : S4x2048x12288.Idx → EReal) (b : S4x12288.Idx → EReal) (l : Fin 4) (r : Fin 2) (C : Fin 12288) :
    ref x w b (ix3 l r C) = mods x w b l r C := by
  unfold mods sil Ideal.logistic
  simp only [mul_comm _ (w _)]
  pointwise [ref, act]

theorem ref_array (x : S2x2048.Idx → EReal) (w : S4x2048x12288.Idx → EReal) (b : S4x12288.Idx → EReal) : ref x w b = fun i => mods x w b (i 0) (i 1) (i 2) := by
  funext i
  rw [eq_ix3 i]
  exact ref_at x w b (i 0) (i 1) (i 2)

end Cert.ModReferenceIdeal.Val

namespace Cert.Finite.Mod

open Idealize.ShloMosaic Cert.Pre_finite_mod Cert.Pre_finite_mod.Gen

local notation "𝕀" => Idealize.ShloMosaic.Ideal

/-- What the precondition says: the first two arrays' entries are real numbers. -/
theorem entries (x0 : S2x2048.Idx → EReal) (x1 : S4x2048x12288.Idx → EReal) (x2 : S4x12288.Idx → EReal)
    (h : Cert.Pre_finite_mod.fn (F := 𝕀) x0 x1 x2 = fun _ => 1#1) :
    (∀ i, x0 i = (((x0 i).toReal : ℝ) : EReal)) ∧ ∀ i, x1 i = (((x1 i).toReal : ℝ) : EReal) := by
  have e := congrFun h ix0
  unfold Cert.Pre_finite_mod.fn at e
  dsimp only at e
  obtain ⟨e0, e1⟩ := (andi_one _ _).mp e
  exact ⟨fun i => real_of_lt x0 _ i (all_of_reduce _ _ (fun _ => rfl) _ _ _ e0 i),
    fun i => real_of_lt x1 _ i (all_of_reduce _ _ (fun _ => rfl) _ _ _ e1 i)⟩

end Cert.Finite.Mod

namespace Cert.Proof

open Idealize.ShloMosaic Idealize.SL.Sem

/-- The program and the reference return the same array. -/
theorem algebraic_mod : algebraic_ModKernelIdeal_ModReferenceIdeal_pre_finite_mod (hModKernelIdeal := Cert.ModKernelIdeal.Gen.facts) (hModReferenceIdeal := Cert.ModReferenceIdeal.Gen.facts) (hPre_finite_mod := Cert.Pre_finite_mod.Gen.facts) := by
  intro m g m' g' hp ha
  refine ⟨_, Cert.ModKernelIdeal.Val.run_mods m g, ?_⟩
  refine (θ_run _ _ _).mono (fun r h c => ⟨(h c).1.trans ?_, (h c).2⟩) (Cert.ModReferenceIdeal.Value.run m' g')
  obtain ⟨a0, a1, a2⟩ := ha c
  obtain ⟨hx, hw⟩ := Cert.Finite.Mod.entries _ _ _ (hp c)
  rw [a0, a1, a2]
  exact (Cert.ModReferenceIdeal.Val.ref_array _ _ _).trans (Cert.ModKernelIdeal.Val.result m c hx hw).symm

end Cert.Proof

end
-- ==== Proof.GateValue.lean ====
module

public import proofs.«01_k».proof.Defs
public import proofs.«01_k».proof.Proof.Finite
public import proofs.«01_k».proof.Proof.InValue
public import proofs.«01_k».proof.Proof.ModValue
public import proofs.«01_k».proof.Proof.Gen.Pre_finite_ab
public import proofs.«01_k».proof.Proof.Gen.GateKernelIdeal.Frame
public import proofs.«01_k».proof.Proof.Gen.GateReferenceIdeal
public import proofs.«01_k».proof.Proof.Gen.GateReferenceIdeal.Run

@[expose] public section

/-! The projection to the gates: the array the program returns, and the reference's, are one function of the arguments. -/

set_option maxRecDepth 16384

noncomputable section

namespace Cert.GateKernelIdeal.Val

open Cert.GateKernelIdeal Cert.GateKernelIdeal.Gen Cert.FinalKernelIdeal.Val
open Cert.InKernelIdeal.Val (modu hOf)
open Cert.ModKernelIdeal.Val (sum3 sum3_eq)
open Idealize.ShloMosaic Idealize.ShloMosaic.TcCoe Idealize.ShloMosaic.Tactic
open Idealize.SL.Sem

local notation "𝕀" => Idealize.ShloMosaic.Ideal

/-- A number is real, as products and sums of real numbers are. -/
abbrev IsReal (x : EReal) : Prop := x = (x.toReal : EReal)

theorem real_mul {x y : EReal} (hx : IsReal x) (hy : IsReal y) : IsReal (x * y) := by
  rw [hx, hy, ← EReal.coe_mul, IsReal, EReal.toReal_coe]
theorem real_add {x y : EReal} (hx : IsReal x) (hy : IsReal y) : IsReal (x + y) := by
  rw [hx, hy, ← EReal.coe_add, IsReal, EReal.toReal_coe]
theorem real_of_ne {x : EReal} (ht : x ≠ ⊤) (hb : x ≠ ⊥) : IsReal x := (EReal.coe_toReal ht hb).symm

/-- Squares, which say whether a number is real. -/
theorem sq_nonneg' (x : EReal) : 0 ≤ x * x := by
  induction x with
  | bot => simp
  | top => simp
  | coe r => exact_mod_cast mul_self_nonneg r

theorem real_of_sq {x : EReal} (h : x * x ≠ ⊤) : IsReal x :=
  real_of_ne (by rintro rfl; exact h (by simp)) (by rintro rfl; exact h (by simp))

/-- The constants of the normalisation. -/
theorem dim_eq : (Idealize.ShloMosaic.Ideal.ofBits .f32 0x45000000#32 : EReal) = ((2048 : ℝ) : EReal) := by
  simp [Ideal.ofBits, Ideal.ieee]
  rw [← EReal.coe_mul]
  norm_num
theorem eps_eq : ∃ e : ℝ, 0 < e ∧ (Idealize.ShloMosaic.Ideal.ofBits .f32 0x358637BD#32 : EReal) = (e : EReal) := by
  simp [Ideal.ofBits, Ideal.ieee]
  exact ⟨_, by positivity, (EReal.coe_mul _ _).symm⟩
theorem one_real : IsReal (Idealize.ShloMosaic.Ideal.ofBits .f32 0x3F800000#32) := by
  simp [Ideal.ofBits, Ideal.ieee]
  rw [← EReal.coe_mul, IsReal, EReal.toReal_coe]

/-- A row's normalised entries are real where its gain is, whatever the row: of a row with an infinite entry they are zero. -/
theorem nrm_real (row g : Fin 2048 → EReal) (hg : ∀ d, IsReal (g d)) (C : Fin 2048) : IsReal (nrm row g C) := by
  obtain ⟨e, he, ee⟩ := eps_eq
  refine real_mul ?_ (hg C)
  rw [dim_eq, ee, Ideal.div_coe (by norm_num)]
  have nn : 0 ≤ ∑ d : Fin 2048, row d * row d := Finset.sum_nonneg fun d _ => sq_nonneg' _
  have le : row C * row C ≤ ∑ d : Fin 2048, row d * row d := Finset.single_le_sum (f := fun d => row d * row d) (fun d _ => sq_nonneg' _) (Finset.mem_univ C)
  generalize (∑ d : Fin 2048, row d * row d) = S at nn le ⊢
  induction S with
  | bot => exact absurd nn (by simp)
  | top =>
    rw [EReal.top_mul_coe_of_pos (by norm_num), EReal.top_add_coe, Ideal.rsqrt_top, mul_zero]
    simp [IsReal]
  | coe s =>
    have hs : 0 ≤ s := by exact_mod_cast nn
    refine real_mul (real_of_sq fun h => by rw [h] at le; exact absurd le (by simp)) ?_
    have hp : 0 < s * (1 / 2048) + e := by positivity
    rw [← EReal.coe_mul, ← EReal.coe_add, Ideal.rsqrt_coe, if_neg hp.not_gt, if_neg hp.ne', IsReal, EReal.toReal_coe]

/-- So are the modulated ones, where the shift and the scale are. -/
theorem modu_real (row g sh sc : Fin 2048 → EReal) (hg : ∀ d, IsReal (g d)) (hsh : ∀ d, IsReal (sh d)) (hsc : ∀ d, IsReal (sc d)) (d : Fin 2048) : IsReal (modu row g sh sc d) :=
  real_add (real_mul (nrm_real row g hg d) (real_add one_real (hsc d))) (hsh d)

variable (m : (ℓ : Loc nD τ sig) → Buf (Elt 𝕀) ℓ) (c : Dev nD)

/-- The arrays the call reads. -/
theorem V_x (R : Fin 16384) (C : Fin 2048) : (V m c main_v2 : S16384x2048.Idx → EReal) (ix2 R C) = rowOf (m (c, Proc.tc.devRef main_arg0)) R C := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise
theorem V_g (C : Fin 2048) : (V m c main_v3 : S1x2048.Idx → EReal) (ix2 0 C) = (m (c, Proc.tc.devRef main_arg1) : S2048.Idx → EReal) (ix1 C) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise
theorem V_sh (b : Fin 2) (C : Fin 2048) : (V m c main_v4 : S2x1x2048.Idx → EReal) (ix3 b 0 C) = (m (c, Proc.tc.devRef main_arg2) : S2x2048.Idx → EReal) (ix2 b C) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise
theorem V_sc (b : Fin 2) (C : Fin 2048) : (V m c main_v5 : S2x1x2048.Idx → EReal) (ix3 b 0 C) = (m (c, Proc.tc.devRef main_arg3) : S2x2048.Idx → EReal) (ix2 b C) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise
theorem V_w (d : Fin 2048) (C : Fin 32) : (V m c main_v1 : S2048x128.Idx → EReal) (ix2 d ⟨C.val, by omega⟩) = (m (c, Proc.tc.devRef main_arg4) : S2048x8224.Idx → EReal) (ix2 d ⟨8192 + C.val, by omega⟩) := by
  unfold V V0
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem idxs : ∀ t : Fin grid0.N, win0_0.index t = ![t.val, 0] ∧ win0_1.index t = ![0, 0] ∧ win0_2.index t = ![t.val / 32, 0, 0]
    ∧ win0_3.index t = ![t.val / 32, 0, 0] ∧ win0_4.index t = ![0, 0] ∧ win0_5.index t = ![t.val, 0] := by decide +kernel
theorem t_lt (t : Fin cfg0.N) : t.val < 64 := lt_of_lt_of_eq t.isLt N_0

/-- A row of a point's block, and the batch of the point. -/
abbrev row (t : Fin cfg0.N) (r : Fin 256) : Fin 16384 := ⟨256 * t.val + r.val, by have := t_lt t; omega⟩
abbrev bat (R : Fin 16384) : Fin 2 := ⟨R.val / 8192, by omega⟩

/-- The blocks of a point. -/
theorem blk_x (t : Fin cfg0.N) (r : Fin 256) (d : Fin 2048) : (iblk m c 0 t : S256x2048.Idx → EReal) (ix2 r d)
    = (V m c main_v2 : S16384x2048.Idx → EReal) (ix2 (row t r) d) := by
  have e : (cfg0.win 0).index t = _ := (idxs t).1
  blk_ext [iblk, e]
theorem blk_g (t : Fin cfg0.N) (C : Fin 2048) : (iblk m c 1 t : S1x2048.Idx → EReal) (ix2 0 C) = (V m c main_v3 : S1x2048.Idx → EReal) (ix2 0 C) := by
  have e : (cfg0.win 1).index t = _ := (idxs t).2.1
  blk_ext [iblk, e]
theorem blk_sh (t : Fin cfg0.N) (C : Fin 2048) : (iblk m c 2 t : S1x1x2048.Idx → EReal) (ix3 0 0 C) = (V m c main_v4 : S2x1x2048.Idx → EReal) (ix3 ⟨t.val / 32, by have := t_lt t; omega⟩ 0 C) := by
  have e : (cfg0.win 2).index t = _ := (idxs t).2.2.1
  blk_ext [iblk, e]
theorem blk_sc (t : Fin cfg0.N) (C : Fin 2048) : (iblk m c 3 t : S1x1x2048.Idx → EReal) (ix3 0 0 C) = (V m c main_v5 : S2x1x2048.Idx → EReal) (ix3 ⟨t.val / 32, by have := t_lt t; omega⟩ 0 C) := by
  have e : (cfg0.win 3).index t = _ := (idxs t).2.2.2.1
  blk_ext [iblk, e]
theorem blk_w (t : Fin cfg0.N) (d : Fin 2048) (C : Fin 128) : (iblk m c 4 t : S2048x128.Idx → EReal) (ix2 d C) = (V m c main_v1 : S2048x128.Idx → EReal) (ix2 d C) := by
  have e : (cfg0.win 4).index t = _ := (idxs t).2.2.2.2.1
  blk_ext [iblk, e]

/-- The rows of a block, and the stored block, at an element. -/
theorem rows_at (x : S256x2048.Idx → EReal) (g : S1x2048.Idx → EReal) (sh sc : S1x1x2048.Idx → EReal) (r : Fin 256) (d : Fin 2048) :
    (k0_pay2 (F := 𝕀) x g sh sc : S256x2048.Idx → EReal) (ix2 r d)
      = modu (fun e => x (ix2 r e)) (fun e => g (ix2 0 e)) (fun e => sh (ix3 0 0 e)) (fun e => sc (ix3 0 0 e)) d := by
  unfold modu nrm
  pointwise [k0_pay2]
theorem pay_at (x : S256x2048.Idx → EReal) (g : S1x2048.Idx → EReal) (sh sc : S1x1x2048.Idx → EReal) (w : S2048x128.Idx → EReal) (r : Fin 256) (C : Fin 128) :
    (k0_pay1 (F := 𝕀) (k0_pay6 x g sh sc w) (k0_pay7 x g sh sc w) : S256x128.Idx → EReal) (ix2 r C)
      = sum3 (modu (fun e => x (ix2 r e)) (fun e => g (ix2 0 e)) (fun e => sh (ix3 0 0 e)) (fun e => sc (ix3 0 0 e))) (fun d => w (ix2 d C)) := by
  unfold sum3
  simp only [← rows_at]
  unfold k0_pay1 k0_pay6 k0_pay7 k0_pay4 k0_pay5 k0_pay3
  generalize k0_pay2 (F := 𝕀) x g sh sc = h
  pointwise

theorem covers : (cfg0.win 5).Covers :=
  (cfg0.win 5).covers_of_index_surj rfl (by decide) fun β => by
    have h0 : (β 0).val < 64 := (β 0).isLt
    have h1 : (β 1).val < 1 := (β 1).isLt
    have ht : (β 0).val < cfg0.N := lt_of_lt_of_eq h0 N_0.symm
    refine ⟨⟨_, ht⟩, fun a => ?_⟩
    rw [show (cfg0.win 5).index ⟨_, ht⟩ = _ from (idxs ⟨_, ht⟩).2.2.2.2.2]
    match a with
    | ⟨0, _⟩ => rfl
    | ⟨1, _⟩ => show 0 = (β 1).val; omega

/-- An element of the array the call leaves. -/
def elem (h : Fin 16384 → Fin 2048 → EReal) (w : S2048x128.Idx → EReal) (R : Fin 16384) (C : Fin 128) : EReal := sum3 (h R) fun d => w (ix2 d C)

/-- The rows the arguments hold. -/
abbrev hRows : Fin 16384 → Fin 2048 → EReal :=
  hOf (m (c, Proc.tc.devRef main_arg0)) (m (c, Proc.tc.devRef main_arg1)) (m (c, Proc.tc.devRef main_arg2)) (m (c, Proc.tc.devRef main_arg3))

/-- The block a point stores, at an element. -/
theorem block_at (t : Fin cfg0.N) (r : Fin 256) (C : Fin 128) :
    (out0_5 (F := 𝕀) (iblk m c 0 t) (iblk m c 1 t) (iblk m c 2 t) (iblk m c 3 t) (iblk m c 4 t) : S256x128.Idx → EReal) (ix2 r C)
      = elem (hRows m c) (V m c main_v1) (row t r) C := by
  have eb : bat (row t r) = ⟨t.val / 32, by have := t_lt t; omega⟩ := Fin.ext (by show (256 * t.val + r.val) / 8192 = t.val / 32; omega)
  unfold out0_5 elem
  rw [View.canon_unit_zero (funext fun a => by fin_cases a <;> rfl), View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl), View.ld_unit_zero (funext fun a => by fin_cases a <;> rfl)]
  refine (pay_at _ _ _ _ _ r C).trans (congrArg₂ sum3 (funext fun d => ?_) (funext fun d => blk_w m c t d C))
  unfold hRows hOf
  rw [show (⟨(row t r).val / 8192, by omega⟩ : Fin 2) = _ from eb, funext fun e => (blk_x m c t r e).trans (V_x m c _ e), funext fun e => (blk_g m c t e).trans (V_g m c e),
    funext fun e => (blk_sh m c t e).trans (V_sh m c _ e), funext fun e => (blk_sc m c t e).trans (V_sc m c _ e)]

/-- The array after the run. -/
theorem out_array : (dats m 0 c).arrAt 5 cfg0.N = (fun i : S16384x128.Idx => elem (hRows m c) (V m c main_v1) (i 0) (i 1)) := by
  refine (dats m 0 c).arrAt_eq_of_covers 5 _ covers fun t hf y => ?_
  have e : (cfg0.win 5).index t = _ := (idxs t).2.2.2.2.2
  have ey : y = (ix2 (y 0) (y 1) : S256x128.Idx) := eq_ix2 y
  blk_simp
  rw [after0_5]
  refine (congrArg (out0_5 (F := 𝕀) (iblk m c 0 t) (iblk m c 1 t) (iblk m c 2 t) (iblk m c 3 t) (iblk m c 4 t) : S256x128.Idx → EReal) ey).trans ((block_at m c t (y 0) (y 1)).trans ?_)
  refine congrArg₂ (elem (hRows m c) (V m c main_v1)) (Fin.ext ?_) (Fin.ext ?_) <;> blk_simp [e]
  exact congrArg (· + (y 0).val) (Nat.mul_comm 256 t.val)

/-- An element of the result: a row by one of the last columns of the weights. -/
def gates (h : Fin 16384 → Fin 2048 → EReal) (w : (⟨2, ![2048, 8224]⟩ : Shape).Idx → EReal) (R : Fin 16384) (C : Fin 32) : EReal :=
  ∑ d : Fin 2048, h R d * w (ix2 d ⟨8192 + C.val, by omega⟩)

/-- The result: the first 32 columns of the array the call leaves. -/
theorem tail : Pipeline.afterTail₀ cfgs (dats m) 0 (V0 m) [hostOps1] c main_v7
    = extractStridedSlice S16384x32 ![0, 0] ((dats m 0 c).arrAt 5 cfg0.N : S16384x128.Idx → EReal) slices_S16384x128_S16384x32_0_0 := by
  unfold Pipeline.afterTail₀
  simp only [hostOps1, List.flatten_cons, List.flatten_nil, List.append_nil]
  after_results
  exact congrArg (fun a : S16384x128.Idx → EReal => extractStridedSlice S16384x32 ![0, 0] a slices_S16384x128_S16384x32_0_0)
    (Pipeline.withArrays_arr spec0 (by decide) c (V0 m c) (fun w => (dats m 0 c).arrAt w cfg0.N) 5)

/-- The run, with the array it returns. -/
theorem run_gates (g : Dev nD → PrngReg) : θ_run defs (onTc (τ := τ) (main (F := 𝕀))) ⟨m, fun _ => 0, g⟩ fun r => ∀ c : Dev nD,
      r.2.mem ((c.tc : Thread nD τ).loc main_v7) = extractStridedSlice S16384x32 ![0, 0] ((dats m 0 c).arrAt 5 cfg0.N : S16384x128.Idx → EReal) slices_S16384x128_S16384x32_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_and (run_main m g) (unchanged m g) |> (θ_run defs _ _).mono fun r h c =>
    ⟨((h.1 c).2 main_v7 (Pipeline.mem_restRefs_of main_v7 (by decide) (by decide))).trans (tail m c), h.2 c⟩

/-- The array the program returns, where the gain, the shift, the scale and the last columns of the weights are real. -/
theorem result (hg : ∀ i, IsReal ((m (c, Proc.tc.devRef main_arg1) : S2048.Idx → EReal) i)) (hsh : ∀ i, IsReal ((m (c, Proc.tc.devRef main_arg2) : S2x2048.Idx → EReal) i))
    (hsc : ∀ i, IsReal ((m (c, Proc.tc.devRef main_arg3) : S2x2048.Idx → EReal) i))
    (hw : ∀ (d : Fin 2048) (C : Fin 32), IsReal ((m (c, Proc.tc.devRef main_arg4) : S2048x8224.Idx → EReal) (ix2 d ⟨8192 + C.val, by omega⟩))) :
    extractStridedSlice S16384x32 ![0, 0] ((dats m 0 c).arrAt 5 cfg0.N : S16384x128.Idx → EReal) slices_S16384x128_S16384x32_0_0
      = fun i => gates (hRows m c) (m (c, Proc.tc.devRef main_arg4)) (i 0) (i 1) := by
  rw [out_array]
  have key : ∀ (R : Fin 16384) (C : Fin 32), extractStridedSlice S16384x32 ![0, 0] (fun i : S16384x128.Idx => elem (hRows m c) (V m c main_v1) (i 0) (i 1))
      slices_S16384x128_S16384x32_0_0 (ix2 R C) = elem (hRows m c) (V m c main_v1) R ⟨C.val, by omega⟩ := fun R C => by
    generalize V m c main_v1 = w
    generalize hRows m c = h
    pointwise
  funext i
  rw [eq_ix2 i]
  refine (key (i 0) (i 1)).trans ?_
  unfold elem gates
  rw [funext fun d => V_w m c d (i 1)]
  exact sum3_eq _ _ (fun d => modu_real _ _ _ _ (fun e => hg _) (fun e => hsh _) (fun e => hsc _) d) fun d => hw d (i 1)

end Cert.GateKernelIdeal.Val

namespace Cert.GateReferenceIdeal.Val

open Cert.GateReferenceIdeal Cert.GateReferenceIdeal.Gen Cert.FinalKernelIdeal.Val Cert.GateKernelIdeal.Val
open Cert.InKernelIdeal.Val (hOf)
open Cert.InReferenceIdeal.Val (modded modded_at)
open Idealize.ShloMosaic Idealize.ShloMosaic.TcCoe Idealize.ShloMosaic.Tactic
open Idealize.SL.Sem

local notation "𝕀" => Idealize.ShloMosaic.Ideal

/-- The reference's last columns, its batches stacked. -/
def proj (h : S2x8192x2048.Idx → EReal) (w : S2048x8224.Idx → EReal) : S16384x32.Idx → EReal :=
  shapeCast S16384x32 (extractStridedSlice S2x8192x32 ![0, 0, 8192] (Host.dotGeneral (F := 𝕀) (φ₁ := .f32) (φ₂ := .f32) dot_S2x8192x2048_S2048x8224_S2x8192x8224_2_0_01_1_n_n none h w) slices_S2x8192x8224_S2x8192x32_0_0_8192) shapeCasts_S2x8192x32_S16384x32

theorem proj_at (h : S2x8192x2048.Idx → EReal) (w : S2048x8224.Idx → EReal) (R : Fin 16384) (C : Fin 32) : proj h w (ix2 R C) = gates (rowOf h) w R C := by
  unfold gates rowOf
  pointwise [proj]

/-- The reference's array. -/
theorem ref_array (x : S2x8192x2048.Idx → EReal) (g : S2048.Idx → EReal) (sh sc : S2x2048.Idx → EReal) (w : S2048x8224.Idx → EReal) :
    proj (modded x g sh sc) w = fun i => gates (hOf x g sh sc) w (i 0) (i 1) := by
  funext i
  rw [eq_ix2 i]
  exact (proj_at _ w (i 0) (i 1)).trans (congrArg (fun h => gates h w (i 0) (i 1)) (funext fun R => funext fun d => modded_at x g sh sc R d))

end Cert.GateReferenceIdeal.Val

namespace Cert.Finite.Gate

open Idealize.ShloMosaic Cert.Pre_finite_ab Cert.Pre_finite_ab.Gen Cert.GateKernelIdeal.Val

local notation "𝕀" => Idealize.ShloMosaic.Ideal

/-- What the precondition says: the gain, the shift, the scale and the last columns of the weights are real. -/
theorem entries (x0 : S2x8192x2048.Idx → EReal) (x1 : S2048.Idx → EReal) (x2 x3 : S2x2048.Idx → EReal) (x4 : S2048x8224.Idx → EReal)
    (h : Cert.Pre_finite_ab.fn (F := 𝕀) x0 x1 x2 x3 x4 = fun _ => 1#1) :
    (∀ i, IsReal (x1 i)) ∧ (∀ i, IsReal (x2 i)) ∧ (∀ i, IsReal (x3 i)) ∧ ∀ (d : Fin 2048) (C : Fin 32), IsReal (x4 (ix2 d ⟨8192 + C.val, by omega⟩)) := by
  have e := congrFun h ix0
  unfold Cert.Pre_finite_ab.fn Cert.Pre_finite_ab.fn_part1 at e
  dsimp only at e
  obtain ⟨e, e4⟩ := (andi_one _ _).mp e
  obtain ⟨e, e3⟩ := (andi_one _ _).mp e
  obtain ⟨e1, e2⟩ := (andi_one _ _).mp e
  refine ⟨fun i => real_of_lt x1 _ i (all_of_reduce _ _ (fun _ => rfl) _ _ _ e1 i), fun i => real_of_lt x2 _ i (all_of_reduce _ _ (fun _ => rfl) _ _ _ e2 i),
    fun i => real_of_lt x3 _ i (all_of_reduce _ _ (fun _ => rfl) _ _ _ e3 i), fun d C => ?_⟩
  have r := real_of_lt (extractStridedSlice S2048x32 ![0, 8192] x4 slices_S2048x8224_S2048x32_0_8192) _ (ix2 d C) (all_of_reduce _ _ (fun _ => rfl) _ _ _ e4 _)
  have k : extractStridedSlice S2048x32 ![0, 8192] x4 slices_S2048x8224_S2048x32_0_8192 (ix2 d C) = x4 (ix2 d ⟨8192 + C.val, by omega⟩) := by pointwise
  rwa [k] at r

end Cert.Finite.Gate

namespace Cert.Proof

open Idealize.ShloMosaic Idealize.SL.Sem

/-- The program and the reference return the same array. -/
theorem algebraic_gate : algebraic_GateKernelIdeal_GateReferenceIdeal_pre_finite_ab (hGateKernelIdeal := Cert.GateKernelIdeal.Gen.facts) (hGateReferenceIdeal := Cert.GateReferenceIdeal.Gen.facts) (hPre_finite_ab := Cert.Pre_finite_ab.Gen.facts) := by
  intro m g m' g' hp ha
  refine ⟨_, Cert.GateKernelIdeal.Val.run_gates m g, ?_⟩
  refine (θ_run _ _ _).mono (fun r h c => ⟨(h c).1.trans ?_, (h c).2⟩) (Cert.GateReferenceIdeal.Value.run m' g')
  obtain ⟨a0, a1, a2, a3, a4⟩ := ha c
  obtain ⟨hg, hsh, hsc, hw⟩ := Cert.Finite.Gate.entries _ _ _ _ _ (hp c)
  rw [a0, a1, a2, a3, a4]
  exact (Cert.GateReferenceIdeal.Val.ref_array _ _ _ _ _).trans (Cert.GateKernelIdeal.Val.result m c hg hsh hsc hw).symm

end Cert.Proof

end
-- ==== Proof.lean ====
module

public import proofs.«01_k».proof.Defs
public import proofs.«01_k».proof.Proof.FrameKernel
public import proofs.«01_k».proof.Proof.Frames
public import proofs.«01_k».proof.Proof.Algebraic
public import proofs.«01_k».proof.Proof.FramesLinear
public import proofs.«01_k».proof.Proof.OutValue
public import proofs.«01_k».proof.Proof.FinalValue
public import proofs.«01_k».proof.Proof.InValue
public import proofs.«01_k».proof.Proof.QueryValue
public import proofs.«01_k».proof.Proof.KeyValue
public import proofs.«01_k».proof.Proof.ValValue
public import proofs.«01_k».proof.Proof.RopeValue
public import proofs.«01_k».proof.Proof.ModValue
public import proofs.«01_k».proof.Proof.GateValue
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.FinalKernel
public import proofs.«01_k».proof.Proof.Gen.FinalKernel.Frame
public import proofs.«01_k».proof.Proof.Gen.FinalKernelIdeal
public import proofs.«01_k».proof.Proof.Gen.FinalKernelIdeal.Frame
public import proofs.«01_k».proof.Proof.Gen.FinalKernelIdeal.Value
public import proofs.«01_k».proof.Proof.Gen.FinalReferenceIdeal
public import proofs.«01_k».proof.Proof.Gen.FinalReferenceIdeal.Run
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.QueryKernel
public import proofs.«01_k».proof.Proof.Gen.QueryKernel.Frame
public import proofs.«01_k».proof.Proof.Gen.QueryKernelIdeal
public import proofs.«01_k».proof.Proof.Gen.QueryKernelIdeal.Frame
public import proofs.«01_k».proof.Proof.Gen.QueryKernelIdeal.Value
public import proofs.«01_k».proof.Proof.Gen.QueryReferenceIdeal
public import proofs.«01_k».proof.Proof.Gen.QueryReferenceIdeal.Run
public import proofs.«01_k».proof.Proof.Gen.KeyKernel
public import proofs.«01_k».proof.Proof.Gen.KeyKernel.Frame
public import proofs.«01_k».proof.Proof.Gen.KeyKernelIdeal
public import proofs.«01_k».proof.Proof.Gen.KeyKernelIdeal.Frame
public import proofs.«01_k».proof.Proof.Gen.KeyKernelIdeal.Value
public import proofs.«01_k».proof.Proof.Gen.KeyReferenceIdeal
public import proofs.«01_k».proof.Proof.Gen.KeyReferenceIdeal.Run
public import proofs.«01_k».proof.Proof.Gen.ValKernel
public import proofs.«01_k».proof.Proof.Gen.ValKernel.Frame
public import proofs.«01_k».proof.Proof.Gen.ValKernelIdeal
public import proofs.«01_k».proof.Proof.Gen.ValKernelIdeal.Frame
public import proofs.«01_k».proof.Proof.Gen.ValKernelIdeal.Value
public import proofs.«01_k».proof.Proof.Gen.ValReferenceIdeal
public import proofs.«01_k».proof.Proof.Gen.ValReferenceIdeal.Run
public import proofs.«01_k».proof.Proof.Gen.RopeKernel
public import proofs.«01_k».proof.Proof.Gen.RopeKernel.Frame
public import proofs.«01_k».proof.Proof.Gen.RopeKernelIdeal
public import proofs.«01_k».proof.Proof.Gen.RopeKernelIdeal.Frame
public import proofs.«01_k».proof.Proof.Gen.RopeReferenceIdeal
public import proofs.«01_k».proof.Proof.Gen.RopeReferenceIdeal.Run
public import proofs.«01_k».proof.Proof.Gen.ModKernel
public import proofs.«01_k».proof.Proof.Gen.ModKernel.Frame
public import proofs.«01_k».proof.Proof.Gen.ModKernelIdeal
public import proofs.«01_k».proof.Proof.Gen.ModKernelIdeal.Frame
public import proofs.«01_k».proof.Proof.Gen.ModReferenceIdeal
public import proofs.«01_k».proof.Proof.Gen.ModReferenceIdeal.Run
public import proofs.«01_k».proof.Proof.Gen.Pre_finite_mod
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateReferenceIdeal
public import proofs.«01_k».proof.Proof.Gen.GateReferenceIdeal.Run
public import proofs.«01_k».proof.Proof.Gen.Pre_finite_ab
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.FinalKernel.Gen.facts, Cert.FinalKernelIdeal.Gen.facts, Cert.FinalReferenceIdeal.Gen.facts,
  Cert.InKernel.Gen.facts, Cert.InKernelIdeal.Gen.facts, Cert.InReferenceIdeal.Gen.facts,
  Cert.QueryKernel.Gen.facts, Cert.QueryKernelIdeal.Gen.facts, Cert.QueryReferenceIdeal.Gen.facts,
  Cert.KeyKernel.Gen.facts, Cert.KeyKernelIdeal.Gen.facts, Cert.KeyReferenceIdeal.Gen.facts,
  Cert.ValKernel.Gen.facts, Cert.ValKernelIdeal.Gen.facts, Cert.ValReferenceIdeal.Gen.facts,
  Cert.RopeKernel.Gen.facts, Cert.RopeKernelIdeal.Gen.facts, Cert.RopeReferenceIdeal.Gen.facts,
  Cert.ModKernel.Gen.facts, Cert.ModKernelIdeal.Gen.facts, Cert.ModReferenceIdeal.Gen.facts,
  Cert.GateKernel.Gen.facts, Cert.GateKernelIdeal.Gen.facts, Cert.GateReferenceIdeal.Gen.facts, Cert.Pre_finite.Gen.facts, Cert.Pre_finite_mod.Gen.facts, Cert.Pre_finite_ab.Gen.facts,
  frame_kernel, frame_kernelIdeal, frame_kernelIdeal_pre, frame_reference, frame_reference_pre,
  frame_outKernel, frame_outKernelIdeal, frame_outReference,
  frame_finalKernel, frame_finalKernelIdeal, frame_finalReference,
  frame_inKernel, frame_inKernelIdeal, frame_inReference,
  frame_queryKernel, frame_queryKernelIdeal, frame_queryReference,
  frame_keyKernel, frame_keyKernelIdeal, frame_keyReference,
  frame_valKernel, frame_valKernelIdeal, frame_valReference,
  frame_ropeKernel, frame_ropeKernelIdeal, frame_ropeReference,
  frame_modKernel, frame_modKernelIdeal, frame_modKernelIdeal_pre, frame_modReference, frame_modReference_pre,
  frame_gateKernel, frame_gateKernelIdeal, frame_gateKernelIdeal_pre, frame_gateReference, frame_gateReference_pre,
  trivial, algebraic, trivial, algebraic_out, trivial, algebraic_final, trivial, algebraic_in, preserves_query, algebraic_query,
  trivial, algebraic_key, trivial, algebraic_val, trivial, algebraic_rope, trivial, algebraic_mod, trivial, algebraic_gate⟩

end Cert.Proof

end
